-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v17) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v9)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v9) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v13) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v26_0)) (v1 : (c : Dev Cert.MergeIdeal.nD) → Buf (Elt Ideal) ((c.tc : Thread Cert.MergeIdeal.nD Cert.MergeIdeal.τ).loc Cert.MergeIdeal.main_v26_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v26_0) = v0 c
          ∧ r.2.mem ((c.tc : Thread Cert.MergeIdeal.nD Cert.MergeIdeal.τ).loc Cert.MergeIdeal.main_v26_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v55) = v0 c
          ∧ r.2.mem ((c.tc : Thread Cert.MergeRefIdeal.nD Cert.MergeRefIdeal.τ).loc Cert.MergeRefIdeal.main_v56) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v35_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v35_2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v11) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hGlu : Cert.Glu.Facts) (hGluIdeal : Cert.GluIdeal.Facts) (hGluRefIdeal : Cert.GluRefIdeal.Facts) (hMerge : Cert.Merge.Facts) (hMergeIdeal : Cert.MergeIdeal.Facts) (hMergeRefIdeal : Cert.MergeRefIdeal.Facts) (hQkv : Cert.Qkv.Facts) (hQkvIdeal : Cert.QkvIdeal.Facts) (hQkvRefIdeal : Cert.QkvRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_Glu (hGlu := hGlu)
    ∧ quiescent_GluIdeal (hGluIdeal := hGluIdeal)
    ∧ quiescent_GluRefIdeal (hGluRefIdeal := hGluRefIdeal)
    ∧ quiescent_Merge (hMerge := hMerge)
    ∧ quiescent_MergeIdeal (hMergeIdeal := hMergeIdeal)
    ∧ quiescent_MergeRefIdeal (hMergeRefIdeal := hMergeRefIdeal)
    ∧ quiescent_Qkv (hQkv := hQkv)
    ∧ quiescent_QkvIdeal (hQkvIdeal := hQkvIdeal)
    ∧ quiescent_QkvRefIdeal (hQkvRefIdeal := hQkvRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_Glu_GluIdeal
    ∧ algebraic_GluIdeal_GluRefIdeal (hGluIdeal := hGluIdeal) (hGluRefIdeal := hGluRefIdeal)
    ∧ preserves_Merge_MergeIdeal
    ∧ algebraic_MergeIdeal_MergeRefIdeal (hMergeIdeal := hMergeIdeal) (hMergeRefIdeal := hMergeRefIdeal)
    ∧ preserves_Qkv_QkvIdeal
    ∧ algebraic_QkvIdeal_QkvRefIdeal (hQkvIdeal := hQkvIdeal) (hQkvRefIdeal := hQkvRefIdeal)
-- ==== Pre_finite_qk.lean ====
abbrev S4x4096x8x128 : Shape := ⟨4, ![4, 4096, 8, 128]⟩
abbrev S4x4096x2x128 : Shape := ⟨4, ![4, 4096, 2, 128]⟩
abbrev S128 : Shape := ⟨1, ![128]⟩
abbrev S_ : Shape := ⟨0, ![]⟩

class Facts : Prop where
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  h_S_ : 0 < S_.numel
  bcast_S_S4x4096x2x128 : S_.BroadcastsInDim S4x4096x2x128 (![] : Fin 0 → Fin S4x4096x2x128.rank)
  reducesTo_S4x4096x2x128_S_d0_1_2_3 : S4x4096x2x128.ReducesTo [0, 1, 2, 3] S_

variable [Facts]

def fn {F : FTy → Type} [FloatOps F] (main_arg0 : FVec F S4x4096x8x128 .f32) (main_arg1 : FVec F S4x4096x2x128 .f32) (main_arg2 : FVec F S4x4096x2x128 .f32) (main_arg3 : FVec F S128 .f32) (main_arg4 : FVec F S128 .f32) : IVec S_ 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_c : IVec S_ 1 := constantI S_ 1 1#1
  let main_v3 : IVec S_ 1 := (fun x v => Host.reduce IntOp.andi x v reducesTo_S4x4096x8x128_S_d0_1_2_3 h_S_) main_v2 main_c
  let main_v4 : FVec F S4x4096x2x128 .f32 := Host.absf main_arg1
  let main_cst_0 : FVec F S_ .f32 := constant S_ .f32 0x7F800000#32
  let main_v5 : FVec F S4x4096x2x128 .f32 := broadcastInDim S4x4096x2x128 ![] bcast_S_S4x4096x2x128 main_cst_0
  let main_v6 : IVec S4x4096x2x128 1 := cmpf .olt main_v4 main_v5
  let main_c_1 : IVec S_ 1 := constantI S_ 1 1#1
  let main_v7 : IVec S_ 1 := (fun x v => Host.reduce IntOp.andi x v reducesTo_S4x4096x2x128_S_d0_1_2_3 h_S_) main_v6 main_c_1
  let main_v8 : IVec S_ 1 := andi main_v3 main_v7
  main_v8
-- ==== Kernel.lean ====
abbrev S4x4096x8x128 : Shape := ⟨4, ![4, 4096, 8, 128]⟩
abbrev S4x4096x2x128 : Shape := ⟨4, ![4, 4096, 2, 128]⟩
abbrev S128 : Shape := ⟨1, ![128]⟩
abbrev S_ : Shape := ⟨0, ![]⟩
abbrev S4x4096x1024 : Shape := ⟨3, ![4, 4096, 1024]⟩
abbrev S4x4096x2x1 : Shape := ⟨4, ![4, 4096, 2, 1]⟩
abbrev S4x4096x2x127 : Shape := ⟨4, ![4, 4096, 2, 127]⟩
abbrev S4x4096x2x256 : Shape := ⟨4, ![4, 4096, 2, 256]⟩
abbrev S4x4096x512 : Shape := ⟨3, ![4, 4096, 512]⟩
abbrev S4x4096x2x15 : Shape := ⟨4, ![4, 4096, 2, 15]⟩
abbrev S4x4096x2x144 : Shape := ⟨4, ![4, 4096, 2, 144]⟩
abbrev S4x2x144x4096 : Shape := ⟨4, ![4, 2, 144, 4096]⟩
abbrev S4x288x4096 : Shape := ⟨3, ![4, 288, 4096]⟩
abbrev S1x1 : Shape := ⟨2, ![1, 1]⟩
abbrev S1x1024x512 : Shape := ⟨3, ![1, 1024, 512]⟩
abbrev S1x4096x256 : Shape := ⟨3, ![1, 4096, 256]⟩
abbrev S1x144x4096 : Shape := ⟨3, ![1, 144, 4096]⟩
abbrev S1x1024x128 : Shape := ⟨3, ![1, 1024, 128]⟩
abbrev S1024x128 : Shape := ⟨2, ![1024, 128]⟩
abbrev S4096x128 : Shape := ⟨2, ![4096, 128]⟩
abbrev S1x1x1 : Shape := ⟨3, ![1, 1, 1]⟩
abbrev S1 : Shape := ⟨1, ![1]⟩
abbrev S4096x256 : Shape := ⟨2, ![4096, 256]⟩
abbrev S144x4096 : Shape := ⟨2, ![144, 4096]⟩
abbrev S1x512x256 : Shape := ⟨3, ![1, 512, 256]⟩
abbrev S512x256 : Shape := ⟨2, ![512, 256]⟩
abbrev S1x144x512 : Shape := ⟨3, ![1, 144, 512]⟩
abbrev S144x512 : Shape := ⟨2, ![144, 512]⟩
abbrev S512x4096 : Shape := ⟨2, ![512, 4096]⟩
abbrev S128x4096 : Shape := ⟨2, ![128, 4096]⟩
abbrev S1x4096 : Shape := ⟨2, ![1, 4096]⟩
abbrev S128x1024 : Shape := ⟨2, ![128, 1024]⟩
abbrev S4096 : Shape := ⟨1, ![4096]⟩

abbrev nBuf : Space → Nat
  | .hbm => 41
  | .vmem => 9
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x2x128, .f32⟩
  | .hbm, ⟨2, _⟩ => ⟨S4x4096x2x128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x4096x8x128, .f32⟩
  | .hbm, ⟨23, _⟩ => ⟨S4x4096x8x128, .f32⟩
  | .hbm, ⟨24, _⟩ => ⟨S4x4096x8x128, .bf16⟩
  | .hbm, ⟨25, _⟩ => ⟨S4x4096x1024, .bf16⟩
  | .hbm, ⟨26, _⟩ => ⟨S_, .f32⟩
  | .hbm, ⟨27, _⟩ => ⟨S4x4096x2x1, .f32⟩
  | .hbm, ⟨28, _⟩ => ⟨S_, .f32⟩
  | .hbm, ⟨29, _⟩ => ⟨S4x4096x2x127, .f32⟩
  | .hbm, ⟨30, _⟩ => ⟨S4x4096x2x256, .f32⟩
  | .hbm, ⟨31, _⟩ => ⟨S4x4096x2x256, .bf16⟩
  | .hbm, ⟨32, _⟩ => ⟨S4x4096x512, .bf16⟩
  | .hbm, ⟨33, _⟩ => ⟨S_, .f32⟩
  | .hbm, ⟨34, _⟩ => ⟨S4x4096x2x15, .f32⟩
  | .hbm, ⟨35, _⟩ => ⟨S4x4096x2x144, .f32⟩
  | .hbm, ⟨36, _⟩ => ⟨S4x4096x2x144, .bf16⟩
  | .hbm, ⟨37, _⟩ => ⟨S4x2x144x4096, .bf16⟩
  | .hbm, ⟨38, _⟩ => ⟨S4x288x4096, .bf16⟩
  | .hbm, ⟨39, _⟩ => ⟨S1x1, .f32⟩
  | .hbm, ⟨40, _⟩ => ⟨S4x4096x1024, .bf16⟩
  | .local _ .vmem, ⟨0, _⟩ => ⟨S1x1, .f32⟩
  | .local _ .vmem, ⟨1, _⟩ => ⟨S1x1024x512, .bf16⟩
  | .local _ .vmem, ⟨2, _⟩ => ⟨S1x1024x512, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x144x4096, .bf16⟩
  | .local _ .vmem, ⟨6, _⟩ => ⟨S1x144x4096, .bf16⟩
  | .local _ .vmem, ⟨7, _⟩ => ⟨S1x1024x512, .bf16⟩
  | .local _ .vmem, ⟨8, _⟩ => ⟨S1x1024x512, .bf16⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 4], ![false, false, false]⟩

def k0_mult1 : BitVec 32 :=
  let c0_i32_15 : BitVec 32 := 0#32
  let c512_i32 : BitVec 32 := 512#32
  let v30 : BitVec 32 := Scalar.muli c0_i32_15 c512_i32
  v30
def k0_off1 (c0_i32_15 : BitVec 32) : Fin 3 → Nat :=
  let c0_16 : Index := 0#32
  let c512_i32 : BitVec 32 := 512#32
  let v30 : BitVec 32 := Scalar.muli c0_i32_15 c512_i32
  let v31 : BitVec 32 := v30
  let v32 : Index := Scalar.indexCast v31
  let c0_17 : Index := 0#32
  ![0, v32.toNat, 0]
def k0_off2 (c0_i32_15 : BitVec 32) : Fin 3 → Nat :=
  let c0_18 : Index := 0#32
  let c0_19 : Index := 0#32
  let c512_i32 : BitVec 32 := 512#32
  let v30 : BitVec 32 := Scalar.muli c0_i32_15 c512_i32
  let v31 : BitVec 32 := v30
  let v35 : Index := Scalar.indexCast v31
  ![0, 0, v35.toNat]
def k0_mult2 : BitVec 32 :=
  let c1_i32 : BitVec 32 := 1#32
  let c512_i32_22 : BitVec 32 := 512#32
  let v43 : BitVec 32 := Scalar.muli c1_i32 c512_i32_22
  v43
def k0_mult3 : BitVec 32 :=
  let c2_i32 : BitVec 32 := 2#32
  let c512_i32_29 : BitVec 32 := 512#32
  let v56 : BitVec 32 := Scalar.muli c2_i32 c512_i32_29
  v56
def k0_mult4 : BitVec 32 :=
  let c3_i32 : BitVec 32 := 3#32
  let c512_i32_36 : BitVec 32 := 512#32
  let v69 : BitVec 32 := Scalar.muli c3_i32 c512_i32_36
  v69
def k0_mult5 : BitVec 32 :=
  let c4_i32 : BitVec 32 := 4#32
  let c512_i32_43 : BitVec 32 := 512#32
  let v82 : BitVec 32 := Scalar.muli c4_i32 c512_i32_43
  v82
def k0_mult6 : BitVec 32 :=
  let c5_i32 : BitVec 32 := 5#32
  let c512_i32_50 : BitVec 32 := 512#32
  let v95 : BitVec 32 := Scalar.muli c5_i32 c512_i32_50
  v95
def k0_mult7 : BitVec 32 :=
  let c6_i32 : BitVec 32 := 6#32
  let c512_i32_57 : BitVec 32 := 512#32
  let v108 : BitVec 32 := Scalar.muli c6_i32 c512_i32_57
  v108
def k0_mult8 : BitVec 32 :=
  let c7_i32 : BitVec 32 := 7#32
  let c512_i32_64 : BitVec 32 := 512#32
  let v121 : BitVec 32 := Scalar.muli c7_i32 c512_i32_64
  v121
@[reducible] def k0_t1_loop : Scf.Loop 32 :=
  let c0_i32_15 : BitVec 32 := 0#32
  let c8_i32 : BitVec 32 := 8#32
  let v25 : BitVec 32 := Scalar.addi c0_i32_15 c8_i32
  let c1_i32 : BitVec 32 := 1#32
  ⟨c0_i32_15, v25, c1_i32⟩
def k0_mult9 (k0_t1 : Fin k0_t1_loop.trips) : BitVec 32 :=
  let c0_i32_15 : BitVec 32 := 0#32
  let c1_i32 : BitVec 32 := 1#32
  let arg8 : BitVec 32 := Scf.iv c0_i32_15 c1_i32 k0_t1
  let c512_i32 : BitVec 32 := 512#32
  let v55 : BitVec 32 := Scalar.muli arg8 c512_i32
  v55
def k0_off3 (k0_t1 : Fin k0_t1_loop.trips) : Fin 3 → Nat :=
  let c0_29 : Index := 0#32
  let c0_i32_15 : BitVec 32 := 0#32
  let c1_i32 : BitVec 32 := 1#32
  let arg8 : BitVec 32 := Scf.iv c0_i32_15 c1_i32 k0_t1
  let c512_i32 : BitVec 32 := 512#32
  let v55 : BitVec 32 := Scalar.muli arg8 c512_i32
  let v56 : BitVec 32 := v55
  let v57 : Index := Scalar.indexCast v56
  let c0_30 : Index := 0#32
  ![0, v57.toNat, 0]
def k0_off4 (k0_t1 : Fin k0_t1_loop.trips) : Fin 3 → Nat :=
  let c0_31 : Index := 0#32
  let c0_32 : Index := 0#32
  let c0_i32_15 : BitVec 32 := 0#32
  let c1_i32 : BitVec 32 := 1#32
  let arg8 : BitVec 32 := Scf.iv c0_i32_15 c1_i32 k0_t1
  let c512_i32 : BitVec 32 := 512#32
  let v55 : BitVec 32 := Scalar.muli arg8 c512_i32
  let v56 : BitVec 32 := v55
  let v60 : Index := Scalar.indexCast v56
  ![0, 0, v60.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x144x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x4096x8x128 : Shape := ⟨4, ![4, 4096, 8, 128]⟩
abbrev S4x4096x2x128 : Shape := ⟨4, ![4, 4096, 2, 128]⟩
abbrev S128 : Shape := ⟨1, ![128]⟩
abbrev S_ : Shape := ⟨0, ![]⟩
abbrev S4x4096x2x4x128 : Shape := ⟨5, ![4, 4096, 2, 4, 128]⟩
abbrev S4x2x4096x4096x4 : Shape := ⟨5, ![4, 2, 4096, 4096, 4]⟩
abbrev S4x2x4x4096x4096 : Shape := ⟨5, ![4, 2, 4, 4096, 4096]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S4x4096x1024 : Shape := ⟨3, ![4, 4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x2x128, .f32⟩
  | .hbm, ⟨2, _⟩ => ⟨S4x4096x2x128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096x2x4x128, .f32⟩
  | .hbm, ⟨10, _⟩ => ⟨S4x2x4096x4096x4, .f32⟩
  | .hbm, ⟨11, _⟩ => ⟨S4x2x4x4096x4096, .f32⟩
  | .hbm, ⟨12, _⟩ => ⟨S4x2x4x4096x4096, .f32⟩
  | .hbm, ⟨13, _⟩ => ⟨S4x2x4x4096x4096, .f32⟩
  | .hbm, ⟨14, _⟩ => ⟨S_, .f32⟩
  | .hbm, ⟨15, _⟩ => ⟨S4x2x4x4096, .f32⟩
  | .hbm, ⟨16, _⟩ => ⟨S_, .f32⟩
  | .hbm, ⟨17, _⟩ => ⟨S4x2x4x4096, .f32⟩
  | .hbm, ⟨18, _⟩ => ⟨S4x2x4x4096, .f32⟩
  | .hbm, ⟨19, _⟩ => ⟨S4x2x4x4096x1, .f32⟩
  | .hbm, ⟨20, _⟩ => ⟨S4x2x4x4096x4096, .f32⟩
  | .hbm, ⟨21, _⟩ => ⟨S4x2x4x4096x4096, .f32⟩
  | .hbm, ⟨22, _⟩ => ⟨S4x2x4x4096x4096, .f32⟩
  | .hbm, ⟨23, _⟩ => ⟨S_, .f32⟩
  | .hbm, ⟨24, _⟩ => ⟨S4x2x4x4096, .f32⟩
  | .hbm, ⟨25, _⟩ => ⟨S4x2x4x4096x1, .f32⟩
  | .hbm, ⟨26, _⟩ => ⟨S4x2x4x4096x4096, .f32⟩
  | .hbm, ⟨27, _⟩ => ⟨S4x2x4x4096x4096, .f32⟩
  | .hbm, ⟨28, _⟩ => ⟨S4x2x128x4x4096, .f32⟩
  | .hbm, ⟨29, _⟩ => ⟨S4x4096x2x4x128, .f32⟩
  | .hbm, ⟨30, _⟩ => ⟨S4x4096x1024, .f32⟩
  | .hbm, ⟨31, _⟩ => ⟨S4x4096x1024, .bf16⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Ffn.lean ====
abbrev S4x16x512x1024 : Shape := ⟨4, ![4, 16, 512, 1024]⟩
abbrev S4x16x512 : Shape := ⟨3, ![4, 16, 512]⟩
abbrev S4x16x1024x2048 : Shape := ⟨4, ![4, 16, 1024, 2048]⟩
abbrev S4x16x2048x1024 : Shape := ⟨4, ![4, 16, 2048, 1024]⟩
abbrev S4x16x512x1 : Shape := ⟨4, ![4, 16, 512, 1]⟩
abbrev S4x1x512x1024 : Shape := ⟨4, ![4, 1, 512, 1024]⟩
abbrev S4x1x512x1 : Shape := ⟨4, ![4, 1, 512, 1]⟩
abbrev S1x1x1024x512 : Shape := ⟨4, ![1, 1, 1024, 512]⟩
abbrev S1x1x512x1024 : Shape := ⟨4, ![1, 1, 512, 1024]⟩
abbrev S4x512x1024 : Shape := ⟨3, ![4, 512, 1024]⟩
abbrev S1024x512 : Shape := ⟨2, ![1024, 512]⟩
abbrev S512x1024 : Shape := ⟨2, ![512, 1024]⟩
abbrev S512x512 : Shape := ⟨2, ![512, 512]⟩
abbrev S1x512x1024 : Shape := ⟨3, ![1, 512, 1024]⟩
abbrev S4x512x1 : Shape := ⟨3, ![4, 512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4x16x512x1024, .f32⟩
  | .hbm, ⟨1, _⟩ => ⟨S4x16x512, .f32⟩
  | .hbm, ⟨2, _⟩ => ⟨S4x16x1024x2048, .f32⟩
  | .hbm, ⟨3, _⟩ => ⟨S4x16x1024x2048, .f32⟩
  | .hbm, ⟨4, _⟩ => ⟨S4x16x2048x1024, .f32⟩
  | .hbm, ⟨5, _⟩ => ⟨S4x16x512x1024, .bf16⟩
  | .hbm, ⟨6, _⟩ => ⟨S4x16x512x1, .f32⟩
  | .hbm, ⟨7, _⟩ => ⟨S4x16x512x1024, .bf16⟩
  | .local _ .vmem, ⟨0, _⟩ => ⟨S4x1x512x1024, .bf16⟩
  | .local _ .vmem, ⟨1, _⟩ => ⟨S4x1x512x1024, .bf16⟩
  | .local _ .vmem, ⟨2, _⟩ => ⟨S4x1x512x1, .f32⟩
  | .local _ .vmem, ⟨3, _⟩ => ⟨S4x1x512x1, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x1024x512, .f32⟩
  | .local _ .vmem, ⟨7, _⟩ => ⟨S1x1x1024x512, .f32⟩
  | .local _ .vmem, ⟨8, _⟩ => ⟨S1x1x512x1024, .f32⟩
  | .local _ .vmem, ⟨9, _⟩ => ⟨S1x1x512x1024, .f32⟩
  | .local _ .vmem, ⟨10, _⟩ => ⟨S4x1x512x1024, .bf16⟩
  | .local _ .vmem, ⟨11, _⟩ => ⟨S4x1x512x1024, .bf16⟩
  | .local _ .vmem, ⟨12, _⟩ => ⟨S4x512x1024, .f32⟩
  | _, _ => ⟨S4x16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c3_i32 : BitVec 32 := 3#32
  let v105 : BitVec 1 := Scalar.cmpi .eq arg1 c3_i32
  let v106 : BitVec 32 := Scalar.extui v105
  let c0_i32_78 : BitVec 32 := 0#32
  let v107 : BitVec 1 := Scalar.cmpi .ne v106 c0_i32_78
  v107

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S4x16x512x1024 : Shape := ⟨4, ![4, 16, 512, 1024]⟩
abbrev S4x16x512 : Shape := ⟨3, ![4, 16, 512]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S16x2048x4x512 : Shape := ⟨4, ![16, 2048, 4, 512]⟩
abbrev S4x16x512x2048 : Shape := ⟨4, ![4, 16, 512, 2048]⟩
abbrev S_ : Shape := ⟨0, ![]⟩
abbrev S1x16x2048x1024 : Shape := ⟨4, ![1, 16, 2048, 1024]⟩
abbrev S16x2048x1024 : Shape := ⟨3, ![16, 2048, 1024]⟩
abbrev S16x1024x4x512 : Shape := ⟨4, ![16, 1024, 4, 512]⟩
abbrev S4x16x512x1 : Shape := ⟨4, ![4, 16, 512, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x16x512x1024, .f32⟩
  | .hbm, ⟨1, _⟩ => ⟨S4x16x512, .f32⟩
  | .hbm, ⟨2, _⟩ => ⟨S4x16x1024x2048, .f32⟩
  | .hbm, ⟨3, _⟩ => ⟨S4x16x1024x2048, .f32⟩
  | .hbm, ⟨4, _⟩ => ⟨S4x16x2048x1024, .f32⟩
  | .hbm, ⟨5, _⟩ => ⟨S1x16x1024x2048, .f32⟩
  | .hbm, ⟨6, _⟩ => ⟨S16x1024x2048, .f32⟩
  | .hbm, ⟨7, _⟩ => ⟨S16x2048x4x512, .f32⟩
  | .hbm, ⟨8, _⟩ => ⟨S4x16x512x2048, .f32⟩
  | .hbm, ⟨9, _⟩ => ⟨S4x16x512x2048, .f32⟩
  | .hbm, ⟨10, _⟩ => ⟨S4x16x512x2048, .f32⟩
  | .hbm, ⟨11, _⟩ => ⟨S_, .f32⟩
  | .hbm, ⟨12, _⟩ => ⟨S4x16x512x2048, .f32⟩
  | .hbm, ⟨13, _⟩ => ⟨S4x16x512x2048, .f32⟩
  | .hbm, ⟨14, _⟩ => ⟨S_, .f32⟩
  | .hbm, ⟨15, _⟩ => ⟨S4x16x512x2048, .f32⟩
  | .hbm, ⟨16, _⟩ => ⟨S4x16x512x2048, .f32⟩
  | .hbm, ⟨17, _⟩ => ⟨S4x16x512x2048, .f32⟩
  | .hbm, ⟨18, _⟩ => ⟨S1x16x1024x2048, .f32⟩
  | .hbm, ⟨19, _⟩ => ⟨S16x1024x2048, .f32⟩
  | .hbm, ⟨20, _⟩ => ⟨S16x2048x4x512, .f32⟩
  | .hbm, ⟨21, _⟩ => ⟨S4x16x512x2048, .f32⟩
  | .hbm, ⟨22, _⟩ => ⟨S4x16x512x2048, .f32⟩
  | .hbm, ⟨23, _⟩ => ⟨S1x16x2048x1024, .f32⟩
  | .hbm, ⟨24, _⟩ => ⟨S16x2048x1024, .f32⟩
  | .hbm, ⟨25, _⟩ => ⟨S16x1024x4x512, .f32⟩
  | .hbm, ⟨26, _⟩ => ⟨S4x16x512x1024, .f32⟩
  | .hbm, ⟨27, _⟩ => ⟨S4x16x512x1, .f32⟩
  | .hbm, ⟨28, _⟩ => ⟨S4x16x512x1024, .f32⟩
  | .hbm, ⟨29, _⟩ => ⟨S4x16x512x1024, .f32⟩
  | .hbm, ⟨30, _⟩ => ⟨S4x16x512x1024, .bf16⟩
  | _, _ => ⟨S4x16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Glu.lean ====
abbrev S4x4096x1024 : Shape := ⟨3, ![4, 4096, 1024]⟩
abbrev S1024x5632 : Shape := ⟨2, ![1024, 5632]⟩
abbrev S5632 : Shape := ⟨1, ![5632]⟩
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 13
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024x5632, .f32⟩
  | .hbm, ⟨2, _⟩ => ⟨S5632, .f32⟩
  | .hbm, ⟨3, _⟩ => ⟨S1024x5632, .bf16⟩
  | .hbm, ⟨4, _⟩ => ⟨S4x4096x1024, .bf16⟩
  | .hbm, ⟨5, _⟩ => ⟨S16384x1024, .bf16⟩
  | .hbm, ⟨6, _⟩ => ⟨S1024x1024, .bf16⟩
  | .hbm, ⟨7, _⟩ => ⟨S1024x1024, .bf16⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluRefIdeal.lean ====
abbrev S4x4096x1024 : Shape := ⟨3, ![4, 4096, 1024]⟩
abbrev S1024x5632 : Shape := ⟨2, ![1024, 5632]⟩
abbrev S5632 : Shape := ⟨1, ![5632]⟩
abbrev S4x4096x5632 : Shape := ⟨3, ![4, 4096, 5632]⟩
abbrev S1x1x5632 : Shape := ⟨3, ![1, 1, 5632]⟩
abbrev S_ : Shape := ⟨0, ![]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x5632, .f32⟩
  | .hbm, ⟨2, _⟩ => ⟨S5632, .f32⟩
  | .hbm, ⟨3, _⟩ => ⟨S4x4096x5632, .f32⟩
  | .hbm, ⟨4, _⟩ => ⟨S1x1x5632, .f32⟩
  | .hbm, ⟨5, _⟩ => ⟨S4x4096x5632, .f32⟩
  | .hbm, ⟨6, _⟩ => ⟨S4x4096x5632, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Merge.lean ====
abbrev S4x4096x1024 : Shape := ⟨3, ![4, 4096, 1024]⟩
abbrev S1024x5632 : Shape := ⟨2, ![1024, 5632]⟩
abbrev S5632 : Shape := ⟨1, ![5632]⟩
abbrev S1024x1024 : Shape := ⟨2, ![1024, 1024]⟩
abbrev S1024 : Shape := ⟨1, ![1024]⟩
abbrev S1024x16 : Shape := ⟨2, ![1024, 16]⟩
abbrev S1024x32 : Shape := ⟨2, ![1024, 32]⟩
abbrev S_ : Shape := ⟨0, ![]⟩
abbrev S1024x128 : Shape := ⟨2, ![1024, 128]⟩
abbrev S16384x1024 : Shape := ⟨2, ![16384, 1024]⟩
abbrev S1x1024 : Shape := ⟨2, ![1, 1024]⟩
abbrev S16384x128 : Shape := ⟨2, ![16384, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S512x128 : Shape := ⟨2, ![512, 128]⟩

abbrev nBuf : Space → Nat
  | .hbm => 44
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x5632, .f32⟩
  | .hbm, ⟨4, _⟩ => ⟨S5632, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x16, .f32⟩
  | .hbm, ⟨13, _⟩ => ⟨S1024x16, .bf16⟩
  | .hbm, ⟨14, _⟩ => ⟨S1024x16, .f32⟩
  | .hbm, ⟨15, _⟩ => ⟨S1024x16, .f32⟩
  | .hbm, ⟨16, _⟩ => ⟨S1024x16, .bf16⟩
  | .hbm, ⟨17, _⟩ => ⟨S1024x32, .bf16⟩
  | .hbm, ⟨18, _⟩ => ⟨S_, .i32⟩
  | .hbm, ⟨19, _⟩ => ⟨S_, .bf16⟩
  | .hbm, ⟨20, _⟩ => ⟨S1024x128, .bf16⟩
  | .hbm, ⟨21, _⟩ => ⟨S1024x5632, .bf16⟩
  | .hbm, ⟨22, _⟩ => ⟨S16384x1024, .f32⟩
  | .hbm, ⟨23, _⟩ => ⟨S16384x1024, .bf16⟩
  | .hbm, ⟨24, _⟩ => ⟨S4x4096x1024, .bf16⟩
  | .hbm, ⟨25, _⟩ => ⟨S16384x1024, .bf16⟩
  | .hbm, ⟨26, _⟩ => ⟨S4x4096x1024, .bf16⟩
  | .hbm, ⟨27, _⟩ => ⟨S16384x1024, .bf16⟩
  | .hbm, ⟨28, _⟩ => ⟨S1024x1024, .bf16⟩
  | .hbm, ⟨29, _⟩ => ⟨S1024x1024, .bf16⟩
  | .hbm, ⟨30, _⟩ => ⟨S1024x1024, .bf16⟩
  | .hbm, ⟨31, _⟩ => ⟨S1024x1024, .bf16⟩
  | .hbm, ⟨32, _⟩ => ⟨S1024x1024, .bf16⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S16384x1024, .f32⟩
  | .hbm, ⟨42, _⟩ => ⟨S16384x1024, .bf16⟩
  | .hbm, ⟨43, _⟩ => ⟨S16384x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1024x128, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x128, .f32⟩
  | .local _ .vmem, ⟨25, _⟩ => ⟨S256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MergeRefIdeal.lean ====
abbrev S4x4096x1024 : Shape := ⟨3, ![4, 4096, 1024]⟩
abbrev S1024x5632 : Shape := ⟨2, ![1024, 5632]⟩
abbrev S5632 : Shape := ⟨1, ![5632]⟩
abbrev S1024x1024 : Shape := ⟨2, ![1024, 1024]⟩
abbrev S1024 : Shape := ⟨1, ![1024]⟩
abbrev S1024x16 : Shape := ⟨2, ![1024, 16]⟩
abbrev S4x4096x5632 : Shape := ⟨3, ![4, 4096, 5632]⟩
abbrev S1x1x5632 : Shape := ⟨3, ![1, 1, 5632]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S16384x1024 : Shape := ⟨2, ![16384, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x5632, .f32⟩
  | .hbm, ⟨4, _⟩ => ⟨S5632, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x16, .f32⟩
  | .hbm, ⟨13, _⟩ => ⟨S4x4096x5632, .f32⟩
  | .hbm, ⟨14, _⟩ => ⟨S1x1x5632, .f32⟩
  | .hbm, ⟨15, _⟩ => ⟨S4x4096x5632, .f32⟩
  | .hbm, ⟨16, _⟩ => ⟨S4x4096x5632, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S_, .f32⟩
  | .hbm, ⟨52, _⟩ => ⟨S4x4096, .f32⟩
  | .hbm, ⟨53, _⟩ => ⟨S4x4096x1, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S4x4096x1, .f32⟩
  | .hbm, ⟨70, _⟩ => ⟨S4x4096x1024, .f32⟩
  | .hbm, ⟨71, _⟩ => ⟨S4x4096x1024, .f32⟩
  | .hbm, ⟨72, _⟩ => ⟨S1x1x1024, .f32⟩
  | .hbm, ⟨73, _⟩ => ⟨S4x4096x1024, .f32⟩
  | .hbm, ⟨74, _⟩ => ⟨S4x4096x1024, .f32⟩
  | .hbm, ⟨75, _⟩ => ⟨S1x1x1024, .f32⟩
  | .hbm, ⟨76, _⟩ => ⟨S4x4096x1024, .f32⟩
  | .hbm, ⟨77, _⟩ => ⟨S4x4096x1024, .f32⟩
  | .hbm, ⟨78, _⟩ => ⟨S16384x1024, .f32⟩
  | .hbm, ⟨79, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Qkv.lean ====
abbrev S4x4096x1024 : Shape := ⟨3, ![4, 4096, 1024]⟩
abbrev S1024x5632 : Shape := ⟨2, ![1024, 5632]⟩
abbrev S5632 : Shape := ⟨1, ![5632]⟩
abbrev S128 : Shape := ⟨1, ![128]⟩
abbrev S4096x64 : Shape := ⟨2, ![4096, 64]⟩
abbrev S4096x128 : Shape := ⟨2, ![4096, 128]⟩
abbrev S16384x1024 : Shape := ⟨2, ![16384, 1024]⟩
abbrev S1024x1024 : Shape := ⟨2, ![1024, 1024]⟩
abbrev S1024x8x64x2 : Shape := ⟨4, ![1024, 8, 64, 2]⟩
abbrev S1024x8x2x64 : Shape := ⟨4, ![1024, 8, 2, 64]⟩
abbrev S1024x256 : Shape := ⟨2, ![1024, 256]⟩
abbrev S1024x2x64x2 : Shape := ⟨4, ![1024, 2, 64, 2]⟩
abbrev S1024x2x2x64 : Shape := ⟨4, ![1024, 2, 2, 64]⟩
abbrev S1024 : Shape := ⟨1, ![1024]⟩
abbrev S8x64x2 : Shape := ⟨3, ![8, 64, 2]⟩
abbrev S8x2x64 : Shape := ⟨3, ![8, 2, 64]⟩
abbrev S256 : Shape := ⟨1, ![256]⟩
abbrev S2x64x2 : Shape := ⟨3, ![2, 64, 2]⟩
abbrev S2x2x64 : Shape := ⟨3, ![2, 2, 64]⟩
abbrev S1x64x2 : Shape := ⟨3, ![1, 64, 2]⟩
abbrev S1x2x64 : Shape := ⟨3, ![1, 2, 64]⟩
abbrev S1x1024 : Shape := ⟨2, ![1, 1024]⟩
abbrev S1x256 : Shape := ⟨2, ![1, 256]⟩
abbrev S1x128 : Shape := ⟨2, ![1, 128]⟩
abbrev S16384x512 : Shape := ⟨2, ![16384, 512]⟩
abbrev S4x288x4096 : Shape := ⟨3, ![4, 288, 4096]⟩
abbrev S256x1024 : Shape := ⟨2, ![256, 1024]⟩
abbrev S256x128 : Shape := ⟨2, ![256, 128]⟩
abbrev S256x512 : Shape := ⟨2, ![256, 512]⟩
abbrev S1x288x256 : Shape := ⟨3, ![1, 288, 256]⟩
abbrev S256x256 : Shape := ⟨2, ![256, 256]⟩
abbrev S256x1 : Shape := ⟨2, ![256, 1]⟩
abbrev S16x256 : Shape := ⟨2, ![16, 256]⟩
abbrev S128x256 : Shape := ⟨2, ![128, 256]⟩
abbrev S1x128x256 : Shape := ⟨3, ![1, 128, 256]⟩
abbrev S1x16x256 : Shape := ⟨3, ![1, 16, 256]⟩

abbrev nBuf : Space → Nat
  | .hbm => 45
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1024x5632, .f32⟩
  | .hbm, ⟨2, _⟩ => ⟨S5632, .f32⟩
  | .hbm, ⟨3, _⟩ => ⟨S128, .f32⟩
  | .hbm, ⟨4, _⟩ => ⟨S128, .f32⟩
  | .hbm, ⟨5, _⟩ => ⟨S4096x64, .f32⟩
  | .hbm, ⟨6, _⟩ => ⟨S4096x64, .f32⟩
  | .hbm, ⟨7, _⟩ => ⟨S1024x5632, .bf16⟩
  | .hbm, ⟨8, _⟩ => ⟨S4096x128, .f32⟩
  | .hbm, ⟨9, _⟩ => ⟨S4096x64, .f32⟩
  | .hbm, ⟨10, _⟩ => ⟨S4096x128, .f32⟩
  | .hbm, ⟨11, _⟩ => ⟨S4x4096x1024, .bf16⟩
  | .hbm, ⟨12, _⟩ => ⟨S16384x1024, .bf16⟩
  | .hbm, ⟨13, _⟩ => ⟨S1024x1024, .bf16⟩
  | .hbm, ⟨14, _⟩ => ⟨S1024x8x64x2, .bf16⟩
  | .hbm, ⟨15, _⟩ => ⟨S1024x8x2x64, .bf16⟩
  | .hbm, ⟨16, _⟩ => ⟨S1024x1024, .bf16⟩
  | .hbm, ⟨17, _⟩ => ⟨S1024x256, .bf16⟩
  | .hbm, ⟨18, _⟩ => ⟨S1024x2x64x2, .bf16⟩
  | .hbm, ⟨19, _⟩ => ⟨S1024x2x2x64, .bf16⟩
  | .hbm, ⟨20, _⟩ => ⟨S1024x256, .bf16⟩
  | .hbm, ⟨21, _⟩ => ⟨S1024x256, .bf16⟩
  | .hbm, ⟨22, _⟩ => ⟨S1024, .f32⟩
  | .hbm, ⟨23, _⟩ => ⟨S8x64x2, .f32⟩
  | .hbm, ⟨24, _⟩ => ⟨S8x2x64, .f32⟩
  | .hbm, ⟨25, _⟩ => ⟨S1024, .f32⟩
  | .hbm, ⟨26, _⟩ => ⟨S256, .f32⟩
  | .hbm, ⟨27, _⟩ => ⟨S2x64x2, .f32⟩
  | .hbm, ⟨28, _⟩ => ⟨S2x2x64, .f32⟩
  | .hbm, ⟨29, _⟩ => ⟨S256, .f32⟩
  | .hbm, ⟨30, _⟩ => ⟨S256, .f32⟩
  | .hbm, ⟨31, _⟩ => ⟨S1x64x2, .f32⟩
  | .hbm, ⟨32, _⟩ => ⟨S1x2x64, .f32⟩
  | .hbm, ⟨33, _⟩ => ⟨S128, .f32⟩
  | .hbm, ⟨34, _⟩ => ⟨S1x64x2, .f32⟩
  | .hbm, ⟨35, _⟩ => ⟨S1x2x64, .f32⟩
  | .hbm, ⟨36, _⟩ => ⟨S128, .f32⟩
  | .hbm, ⟨37, _⟩ => ⟨S1x1024, .f32⟩
  | .hbm, ⟨38, _⟩ => ⟨S1x256, .f32⟩
  | .hbm, ⟨39, _⟩ => ⟨S1x256, .f32⟩
  | .hbm, ⟨40, _⟩ => ⟨S1x128, .f32⟩
  | .hbm, ⟨41, _⟩ => ⟨S1x128, .f32⟩
  | .hbm, ⟨42, _⟩ => ⟨S16384x1024, .bf16⟩
  | .hbm, ⟨43, _⟩ => ⟨S16384x512, .bf16⟩
  | .hbm, ⟨44, _⟩ => ⟨S4x288x4096, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x256, .bf16⟩
  | .local _ .vmem, ⟨4, _⟩ => ⟨S1024x256, .bf16⟩
  | .local _ .vmem, ⟨5, _⟩ => ⟨S1x1024, .f32⟩
  | .local _ .vmem, ⟨6, _⟩ => ⟨S1x256, .f32⟩
  | .local _ .vmem, ⟨7, _⟩ => ⟨S1x256, .f32⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x1024, .bf16⟩
  | .local _ .vmem, ⟨19, _⟩ => ⟨S256x1024, .bf16⟩
  | .local _ .vmem, ⟨20, _⟩ => ⟨S256x512, .bf16⟩
  | .local _ .vmem, ⟨21, _⟩ => ⟨S256x512, .bf16⟩
  | .local _ .vmem, ⟨22, _⟩ => ⟨S1x288x256, .bf16⟩
  | .local _ .vmem, ⟨23, _⟩ => ⟨S1x288x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x288x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== QkvRefIdeal.lean ====
abbrev S4x4096x1024 : Shape := ⟨3, ![4, 4096, 1024]⟩
abbrev S1024x5632 : Shape := ⟨2, ![1024, 5632]⟩
abbrev S5632 : Shape := ⟨1, ![5632]⟩
abbrev S128 : Shape := ⟨1, ![128]⟩
abbrev S4096x64 : Shape := ⟨2, ![4096, 64]⟩
abbrev S4x4096x5632 : Shape := ⟨3, ![4, 4096, 5632]⟩
abbrev S1x1x5632 : Shape := ⟨3, ![1, 1, 5632]⟩
abbrev S4x4096x256 : Shape := ⟨3, ![4, 4096, 256]⟩
abbrev S4x4096x2x128 : Shape := ⟨4, ![4, 4096, 2, 128]⟩
abbrev S_ : Shape := ⟨0, ![]⟩
abbrev S4x4096x2x1 : Shape := ⟨4, ![4, 4096, 2, 1]⟩
abbrev S4x4096x2x15 : Shape := ⟨4, ![4, 4096, 2, 15]⟩
abbrev S4x4096x2x144 : Shape := ⟨4, ![4, 4096, 2, 144]⟩
abbrev S4x2x144x4096 : Shape := ⟨4, ![4, 2, 144, 4096]⟩
abbrev S4x288x4096 : Shape := ⟨3, ![4, 288, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x5632, .f32⟩
  | .hbm, ⟨2, _⟩ => ⟨S5632, .f32⟩
  | .hbm, ⟨3, _⟩ => ⟨S128, .f32⟩
  | .hbm, ⟨4, _⟩ => ⟨S128, .f32⟩
  | .hbm, ⟨5, _⟩ => ⟨S4096x64, .f32⟩
  | .hbm, ⟨6, _⟩ => ⟨S4096x64, .f32⟩
  | .hbm, ⟨7, _⟩ => ⟨S4x4096x5632, .f32⟩
  | .hbm, ⟨8, _⟩ => ⟨S1x1x5632, .f32⟩
  | .hbm, ⟨9, _⟩ => ⟨S4x4096x5632, .f32⟩
  | .hbm, ⟨10, _⟩ => ⟨S4x4096x5632, .f32⟩
  | .hbm, ⟨11, _⟩ => ⟨S4x4096x256, .f32⟩
  | .hbm, ⟨12, _⟩ => ⟨S4x4096x2x128, .f32⟩
  | .hbm, ⟨13, _⟩ => ⟨S_, .f32⟩
  | .hbm, ⟨14, _⟩ => ⟨S4x4096x2x1, .f32⟩
  | .hbm, ⟨15, _⟩ => ⟨S_, .f32⟩
  | .hbm, ⟨16, _⟩ => ⟨S4x4096x2x15, .f32⟩
  | .hbm, ⟨17, _⟩ => ⟨S4x4096x2x144, .f32⟩
  | .hbm, ⟨18, _⟩ => ⟨S4x2x144x4096, .f32⟩
  | .hbm, ⟨19, _⟩ => ⟨S4x288x4096, .f32⟩
  | .hbm, ⟨20, _⟩ => ⟨S4x288x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Proof.Attn.Body.lean ====
/-
  The attention kernel's body as a triple, at any values: on staging buffers holding the shift, the queries, the keys
  and the values it leaves in the output block the rows `out` of them, by cases on the branch it takes (the fixed shift,
  or the running maximum).
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The rectangles the body reads and writes -/

abbrev rS : Rect S1x1 := Rect.unit (s := S1x1) ![0, 0] S1x1.size inb_S1x1_S1x1_0_0
abbrev rQ0 : Rect S1x1024x512 := Rect.unit (s := S1x1024x512) ![0, 0, 0] S1x1024x128.size inb_S1x1024x512_S1x1024x128_0_0_0
abbrev rQ1 : Rect S1x1024x512 := Rect.unit (s := S1x1024x512) ![0, 0, 128] S1x1024x128.size inb_S1x1024x512_S1x1024x128_0_0_128
abbrev rQ2 : Rect S1x1024x512 := Rect.unit (s := S1x1024x512) ![0, 0, 256] S1x1024x128.size inb_S1x1024x512_S1x1024x128_0_0_256
abbrev rQ3 : Rect S1x1024x512 := Rect.unit (s := S1x1024x512) ![0, 0, 384] S1x1024x128.size inb_S1x1024x512_S1x1024x128_0_0_384
/-- Chunk `j` of the keys and of the values, as the unrolled loop addresses them. -/
abbrev rK (j : Fin 8) : Rect S1x4096x256 := Rect.unit (s := S1x4096x256) (k0_off1 (BitVec.ofNat 32 j.val)) S1x512x256.size (k0_off1_inb j)
abbrev rV (j : Fin 8) : Rect S1x144x4096 := Rect.unit (s := S1x144x4096) (k0_off2 (BitVec.ofNat 32 j.val)) S1x144x512.size (k0_off2_inb j)
/-- The same chunks as the counted loop addresses them. -/
abbrev rKl (k : Fin k0_t1_loop.trips) : Rect S1x4096x256 := Rect.unit (s := S1x4096x256) (k0_off3 k) S1x512x256.size (k0_off3_inb k)
abbrev rVl (k : Fin k0_t1_loop.trips) : Rect S1x144x4096 := Rect.unit (s := S1x144x4096) (k0_off4 k) S1x144x512.size (k0_off4_inb k)

/-! ## What the body computes -/

/-- The four query groups stacked. -/
def q4 (x1 : Vec F S1x1024x512 .bf16) : FVec F S4096x128 .bf16 :=
  k0_pay1 (View.ld x1 rQ0) (View.ld x1 rQ1) (View.ld x1 rQ2) (View.ld x1 rQ3)

/-- The branch's condition: the shift is at most 60. -/
def cond (x0 : Vec F S1x1 .f32) : Prop :=
  Scalar.cmpi .ne (Scalar.extui (Scalar.cmpf .ole (k0_pay4 (View.ld x0 rS)) (Scalar.ofBits .f32 0x42700000#32))) 0#32 = 1#1

/-- The fixed-shift branch's queries, widened by the shift's column, -/
def qaF (x0 : Vec F S1x1 .f32) (x1 : Vec F S1x1024x512 .bf16) : FVec F S4096x256 .bf16 :=
  k0_pay20 (q4 x1) (k0_pay2 (View.ld x0 rS)) k0_pay3

/-- and its sums over the eight chunks. -/
def accF (x0 : Vec F S1x1 .f32) (x1 : Vec F S1x1024x512 .bf16) (x2 : Vec F S1x4096x256 .bf16) (x3 : Vec F S1x144x4096 .bf16) : FVec F S144x4096 .f32 :=
  k0_pay23 (qaF x0 x1)
    (k0_pay22 (qaF x0 x1)
      (k0_pay21 (q4 x1) (k0_pay2 (View.ld x0 rS)) k0_pay3 (View.ld x2 (rK 0)) (View.ld x3 (rV 0)) (View.ld x2 (rK 1)) (View.ld x3 (rV 1)))
      (View.ld x2 (rK 2)) (View.ld x3 (rV 2)) (View.ld x2 (rK 3)) (View.ld x3 (rV 3)) (View.ld x2 (rK 4)) (View.ld x3 (rV 4)))
    (View.ld x2 (rK 5)) (View.ld x3 (rV 5)) (View.ld x2 (rK 6)) (View.ld x3 (rV 6)) (View.ld x2 (rK 7)) (View.ld x3 (rV 7))

/-- One trip of the running-maximum loop. -/
def stepM (x1 : Vec F S1x1024x512 .bf16) (x2 : Vec F S1x4096x256 .bf16) (x3 : Vec F S1x144x4096 .bf16) (k : Fin k0_t1_loop.trips)
    (s : FVec F S1x4096 .f32 × FVec F S144x4096 .f32) : FVec F S1x4096 .f32 × FVec F S144x4096 .f32 :=
  (k0_pay13 (View.ld x1 rQ0) (View.ld x1 rQ1) (View.ld x1 rQ2) (View.ld x1 rQ3) s.1 (View.ld x2 (rKl k)),
    k0_pay14 (View.ld x1 rQ0) (View.ld x1 rQ1) (View.ld x1 rQ2) (View.ld x1 rQ3) s.1 s.2 (View.ld x2 (rKl k)) (View.ld x3 (rVl k)))

/-- The running maximum and the sums before trip `k`. -/
def stM (x1 : Vec F S1x1024x512 .bf16) (x2 : Vec F S1x4096x256 .bf16) (x3 : Vec F S1x144x4096 .bf16) : ℕ → FVec F S1x4096 .f32 × FVec F S144x4096 .f32
  | 0 => (k0_pay10, k0_pay11)
  | k + 1 => if h : k < k0_t1_loop.trips then stepM x1 x2 x3 ⟨k, h⟩ (stM x1 x2 x3 k) else stM x1 x2 x3 k

/-- The output block of the fixed-shift branch, -/
def outF (x0 : Vec F S1x1 .f32) (x1 : Vec F S1x1024x512 .bf16) (x2 : Vec F S1x4096x256 .bf16) (x3 : Vec F S1x144x4096 .bf16) : Vec F S1x1024x512 .bf16 :=
  View.canon [⟨rQ3, k0_pay9 (accF x0 x1 x2 x3)⟩, ⟨rQ2, k0_pay8 (accF x0 x1 x2 x3)⟩, ⟨rQ1, k0_pay7 (accF x0 x1 x2 x3)⟩, ⟨rQ0, k0_pay6 (accF x0 x1 x2 x3)⟩]

/-- of the running-maximum branch, -/
def outM (x1 : Vec F S1x1024x512 .bf16) (x2 : Vec F S1x4096x256 .bf16) (x3 : Vec F S1x144x4096 .bf16) : Vec F S1x1024x512 .bf16 :=
  View.canon [⟨rQ3, k0_pay19 (stM x1 x2 x3 k0_t1_loop.trips).2⟩, ⟨rQ2, k0_pay18 (stM x1 x2 x3 k0_t1_loop.trips).2⟩,
    ⟨rQ1, k0_pay17 (stM x1 x2 x3 k0_t1_loop.trips).2⟩, ⟨rQ0, k0_pay16 (stM x1 x2 x3 k0_t1_loop.trips).2⟩]

open Classical in
/-- and of the body. -/
def out (x0 : Vec F S1x1 .f32) (x1 : Vec F S1x1024x512 .bf16) (x2 : Vec F S1x4096x256 .bf16) (x3 : Vec F S1x144x4096 .bf16) : Vec F S1x1024x512 .bf16 :=
  if cond x0 then outF x0 x1 x2 x3 else outM x1 x2 x3

/-- Four stores of 128 lanes tile the output block. -/
theorem cover4 (p0 p1 p2 p3 : Vec F S1x1024x128 .bf16) (y : S1x1024x512.Idx) :
    ∃ pc ∈ ([⟨rQ3, p3⟩, ⟨rQ2, p2⟩, ⟨rQ1, p1⟩, ⟨rQ0, p0⟩] : List (View.Piece (Elt F) S1x1024x512 .bf16)), y ∈ pc.1.set :=
  View.cover_of_tiled [⟨rQ3, p3⟩, ⟨rQ2, p2⟩, ⟨rQ1, p1⟩, ⟨rQ0, p0⟩] S1x1024x128.size (by rfl) y

/-! ## The loop's state -/

section Loop
variable (𝒱 : Variants) (c : Dev nD) (bd : Option 𝒱.V) (i : grid0.Coords) (arg3 : Memref sig .tc .vmem S1x1 .f32) (harg3 : arg3.IsWhole)
  (arg4 : Memref sig .tc .vmem S1x1024x512 .bf16) (harg4 : arg4.IsWhole) (arg5 : Memref sig .tc .vmem S1x4096x256 .bf16) (harg5 : arg5.IsWhole)
  (arg6 : Memref sig .tc .vmem S1x144x4096 .bf16) (harg6 : arg6.IsWhole) (arg7 : Memref sig .tc .vmem S1x1024x512 .bf16) (harg7 : arg7.IsWhole)

/-- A trip's result, named. -/
theorem trip_eq (x1 : Vec F S1x1024x512 .bf16) (f5 : BufTy.Contents (Elt F) arg5.view.ty) (f6 : BufTy.Contents (Elt F) arg6.view.ty) (k : Fin k0_t1_loop.trips)
    (s : FVec F S1x4096 .f32 × FVec F S144x4096 .f32) :
    tripR_k0_t1 (F := F) 𝒱 c bd i arg3 harg3 arg4 harg4 arg5 harg5 arg6 harg6 arg7 harg7
        (View.ld x1 rQ0) (View.ld x1 rQ1) (View.ld x1 rQ2) (View.ld x1 rQ3) f5 f6 k s
      = stepM x1 (arg5.view.read (Elt F) f5) (arg6.view.read (Elt F) f6) k s := by
  unfold tripR_k0_t1 trip_k0_t1
  rfl

/-- The state before trip `k`, named. -/
theorem st_eq (x1 : Vec F S1x1024x512 .bf16) (f5 : BufTy.Contents (Elt F) arg5.view.ty) (f6 : BufTy.Contents (Elt F) arg6.view.ty) (k : ℕ) (hk : k ≤ k0_t1_loop.trips) :
    st_k0_t1 (F := F) 𝒱 c bd i arg3 harg3 arg4 harg4 arg5 harg5 arg6 harg6 arg7 harg7
        (View.ld x1 rQ0) (View.ld x1 rQ1) (View.ld x1 rQ2) (View.ld x1 rQ3) f5 f6 (k0_pay10, k0_pay11) k
      = stM x1 (arg5.view.read (Elt F) f5) (arg6.view.read (Elt F) f6) k := by
  induction k with
  | zero => rfl
  | succ k ih =>
    have h := st_k0_t1_succ (F := F) 𝒱 c bd i arg3 harg3 arg4 harg4 arg5 harg5 arg6 harg6 arg7 harg7
        (View.ld x1 rQ0) (View.ld x1 rQ1) (View.ld x1 rQ2) (View.ld x1 rQ3) f5 f6 (k0_pay10, k0_pay11) ⟨k, hk⟩
    rw [h, trip_eq, ih (Nat.le_of_succ_le hk)]
    rw [stM, dif_pos (Nat.lt_of_succ_le hk)]
end Loop

/-! ## The body's triple, by branch -/

set_option maxHeartbeats 800000 in
/-- At a shift of at most 60 the body leaves `outF`. -/
theorem sound_fixed (c : Dev nD) (E : Set ℕ) (i : grid0.Coords) (arg3 : Memref sig .tc .vmem S1x1 .f32) (harg3 : arg3.IsWhole)
    (arg4 : Memref sig .tc .vmem S1x1024x512 .bf16) (harg4 : arg4.IsWhole) (arg5 : Memref sig .tc .vmem S1x4096x256 .bf16) (harg5 : arg5.IsWhole)
    (arg6 : Memref sig .tc .vmem S1x144x4096 .bf16) (harg6 : arg6.IsWhole) (arg7 : Memref sig .tc .vmem S1x1024x512 .bf16) (harg7 : arg7.IsWhole)
    (x0 : Vec F S1x1 .f32) (x1 : Vec F S1x1024x512 .bf16) (x2 : Vec F S1x4096x256 .bf16) (x3 : Vec F S1x144x4096 .bf16) (hc : cond x0) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (outF x0 x1 x2 x3)) -∗ K ⟨⟩))
      ⊢ wp frame (wpE (defs₀ (F := F)) Variants.none c none) E (cc0_attn i arg3 harg3 arg4 harg4 arg5 harg5 arg6 harg6 arg7 harg7) K := by
  simp only [cc0_attn_eq_skeleton]; unfold cc0_attn_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  unfold cond at hc
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _ _ _ _)

set_option maxHeartbeats 800000 in
/-- Above it the body leaves `outM`. -/
theorem sound_running (c : Dev nD) (E : Set ℕ) (i : grid0.Coords) (arg3 : Memref sig .tc .vmem S1x1 .f32) (harg3 : arg3.IsWhole)
    (arg4 : Memref sig .tc .vmem S1x1024x512 .bf16) (harg4 : arg4.IsWhole) (arg5 : Memref sig .tc .vmem S1x4096x256 .bf16) (harg5 : arg5.IsWhole)
    (arg6 : Memref sig .tc .vmem S1x144x4096 .bf16) (harg6 : arg6.IsWhole) (arg7 : Memref sig .tc .vmem S1x1024x512 .bf16) (harg7 : arg7.IsWhole)
    (x0 : Vec F S1x1 .f32) (x1 : Vec F S1x1024x512 .bf16) (x2 : Vec F S1x4096x256 .bf16) (x3 : Vec F S1x144x4096 .bf16) (hc : ¬ cond x0) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (outM x1 x2 x3)) -∗ K ⟨⟩))
      ⊢ wp frame (wpE (defs₀ (F := F)) Variants.none c none) E (cc0_attn i arg3 harg3 arg4 harg4 arg5 harg5 arg6 harg6 arg7 harg7) K := by
  simp only [cc0_attn_eq_skeleton]; unfold cc0_attn_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  unfold cond at hc
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold outM
  rw [← st_eq Variants.none c none i arg3 harg3 arg4 harg4 arg5 harg5 arg6 harg6 arg7 harg7 (arg4.view.read (Elt F) f1) f2 f3 k0_t1_loop.trips le_rfl]
  exact View.read_writes_eq_canon _ _ _ (cover4 _ _ _ _)

/-- The body leaves `out`. -/
theorem sound_kernel (c : Dev nD) (E : Set ℕ) (i : grid0.Coords) (arg3 : Memref sig .tc .vmem S1x1 .f32) (harg3 : arg3.IsWhole)
    (arg4 : Memref sig .tc .vmem S1x1024x512 .bf16) (harg4 : arg4.IsWhole) (arg5 : Memref sig .tc .vmem S1x4096x256 .bf16) (harg5 : arg5.IsWhole)
    (arg6 : Memref sig .tc .vmem S1x144x4096 .bf16) (harg6 : arg6.IsWhole) (arg7 : Memref sig .tc .vmem S1x1024x512 .bf16) (harg7 : arg7.IsWhole)
    (x0 : Vec F S1x1 .f32) (x1 : Vec F S1x1024x512 .bf16) (x2 : Vec F S1x4096x256 .bf16) (x3 : Vec F S1x144x4096 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out x0 x1 x2 x3)) -∗ K ⟨⟩))
      ⊢ wp frame (wpE (defs₀ (F := F)) Variants.none c none) E (cc0_attn i arg3 harg3 arg4 harg4 arg5 harg5 arg6 harg6 arg7 harg7) K := by
  by_cases hc : cond x0
  · rw [show out x0 x1 x2 x3 = outF x0 x1 x2 x3 from if_pos hc]
    exact sound_fixed c E i arg3 harg3 arg4 harg4 arg5 harg5 arg6 harg6 arg7 harg7 x0 x1 x2 x3 hc K
  · rw [show out x0 x1 x2 x3 = outM x1 x2 x3 from if_neg hc]
    exact sound_running c E i arg3 harg3 arg4 harg4 arg5 harg5 arg6 harg6 arg7 harg7 x0 x1 x2 x3 hc K

end Cert.KernelIdeal.Attn

end
-- ==== Proof.Attn.Run.lean ====
/-
  The attention kernel's run, at any values: its body's triple (Body.lean) at every grid point gives the launch, the frame,
  and what the output array holds at the end.
-/
module

public import proofs.«01_k».proof.Proof.Attn.Body
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: each array as the region finds it; after a point the four inputs' buffers hold their blocks and the
    output's the rows of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = out (iblk m c 0 t) (iblk m c 1 t) (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
set_option maxHeartbeats 800000 in
/-- The launch, with every semaphore counter at zero at every final state. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution terminates with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_main_quiescent m ρ))

end Cert.KernelIdeal.Attn

end
-- ==== Proof.Frames.lean ====
/-
  The frames: every program terminates with its arguments unchanged and every semaphore counter at zero.
  The attention's kernel and its idealization have one text, so one run serves both.
-/
module

public import proofs.«01_k».proof.Defs
public import proofs.«01_k».proof.Proof.Gen.Kernel
public import proofs.«01_k».proof.Proof.Gen.ReferenceIdeal.Run
public import proofs.«01_k».proof.Proof.Gen.FfnRefIdeal.Run
public import proofs.«01_k».proof.Proof.Gen.GluRefIdeal.Run
public import proofs.«01_k».proof.Proof.Gen.MergeRefIdeal.Run
public import proofs.«01_k».proof.Proof.Gen.QkvRefIdeal.Run
public import proofs.«01_k».proof.Proof.Attn.Run
public import Idealize.ShloMosaic.Lib.Pipeline.Quiescent

@[expose] public section

noncomputable section

namespace Cert.Proof

open Idealize.ShloMosaic Idealize.SL.Sem

/-- The two programs' bodies are one. -/
theorem defs₀_eq : Cert.Kernel.defs₀ (F := Bits) = Cert.KernelIdeal.defs₀ (F := Bits) :=
  funext fun p => match p with
    | .tc => funext fun ℓ => match ℓ with
      | ⟨0, _⟩ => funext fun ⟨_, _⟩ => rfl
      | ⟨_ + 1, h⟩ => absurd h (Nat.not_lt.2 (Nat.le_add_left _ _))
    | .scScalar _ => rfl
    | .scVector _ _ => rfl

theorem defs_eq : Cert.Kernel.defs (F := Bits) = Cert.KernelIdeal.defs (F := Bits) :=
  congrArg (Pipeline.defs Cert.Kernel.pcfgs) defs₀_eq

theorem frame_kernel : Cert.quiescent_Kernel := fun m ρ _ => by
  have h := Cert.KernelIdeal.Attn.frame (F := Bits) m ρ
  rw [← defs_eq] at h
  exact h

theorem frame_kernelIdeal : Cert.quiescent_KernelIdeal := fun m ρ _ => Cert.KernelIdeal.Attn.frame m ρ

theorem frame_kernelRef : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_ffnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run m ρ)

theorem frame_gluRef : Cert.quiescent_GluRefIdeal := fun m ρ _ =>
  (θ_run Cert.GluRefIdeal.defs _ _).mono (fun r h => ⟨fun c => (h c).2, sem_eq_zero_of_no_sems (by decide) r.2⟩)
    (Cert.GluRefIdeal.Value.run m ρ)

theorem frame_mergeRef : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run m ρ)

theorem frame_qkvRef : Cert.quiescent_QkvRefIdeal := fun m ρ _ =>
  (θ_run Cert.QkvRefIdeal.defs _ _).mono (fun r h => ⟨fun c => (h c).2, sem_eq_zero_of_no_sems (by decide) r.2⟩)
    (Cert.QkvRefIdeal.Value.run m ρ)

end Cert.Proof

end
-- ==== Proof.Attn.Math.lean ====
/-
  The arithmetic of attention over the extended reals: a quotient of weighted sums is the softmax mixture, whatever
  common factor the weights carry.
-/
module

public import Idealize.ShloMosaic.Lib.IdealHost
public import Mathlib.Analysis.SpecialFunctions.Pow.Real
public import Mathlib.Data.EReal.Operations

@[expose] public section

noncomputable section

namespace Cert.KernelIdeal.Attn.Val

open Idealize.ShloMosaic

/-- A sum of extended reals times a nonnegative real is the sum of the products. -/
theorem sum_mul_coe {ι : Type*} (s : Finset ι) (f : ι → EReal) {a : ℝ} (ha : 0 ≤ a) :
    (∑ j ∈ s, f j) * (a : EReal) = ∑ j ∈ s, f j * (a : EReal) := by
  classical
  induction s using Finset.induction_on with
  | empty => simp
  | insert j s hj ih =>
    rw [Finset.sum_insert hj, Finset.sum_insert hj, ← ih]
    exact EReal.right_distrib_of_nonneg_of_ne_top (by exact_mod_cast ha) (EReal.coe_ne_top a) _ _

/-- A sum of reals, in the extended reals. -/
theorem coe_sum {ι : Type*} (s : Finset ι) (w : ι → ℝ) : ∑ j ∈ s, ((w j : ℝ) : EReal) = ((∑ j ∈ s, w j : ℝ) : EReal) := by
  classical
  induction s using Finset.induction_on with
  | empty => simp
  | insert j s hj ih => rw [Finset.sum_insert hj, Finset.sum_insert hj, ih, EReal.coe_add]

/-- The softmax mixture: values `v` averaged with the weights `2 ^ s`. -/
def mix {ι : Type*} [Fintype ι] (s : ι → ℝ) (v : ι → EReal) : EReal :=
  ∑ j, v j * (((2 : ℝ) ^ s j / ∑ i, (2 : ℝ) ^ s i : ℝ) : EReal)

section
variable {ι : Type*} [Fintype ι] [Nonempty ι] {s w : ι → ℝ} {a : ℝ}

theorem weight_pos (ha : 0 < a) (hw : ∀ j, w j = a * (2 : ℝ) ^ s j) : 0 < ∑ j, w j :=
  Finset.sum_pos (fun j _ => by rw [hw]; exact mul_pos ha (Real.rpow_pos_of_pos (by norm_num) _)) Finset.univ_nonempty

theorem weight_div (ha : 0 < a) (hw : ∀ j, w j = a * (2 : ℝ) ^ s j) (j : ι) :
    w j / ∑ i, w i = (2 : ℝ) ^ s j / ∑ i, (2 : ℝ) ^ s i := by
  have h : ∑ i, w i = a * ∑ i, (2 : ℝ) ^ s i := by rw [Finset.mul_sum]; exact Finset.sum_congr rfl fun i _ => hw i
  rw [h, hw]
  exact mul_div_mul_left _ _ ha.ne'

/-- Weighted sums divided by the weights' sum (itself a weighted sum of ones): the mixture. -/
theorem div_eq_mix (v : ι → EReal) (ha : 0 < a) (hw : ∀ j, w j = a * (2 : ℝ) ^ s j) :
    Ideal.div (∑ j, v j * (w j : EReal)) (∑ j, 1 * (w j : EReal)) = mix s v := by
  have hp := weight_pos ha hw
  simp only [one_mul]
  rw [coe_sum, Ideal.div_coe hp.ne', sum_mul_coe _ _ (by positivity)]
  refine Finset.sum_congr rfl fun j _ => ?_
  rw [mul_assoc, ← EReal.coe_mul, mul_one_div, weight_div ha hw]

/-- Weights divided by their sum, and then the mixture. -/
theorem mix_eq_sum (v : ι → EReal) (ha : 0 < a) (hw : ∀ j, w j = a * (2 : ℝ) ^ s j) :
    ∑ j, v j * Ideal.div (w j : EReal) (0 + ∑ i, (w i : EReal)) = mix s v := by
  have hp := weight_pos ha hw
  refine Finset.sum_congr rfl fun j _ => ?_
  rw [zero_add, coe_sum, Ideal.div_coe hp.ne', ← EReal.coe_mul, mul_one_div, weight_div ha hw]

end

/-- The maximum of reals, taken from `⊥` over a nonempty index, is a real. -/
theorem fold_max_real {n : ℕ} (hn : 0 < n) (f : Fin n → EReal) (hf : ∀ k, ∃ r : ℝ, f k = r) :
    ∃ r : ℝ, (Finset.univ : Finset (Fin n)).fold max ⊥ f = r := by
  show ∃ r : ℝ, Finset.univ.sup f = r
  obtain ⟨k, -, hk⟩ := Finset.exists_mem_eq_sup Finset.univ ⟨⟨0, hn⟩, Finset.mem_univ _⟩ f
  rw [hk]; exact hf k

/-- The maximum of nonnegative values, taken from `⊥` over a nonempty index, is nonnegative. -/
theorem fold_max_nonneg {n : ℕ} (hn : 0 < n) (f : Fin n → EReal) (hf : ∀ k, 0 ≤ f k) :
    0 ≤ (Finset.univ : Finset (Fin n)).fold max ⊥ f := by
  show 0 ≤ Finset.univ.sup f
  exact (hf ⟨0, hn⟩).trans (Finset.le_sup (Finset.mem_univ _))

/-- One more chunk of 512 terms. -/
theorem sum_chunk (f : ℕ → EReal) (k : ℕ) :
    ∑ n ∈ Finset.range (512 * k), f n + ∑ j : Fin 512, f (512 * k + j.val) = ∑ n ∈ Finset.range (512 * (k + 1)), f n := by
  rw [Nat.mul_add, Nat.mul_one, Finset.sum_range_add, Finset.sum_range fun x => f (512 * k + x)]

/-- The running maximum's step: what was summed against the old maximum `m` is rescaled to the new one. -/
theorem rescale (V : ℕ → EReal) (s : ℕ → ℝ) (N : ℕ) (m m' : ℝ) :
    Ideal.exp2 ((m : EReal) - (m' : EReal)) * ∑ n ∈ Finset.range N, V n * (((2 : ℝ) ^ (s n - m) : ℝ) : EReal)
      = ∑ n ∈ Finset.range N, V n * (((2 : ℝ) ^ (s n - m') : ℝ) : EReal) := by
  rw [← EReal.coe_sub, Ideal.exp2_coe, mul_comm,
    sum_mul_coe _ _ (a := Real.rpow 2 (m - m')) (Real.rpow_nonneg (by norm_num) _)]
  refine Finset.sum_congr rfl fun n _ => ?_
  rw [mul_assoc, ← EReal.coe_mul]
  congr 2
  show (2 : ℝ) ^ (s n - m) * (2 : ℝ) ^ (m - m') = _
  rw [← Real.rpow_add (by norm_num)]
  congr 1; ring

end Cert.KernelIdeal.Attn.Val

end
-- ==== Proof.Attn.Payload.lean ====
/-
  The attention kernel's computations read at an index, over the reals.
-/
module

public import proofs.«01_k».proof.Proof.Attn.Body
public import proofs.«01_k».proof.Proof.Attn.Math
public import Idealize.ShloMosaic.Lib.MatmulPlain
public import Idealize.ShloMosaic.Lib.ValueIdx
public import Idealize.ShloMosaic.Lib.IdealHost
public import Idealize.ShloMosaic.Lib.WordCmp
public import Idealize.ShloMosaic.Lib.Pipeline.ValueKit.Tiles

@[expose] public section

noncomputable section

namespace Cert.KernelIdeal.Attn.Val

open Cert.KernelIdeal Cert.KernelIdeal.Gen Cert.KernelIdeal.Attn
open Idealize.ShloMosaic Idealize.ShloMosaic.ValueIdx

/-- The scores of a chunk of keys against every query row. -/
def scores (qa : FVec Ideal S4096x256 .bf16) (K : Vec Ideal S1x512x256 .bf16) : FVec Ideal S512x4096 .f32 :=
  matmul (φ₁ := .bf16) (φ₂ := .bf16) dot_S512x256_S4096x256_S512x4096_1_1_0_0_n_n none (shapeCast S512x256 K shapeCasts_S1x512x256_S512x256) qa (constant S512x4096 .f32 0x00000000#32)

/-- A chunk's values summed with the given weights. -/
def sums (V : Vec Ideal S1x144x512 .bf16) (p : FVec Ideal S512x4096 .bf16) : FVec Ideal S144x4096 .f32 :=
  matmul (φ₁ := .bf16) (φ₂ := .bf16) dot_S144x512_S512x4096_S144x4096_1_0_0_1_n_n none (shapeCast S144x512 V shapeCasts_S1x144x512_S144x512) p (constant S144x4096 .f32 0x00000000#32)

theorem scores_apply (qa : FVec Ideal S4096x256 .bf16) (K : Vec Ideal S1x512x256 .bf16) (j : Fin 512) (c : Fin 4096) :
    scores qa K (ix2 j c) = ∑ d : Fin 256, K (ix3 0 j d) * qa (ix2 c d) := by
  unfold scores
  refine (Ideal.matmul_transposedRhs_apply (φ₁ := .bf16) (φ₂ := .bf16) none _ qa _ j c).trans ?_
  rw [show (constant S512x4096 .f32 0x00000000#32 : FVec Ideal S512x4096 .f32) (ix2 j c) = 0 from Ideal.ofBits_zero_f32, zero_add]
  refine Finset.sum_congr rfl fun d _ => congrArg (· * _) ?_
  refine shapeCast_apply K _ (ix2 j d) (ix3 0 j d) ?_
  rewrite [Shape.rowMajor_val_three, Shape.rowMajor_val_two]
  show (0 * 512 + j.val) * 256 + d.val = j.val * 256 + d.val
  omega

theorem sums_apply (V : Vec Ideal S1x144x512 .bf16) (p : FVec Ideal S512x4096 .bf16) (r : Fin 144) (c : Fin 4096) :
    sums V p (ix2 r c) = ∑ j : Fin 512, V (ix3 0 r j) * p (ix2 j c) := by
  unfold sums
  refine (Ideal.matmul_plain_apply (φ₁ := .bf16) (φ₂ := .bf16) none _ p _ r c).trans ?_
  rw [show (constant S144x4096 .f32 0x00000000#32 : FVec Ideal S144x4096 .f32) (ix2 r c) = 0 from Ideal.ofBits_zero_f32, zero_add]
  refine Finset.sum_congr rfl fun j _ => congrArg (· * _) ?_
  refine shapeCast_apply V _ (ix2 r j) (ix3 0 r j) ?_
  rewrite [Shape.rowMajor_val_three, Shape.rowMajor_val_two]
  show (0 * 144 + r.val) * 512 + j.val = r.val * 512 + j.val
  omega

/-! ## The stacked queries -/

theorem row_apply (x1 : Vec Ideal S1x1024x512 .bf16) (o : ℕ) (inb : ∀ a, (![0, 0, o] : Fin 3 → ℕ) a + S1x1024x128.size a ≤ S1x1024x512.size a)
    (t : Fin 1024) (d : Fin 128) (e : Fin 512) (he : e.val = o + d.val) :
    shapeCast S1024x128 (View.ld x1 (Rect.unit (s := S1x1024x512) ![0, 0, o] S1x1024x128.size inb) : Vec Ideal S1x1024x128 .bf16)
      shapeCasts_S1x1024x128_S1024x128 (ix2 t d) = x1 (ix3 0 t e) := by
  refine (shapeCast_apply _ _ (ix2 t d) (ix3 0 t d) ?_).trans ?_
  · rewrite [Shape.rowMajor_val_three, Shape.rowMajor_val_two]
    show (0 * 1024 + t.val) * 128 + d.val = t.val * 128 + d.val
    omega
  · refine View.ld_unit_apply_of x1 _ _ _ _ _ fun a => ?_
    match a with
    | ⟨0, _⟩ => rfl
    | ⟨1, _⟩ => exact (Nat.zero_add _).symm
    | ⟨2, _⟩ => exact he

/-- Row `g * 1024 + t` of four stacked arrays is row `t` of array `g`. -/
theorem stack_apply (p : Fin 4 → FVec Ideal S1024x128 .bf16) (g : Fin 4) (t : Fin 1024) (d : Fin 128) (c : Fin 4096) (hc : c.val = g.val * 1024 + t.val) :
    concatenate S4096x128 0 [⟨S1024x128, p 0⟩, ⟨S1024x128, p 1⟩, ⟨S1024x128, p 2⟩, ⟨S1024x128, p 3⟩]
      concatenates_S1024x128_S1024x128_S1024x128_S1024x128_S4096x128_d0 (ix2 c d) = p g (ix2 t d) :=
  concatenate_ofFn_apply (t := S4096x128) (s₁ := S1024x128) 0 p concatenates_S1024x128_S1024x128_S1024x128_S1024x128_S4096x128_d0 rfl 1024 rfl (ix2 c d) g
    (by show c.val / 1024 = g.val; omega) (ix2 t d) (by show t.val = c.val % 1024; omega)
    (fun b hb => match b with | ⟨0, _⟩ => absurd rfl hb | ⟨1, _⟩ => rfl)

/-- Row `g * 1024 + t` of the stacked queries is row `t` of group `g`. -/
theorem q4_apply (x1 : Vec Ideal S1x1024x512 .bf16) (g : Fin 4) (t : Fin 1024) (d : Fin 128) (c : Fin 4096) (hc : c.val = g.val * 1024 + t.val)
    (e : Fin 512) (he : e.val = g.val * 128 + d.val) :
    q4 x1 (ix2 c d) = x1 (ix3 0 t e) := by
  refine (stack_apply (fun g => match g with
    | 0 => shapeCast S1024x128 (View.ld x1 rQ0 : Vec Ideal S1x1024x128 .bf16) shapeCasts_S1x1024x128_S1024x128
    | 1 => shapeCast S1024x128 (View.ld x1 rQ1 : Vec Ideal S1x1024x128 .bf16) shapeCasts_S1x1024x128_S1024x128
    | 2 => shapeCast S1024x128 (View.ld x1 rQ2 : Vec Ideal S1x1024x128 .bf16) shapeCasts_S1x1024x128_S1024x128
    | 3 => shapeCast S1024x128 (View.ld x1 rQ3 : Vec Ideal S1x1024x128 .bf16) shapeCasts_S1x1024x128_S1024x128) g t d c hc).trans ?_
  clear hc
  match g, he with
  | ⟨0, _⟩, he => exact row_apply x1 0 _ t d e (by simpa using he)
  | ⟨1, _⟩, he => exact row_apply x1 128 _ t d e (by simpa using he)
  | ⟨2, _⟩, he => exact row_apply x1 256 _ t d e (by simpa using he)
  | ⟨3, _⟩, he => exact row_apply x1 384 _ t d e (by simpa using he)

/-- A sum over 256 lanes whose upper half is one term at lane 128. -/
theorem sum_lanes (f : Fin 256 → EReal) (z : EReal) (h128 : f ⟨128, by omega⟩ = z) (h0 : ∀ d : Fin 256, 128 < d.val → f d = 0) :
    ∑ d : Fin 256, f d = ∑ d : Fin 128, f ⟨d.val, by omega⟩ + z := by
  refine (Fin.sum_univ_add (a := 128) (b := 128) f).trans ?_
  refine congrArg₂ (· + ·) rfl ?_
  rw [Fin.sum_univ_succ (n := 127)]
  rw [Finset.sum_eq_zero fun d _ => h0 _ (by show 128 < 128 + (d.val + 1); omega), add_zero]
  exact h128

/-! ## The widened queries -/

theorem wide_low (q z : FVec Ideal S4096x128 .bf16) (c : Fin 4096) (d : Fin 128) :
    concatenate S4096x256 1 [⟨S4096x128, q⟩, ⟨S4096x128, z⟩] concatenates_S4096x128_S4096x128_S4096x256_d1 (ix2 c ⟨d.val, by omega⟩) = q (ix2 c d) :=
  concatenate_pair_apply_left (t := S4096x256) 1 q z _ _ rfl (ix2 c d) fun b => match b with | ⟨0, _⟩ => rfl | ⟨1, _⟩ => rfl

theorem wide_high (q z : FVec Ideal S4096x128 .bf16) (c : Fin 4096) (d : Fin 128) (e : Fin 256) (he : e.val = d.val + 128) :
    concatenate S4096x256 1 [⟨S4096x128, q⟩, ⟨S4096x128, z⟩] concatenates_S4096x128_S4096x128_S4096x256_d1 (ix2 c e) = z (ix2 c d) :=
  concatenate_pair_apply_right (t := S4096x256) 1 q z _ _ rfl rfl (ix2 c d)
    (fun b hb => match b with | ⟨0, _⟩ => rfl | ⟨1, _⟩ => absurd rfl hb) he.symm

/-- The stacked queries beside zeros. -/
def qz (x1 : Vec Ideal S1x1024x512 .bf16) : FVec Ideal S4096x256 .bf16 :=
  concatenate S4096x256 1 [⟨S4096x128, q4 x1⟩, ⟨S4096x128, broadcast S4096x128 (Scalar.ofBits (F := Ideal) .bf16 0x0000#16)⟩] concatenates_S4096x128_S4096x128_S4096x256_d1

theorem qz_low (x1 : Vec Ideal S1x1024x512 .bf16) (c : Fin 4096) (d : Fin 128) : qz x1 (ix2 c ⟨d.val, by omega⟩) = q4 x1 (ix2 c d) :=
  wide_low _ _ c d

theorem qz_high (x1 : Vec Ideal S1x1024x512 .bf16) (c : Fin 4096) (e : Fin 256) (he : 128 ≤ e.val) : qz x1 (ix2 c e) = 0 := by
  refine (wide_high _ _ c ⟨e.val - 128, by omega⟩ e (by show e.val = e.val - 128 + 128; omega)).trans ?_
  show Ideal.ofBits .bf16 0x0000#16 = 0
  simp [Ideal.ofBits, Ideal.ieee]

theorem qaF_low (x0 : Vec Ideal S1x1 .f32) (x1 : Vec Ideal S1x1024x512 .bf16) (c : Fin 4096) (d : Fin 128) :
    qaF x0 x1 (ix2 c ⟨d.val, by omega⟩) = q4 x1 (ix2 c d) :=
  wide_low _ _ c d

theorem shift_eq (x0 : Vec Ideal S1x1 .f32) (i : S1x1.Idx) : (k0_pay2 (View.ld x0 rS) : FVec Ideal S1x1 .f32) i = x0 (ix2 0 0) := by
  unfold k0_pay2
  rw [shapeCast_self]
  refine View.ld_unit_apply_of x0 _ _ _ _ _ fun a => ?_
  have h := (i a).isLt
  match a with
  | ⟨0, _⟩ => have : (i 0).val < 1 := h; show 0 = 0 + (i 0).val; omega
  | ⟨1, _⟩ => have : (i 1).val < 1 := h; show 0 = 0 + (i 1).val; omega

theorem qaF_high (x0 : Vec Ideal S1x1 .f32) (x1 : Vec Ideal S1x1024x512 .bf16) (c : Fin 4096) (e : Fin 256) (he : 128 ≤ e.val) :
    qaF x0 x1 (ix2 c e) = if e.val = 128 then 0 - x0 (ix2 0 0) else 0 := by
  refine (wide_high _ _ c ⟨e.val - 128, by omega⟩ e (by show e.val = e.val - 128 + 128; omega)).trans ?_
  rw [truncf_apply, select_apply]
  have hc : (k0_pay3 : IVec S4096x128 1) (ix2 c ⟨e.val - 128, by omega⟩) = if e.val = 128 then 1 else 0 := by
    unfold k0_pay3
    show IntOp.cmpi .eq (iota .tc S4096x128 32 [1] iota_S4096x128_d1_w32 (ix2 c ⟨e.val - 128, by omega⟩)) 0#32 = _
    rw [iota_single_apply]
    show IntOp.cmpi .eq (BitVec.ofNat 32 (e.val - 128)) (BitVec.ofNat 32 0) = _
    have hi := WordCmp.cmpi_eq_ofNat_eq_one_iff (w := 32) (a := e.val - 128) (b := 0) (by have := e.isLt; omega) (by omega)
    by_cases h : e.val = 128
    · rw [if_pos h]
      exact hi.mpr (by omega)
    · rw [if_neg h]
      exact (BitVec.eq_zero_or_eq_one _).resolve_right fun h1 => absurd (hi.mp h1) (by omega)
  rw [hc]
  have hz : (broadcast S4096x128 (Scalar.ofBits (F := Ideal) .f32 0x00000000#32) : FVec Ideal S4096x128 .f32) (ix2 c ⟨e.val - 128, by omega⟩) = 0 := Ideal.ofBits_zero_f32
  by_cases h : e.val = 128
  · rw [if_pos h, if_pos h]
    refine (ValueIdx.select_one _ _).trans ?_
    refine (broadcastTo_apply (s := S1x1) (t := S4096x128) _ _ _ (ix2 0 0) (fun a => match a with | ⟨0, _⟩ => rfl | ⟨1, _⟩ => rfl)).trans ?_
    rw [shapeCast_self]
    show Ideal.ofBits .f32 0x00000000#32 - (k0_pay2 (View.ld x0 rS) : FVec Ideal S1x1 .f32) (ix2 0 0) = _
    rw [shift_eq, Ideal.ofBits_zero_f32]
  · rw [if_neg h, if_neg h]
    exact (ValueIdx.select_zero _ _).trans hz

/-! ## The running maximum's trip -/

theorem pay14_apply (x1 : Vec Ideal S1x1024x512 .bf16) (m : FVec Ideal S1x4096 .f32) (acc : FVec Ideal S144x4096 .f32) (K : Vec Ideal S1x512x256 .bf16)
    (V : Vec Ideal S1x144x512 .bf16) (r : Fin 144) (c : Fin 4096) :
    k0_pay14 (View.ld x1 rQ0) (View.ld x1 rQ1) (View.ld x1 rQ2) (View.ld x1 rQ3) m acc K V (ix2 r c)
      = Ideal.exp2 (m (ix2 0 c) - k0_pay13 (View.ld x1 rQ0) (View.ld x1 rQ1) (View.ld x1 rQ2) (View.ld x1 rQ3) m K (ix2 0 c)) * acc (ix2 r c)
        + ∑ j : Fin 512, V (ix3 0 r j) * Ideal.exp2 (scores (qz x1) K (ix2 j c)
            - k0_pay13 (View.ld x1 rQ0) (View.ld x1 rQ1) (View.ld x1 rQ2) (View.ld x1 rQ3) m K (ix2 0 c)) := by
  unfold k0_pay14
  rw [addf_apply, mulf_apply]
  refine congrArg₂ (· + ·) (congrArg (· * _) ?_) ?_
  · exact broadcastTo_apply _ _ (ix2 r c) (ix2 0 c) (fun a => match a with | ⟨0, _⟩ => rfl | ⟨1, _⟩ => rfl)
  · refine (sums_apply V _ r c).trans ?_
    refine Finset.sum_congr rfl fun j _ => congrArg (V (ix3 0 r j) * ·) ?_
    refine congrArg (fun z => Ideal.exp2 (scores (qz x1) K (ix2 j c) - z)) ?_
    exact broadcastTo_apply _ _ (ix2 j c) (ix2 0 c) (fun a => match a with | ⟨0, _⟩ => rfl | ⟨1, _⟩ => rfl)

/-- The new maximum is a real when the chunk's scores are and the old one is a real or `⊥`. -/
theorem pay13_real (x1 : Vec Ideal S1x1024x512 .bf16) (m : FVec Ideal S1x4096 .f32) (K : Vec Ideal S1x512x256 .bf16) (c : Fin 4096)
    (hs : ∀ j : Fin 512, ∃ z : ℝ, scores (qz x1) K (ix2 j c) = z) (hm : m (ix2 0 c) = ⊥ ∨ ∃ z : ℝ, m (ix2 0 c) = z) :
    ∃ z : ℝ, k0_pay13 (View.ld x1 rQ0) (View.ld x1 rQ1) (View.ld x1 rQ2) (View.ld x1 rQ3) m K (ix2 0 c) = z := by
  unfold k0_pay13
  rw [maximumf_apply]
  have h2 : ∃ z : ℝ, shapeCast S1x4096 (multiReduction .maximumf [0] S4096 (scores (qz x1) K) 0xFF800000#32 reduces_S512x4096_S4096 (.inl rfl) rfl)
      shapeCasts_S4096_S1x4096 (ix2 0 c) = z := by
    rw [shapeCast_apply _ _ (ix2 0 c) (ix1 c) (by
      rewrite [Shape.rowMajor_val_one, Shape.rowMajor_val_two]; show c.val = 0 * 4096 + c.val; omega)]
    have hr := Ideal.multiReduction_maximumf_single (scores (qz x1) K) 0xFF800000#32 reduces_S512x4096_S4096 (.inl rfl) rfl (ix1 c)
    refine Exists.imp (fun _ h => hr.trans h) ?_
    have hb : (FloatOps.ofBits .f32 0xFF800000#32 : Ideal .f32) = (⊥ : EReal) := by
      show Ideal.ofBits .f32 0xFF800000#32 = ⊥
      simp [Ideal.ofBits, Ideal.ieee]
    rw [hb]
    refine fold_max_real (n := 512) (by omega) _ fun k => ?_
    obtain ⟨z, hz⟩ := hs k
    refine ⟨z, (congrArg (scores (qz x1) K) (funext fun a => Fin.ext ?_)).trans hz⟩
    match a with | ⟨0, _⟩ => rfl | ⟨1, _⟩ => rfl
  obtain ⟨z, hz⟩ := h2
  refine Exists.imp (fun _ h => (congrArg (max (m (ix2 0 c))) hz).trans h) ?_
  rcases hm with h | ⟨y, h⟩
  · exact ⟨z, by rw [h]; exact max_eq_right bot_le⟩
  · exact ⟨max y z, by rw [h]; exact (EReal.coe_strictMono.monotone.map_max).symm⟩

/-! ## The fixed shift's chunk -/

/-- One chunk of the unrolled loop. -/
def stepF (qa : FVec Ideal S4096x256 .bf16) (acc : FVec Ideal S144x4096 .f32) (K : Vec Ideal S1x512x256 .bf16) (V : Vec Ideal S1x144x512 .bf16) : FVec Ideal S144x4096 .f32 :=
  addf acc (sums V (truncf .bf16 (exp2 (scores qa K)) bitsLt_bf16_f32))

theorem stepF_apply (qa : FVec Ideal S4096x256 .bf16) (acc : FVec Ideal S144x4096 .f32) (K : Vec Ideal S1x512x256 .bf16) (V : Vec Ideal S1x144x512 .bf16)
    (r : Fin 144) (c : Fin 4096) :
    stepF qa acc K V (ix2 r c) = acc (ix2 r c) + ∑ j : Fin 512, V (ix3 0 r j) * Ideal.exp2 (scores qa K (ix2 j c)) := by
  unfold stepF
  rw [addf_apply, sums_apply]
  rfl

theorem accF_eq (x0 : Vec Ideal S1x1 .f32) (x1 : Vec Ideal S1x1024x512 .bf16) (x2 : Vec Ideal S1x4096x256 .bf16) (x3 : Vec Ideal S1x144x4096 .bf16) :
    accF x0 x1 x2 x3 = (List.finRange 8).foldl (fun acc j => stepF (qaF x0 x1) acc (View.ld x2 (rK j)) (View.ld x3 (rV j)))
      (broadcast S144x4096 (Scalar.ofBits (F := Ideal) .f32 0x00000000#32)) := rfl

/-! ## The quotient and the output rows -/

theorem pay5_apply (acc : FVec Ideal S144x4096 .f32) (d : Fin 128) (c : Fin 4096) :
    k0_pay5 acc (ix2 d c) = Ideal.div (acc (ix2 ⟨d.val, by omega⟩ c)) (acc (ix2 ⟨128, by omega⟩ c)) := by
  unfold k0_pay5
  rw [divf_apply]
  refine congrArg₂ Ideal.div ?_ ?_
  · exact extractStridedSlice_apply _ acc _ (ix2 d c) (ix2 ⟨d.val, by omega⟩ c) (fun a => match a with
      | ⟨0, _⟩ => (Nat.zero_add _).symm | ⟨1, _⟩ => (Nat.zero_add _).symm)
  · refine (broadcastTo_apply (s := S1x4096) (t := S128x4096) _ _ (ix2 d c) (ix2 0 c) (fun a => match a with | ⟨0, _⟩ => rfl | ⟨1, _⟩ => rfl)).trans ?_
    exact extractStridedSlice_apply _ acc _ (ix2 0 c) (ix2 ⟨128, by omega⟩ c) (fun a => match a with
      | ⟨0, _⟩ => rfl | ⟨1, _⟩ => (Nat.zero_add _).symm)

theorem group_apply (x : FVec Ideal S128x4096 .f32) (o : ℕ) (h : S128x4096.Slices ![0, o] S128x1024) (t : Fin 1024) (d : Fin 128) (c : Fin 4096) (hc : c.val = o + t.val) :
    shapeCast S1x1024x128 (truncf (F := Ideal) .bf16 (transpose S1024x128 [1, 0] (extractStridedSlice S128x1024 ![0, o] x h) transposes_S128x1024_p1_0_S1024x128) bitsLt_bf16_f32)
      shapeCasts_S1024x128_S1x1024x128 (ix3 0 t d) = x (ix2 d c) := by
  refine (shapeCast_apply _ _ (ix3 0 t d) (ix2 t d) ?_).trans ?_
  · rewrite [Shape.rowMajor_val_three, Shape.rowMajor_val_two]
    show t.val * 128 + d.val = (0 * 1024 + t.val) * 128 + d.val
    omega
  rw [truncf_apply]
  refine (transpose_apply _ _ _ (ix2 t d) (ix2 d t) (fun b => match b with | ⟨0, _⟩ => rfl | ⟨1, _⟩ => rfl)).trans ?_
  exact extractStridedSlice_apply _ x h (ix2 d t) (ix2 d c) (fun a => match a with | ⟨0, _⟩ => (Nat.zero_add _).symm | ⟨1, _⟩ => hc)

end Cert.KernelIdeal.Attn.Val

end
-- ==== Proof.Attn.Block.lean ====
/-
  What the attention kernel's block is, over the reals: on real queries and keys, a column of ones beside the keys and a row of
  ones under the values, each output entry is the softmax (base 2) of its query's scores over the values, whichever branch runs.
-/
module

public import proofs.«01_k».proof.Proof.Attn.Payload

@[expose] public section

noncomputable section

namespace Cert.KernelIdeal.Attn.Val

open Cert.KernelIdeal Cert.KernelIdeal.Gen Cert.KernelIdeal.Attn
open Idealize.ShloMosaic Idealize.ShloMosaic.ValueIdx

/-! ## The output rows -/

/-- The four stores' block, at an index: the quotient of the sums at that query row. -/
theorem rows_apply (acc : FVec Ideal S144x4096 .f32) (t : Fin 1024) (e : Fin 512) (d : Fin 128) (c : Fin 4096)
    (hd : d.val = e.val % 128) (hc : c.val = e.val / 128 * 1024 + t.val) :
    (View.canon [⟨rQ3, k0_pay9 acc⟩, ⟨rQ2, k0_pay8 acc⟩, ⟨rQ1, k0_pay7 acc⟩, ⟨rQ0, k0_pay6 acc⟩] : Vec Ideal S1x1024x512 .bf16) (ix3 0 t e)
      = k0_pay5 acc (ix2 d c) := by
  have key : ∀ (g : ℕ) (hg : g < 4) (x : S1x1024x128.Idx) (p : FVec Ideal S1x1024x128 .bf16) (y : S1x1024x512.Idx)
      (hp : ∀ (t : Fin 1024) (d : Fin 128) (c : Fin 4096), c.val = g * 1024 + t.val → p (ix3 0 t d) = k0_pay5 acc (ix2 d c))
      (h1 : (y 1).val = (x 1).val) (h2 : (y 2).val = g * 128 + (x 2).val),
      p x = k0_pay5 acc (ix2 ⟨(y 2).val % 128, Nat.mod_lt _ (by omega)⟩ ⟨(y 2).val / 128 * 1024 + (y 1).val, by
        have h1 : (y 1).val < 1024 := (y 1).isLt
        have h2 : (y 2).val < 512 := (y 2).isLt
        omega⟩) := by
    intro g hg x p y hp h1 h2
    have hx2 : (x 2).val < 128 := (x 2).isLt
    have hx1 : (x 1).val < 1024 := (x 1).isLt
    have hx : x = ix3 (0 : Fin 1) (x 1) (x 2) := (eq_ix3 x).trans (congrArg (fun z : Fin 1 => ix3 z (x 1) (x 2)) (Subsingleton.elim (α := Fin 1) _ _))
    refine (congrArg p hx).trans ?_
    refine (hp (x 1) (x 2) ⟨g * 1024 + (x 1).val, by omega⟩ rfl).trans (congrArg (k0_pay5 acc) ?_)
    refine congrArg₂ ix2 (Fin.ext ?_) (Fin.ext ?_)
    · show (x 2).val = (y 2).val % 128; omega
    · show g * 1024 + (x 1).val = (y 2).val / 128 * 1024 + (y 1).val; omega
  refine (View.canon_apply_of_pieces (fun y => k0_pay5 acc (ix2 ⟨(y 2).val % 128, Nat.mod_lt _ (by omega)⟩ ⟨(y 2).val / 128 * 1024 + (y 1).val, by
        have h1 : (y 1).val < 1024 := (y 1).isLt
        have h2 : (y 2).val < 512 := (y 2).isLt
        omega⟩)) _ ?_ (ix3 0 t e) (cover4 _ _ _ _ _)).trans ?_
  · intro p hp x
    simp only [List.mem_cons, List.not_mem_nil, or_false] at hp
    rcases hp with rfl | rfl | rfl | rfl
    · exact key 3 (by omega) x _ _ (fun t d c hc => group_apply _ 3072 _ t d c hc) (by show 0 + 1 * (x 1).val = _; omega) (by show 384 + 1 * (x 2).val = _; omega)
    · exact key 2 (by omega) x _ _ (fun t d c hc => group_apply _ 2048 _ t d c hc) (by show 0 + 1 * (x 1).val = _; omega) (by show 256 + 1 * (x 2).val = _; omega)
    · exact key 1 (by omega) x _ _ (fun t d c hc => group_apply _ 1024 _ t d c hc) (by show 0 + 1 * (x 1).val = _; omega) (by show 128 + 1 * (x 2).val = _; omega)
    · exact key 0 (by omega) x _ _ (fun t d c hc => group_apply _ 0 _ t d c (by omega)) (by show 0 + 1 * (x 1).val = _; omega) (by show 0 + 1 * (x 2).val = _; omega)
  · refine congrArg (k0_pay5 acc) (congrArg₂ ix2 (Fin.ext hd.symm) (Fin.ext hc.symm))

/-! ## The chunks -/

theorem chunkK (x2 : Vec Ideal S1x4096x256 .bf16) (off : Fin 3 → ℕ) (inb : ∀ a, off a + S1x512x256.size a ≤ S1x4096x256.size a) (k : ℕ)
    (hoff : off = ![0, 512 * k, 0]) (j : Fin 512) (d : Fin 256) (n : Fin 4096) (hn : n.val = 512 * k + j.val) :
    (View.ld x2 (Rect.unit (s := S1x4096x256) off S1x512x256.size inb) : Vec Ideal S1x512x256 .bf16) (ix3 0 j d) = x2 (ix3 0 n d) := by
  subst hoff
  refine View.ld_unit_apply_of x2 _ _ _ _ _ fun a => ?_
  match a with
  | ⟨0, _⟩ => rfl
  | ⟨1, _⟩ => exact hn
  | ⟨2, _⟩ => exact (Nat.zero_add _).symm

theorem chunkV (x3 : Vec Ideal S1x144x4096 .bf16) (off : Fin 3 → ℕ) (inb : ∀ a, off a + S1x144x512.size a ≤ S1x144x4096.size a) (k : ℕ)
    (hoff : off = ![0, 0, 512 * k]) (j : Fin 512) (r : Fin 144) (n : Fin 4096) (hn : n.val = 512 * k + j.val) :
    (View.ld x3 (Rect.unit (s := S1x144x4096) off S1x144x512.size inb) : Vec Ideal S1x144x512 .bf16) (ix3 0 r j) = x3 (ix3 0 r n) := by
  subst hoff
  refine View.ld_unit_apply_of x3 _ _ _ _ _ fun a => ?_
  match a with
  | ⟨0, _⟩ => rfl
  | ⟨1, _⟩ => exact (Nat.zero_add _).symm
  | ⟨2, _⟩ => exact hn

theorem off1 : ∀ j : Fin 8, k0_off1 (BitVec.ofNat 32 j.val) = ![0, 512 * j.val, 0] := by decide +kernel
theorem off2 : ∀ j : Fin 8, k0_off2 (BitVec.ofNat 32 j.val) = ![0, 0, 512 * j.val] := by decide +kernel
theorem off3 : ∀ k : Fin k0_t1_loop.trips, k0_off3 k = ![0, 512 * k.val, 0] := by decide +kernel
theorem off4 : ∀ k : Fin k0_t1_loop.trips, k0_off4 k = ![0, 0, 512 * k.val] := by decide +kernel
theorem trips_eq : k0_t1_loop.trips = 8 := by decide +kernel

/-! ## The block's data -/

/-- Real queries and keys, ones beside the keys and under the values, a shift that is not negative. -/
structure Data (x0 : Vec Ideal S1x1 .f32) (x1 : Vec Ideal S1x1024x512 .bf16) (x2 : Vec Ideal S1x4096x256 .bf16) (x3 : Vec Ideal S1x144x4096 .bf16)
    (qr : Fin 1024 → Fin 512 → ℝ) (kr : Fin 4096 → Fin 128 → ℝ) : Prop where
  hq : ∀ t e, x1 (ix3 0 t e) = (qr t e : EReal)
  hk : ∀ j (d : Fin 128), x2 (ix3 0 j ⟨d.val, by omega⟩) = (kr j d : EReal)
  hk1 : ∀ j, x2 (ix3 0 j ⟨128, by omega⟩) = 1
  hv1 : ∀ j, x3 (ix3 0 ⟨128, by omega⟩ j) = 1
  h0 : 0 ≤ x0 (ix2 0 0)

/-- The score of key `j` for query `t` of group `g`. -/
def score (qr : Fin 1024 → Fin 512 → ℝ) (kr : Fin 4096 → Fin 128 → ℝ) (g : Fin 4) (t : Fin 1024) (j : Fin 4096) : ℝ :=
  ∑ d : Fin 128, kr j d * qr t ⟨g.val * 128 + d.val, by omega⟩

/-- The same for any number, zero past the last key, -/
def sN (qr : Fin 1024 → Fin 512 → ℝ) (kr : Fin 4096 → Fin 128 → ℝ) (g : Fin 4) (t : Fin 1024) (n : ℕ) : ℝ :=
  if h : n < 4096 then score qr kr g t ⟨n, h⟩ else 0

/-- and row `r` of the values likewise. -/
def vN (x3 : Vec Ideal S1x144x4096 .bf16) (r : Fin 144) (n : ℕ) : EReal := if h : n < 4096 then x3 (ix3 0 r ⟨n, h⟩) else 0

section
variable {x0 : Vec Ideal S1x1 .f32} {x1 : Vec Ideal S1x1024x512 .bf16} {x2 : Vec Ideal S1x4096x256 .bf16} {x3 : Vec Ideal S1x144x4096 .bf16}
  {qr : Fin 1024 → Fin 512 → ℝ} {kr : Fin 4096 → Fin 128 → ℝ} (D : Data x0 x1 x2 x3 qr kr)
  (g : Fin 4) (t : Fin 1024) (c : Fin 4096) (hc : c.val = g.val * 1024 + t.val)
include D hc

theorem score_sum (off : Fin 3 → ℕ) (inb : ∀ a, off a + S1x512x256.size a ≤ S1x4096x256.size a) (k : ℕ) (hk : k < 8)
    (hoff : off = ![0, 512 * k, 0]) (j : Fin 512) (qa : FVec Ideal S4096x256 .bf16)
    (hqa : ∀ d : Fin 128, qa (ix2 c ⟨d.val, by omega⟩) = q4 x1 (ix2 c d)) :
    ∑ d : Fin 128, (View.ld x2 (Rect.unit (s := S1x4096x256) off S1x512x256.size inb) : Vec Ideal S1x512x256 .bf16) (ix3 0 j ⟨d.val, by omega⟩)
        * qa (ix2 c ⟨d.val, by omega⟩) = (sN qr kr g t (512 * k + j.val) : EReal) := by
  have hn : 512 * k + j.val < 4096 := by have := j.isLt; omega
  unfold sN score
  rw [dif_pos hn, ← coe_sum]
  refine Finset.sum_congr rfl fun d _ => ?_
  rw [EReal.coe_mul, chunkK x2 off inb k hoff j _ ⟨_, hn⟩ rfl, D.hk, hqa, q4_apply x1 g t d c hc ⟨g.val * 128 + d.val, by omega⟩ rfl, D.hq]

theorem score_running (off : Fin 3 → ℕ) (inb : ∀ a, off a + S1x512x256.size a ≤ S1x4096x256.size a) (k : ℕ) (hk : k < 8)
    (hoff : off = ![0, 512 * k, 0]) (j : Fin 512) :
    scores (qz x1) (View.ld x2 (Rect.unit (s := S1x4096x256) off S1x512x256.size inb)) (ix2 j c) = (sN qr kr g t (512 * k + j.val) : EReal) := by
  rw [scores_apply, sum_lanes _ 0 (by rw [qz_high x1 c _ (by show 128 ≤ 128; omega), mul_zero])
    (fun d hd => by rw [qz_high x1 c d (by omega), mul_zero]), add_zero]
  exact score_sum D g t c hc off inb k hk hoff j (qz x1) (fun d => qz_low x1 c d)

theorem score_fixed (off : Fin 3 → ℕ) (inb : ∀ a, off a + S1x512x256.size a ≤ S1x4096x256.size a) (k : ℕ) (hk : k < 8)
    (hoff : off = ![0, 512 * k, 0]) (j : Fin 512) (σ : ℝ) (hσ : x0 (ix2 0 0) = (σ : EReal)) :
    scores (qaF x0 x1) (View.ld x2 (Rect.unit (s := S1x4096x256) off S1x512x256.size inb)) (ix2 j c) = ((sN qr kr g t (512 * k + j.val) - σ : ℝ) : EReal) := by
  have hn : 512 * k + j.val < 4096 := by have := j.isLt; omega
  rw [scores_apply, sum_lanes _ ((-σ : ℝ) : EReal) ?_ (fun d hd => ?_), score_sum D g t c hc off inb k hk hoff j (qaF x0 x1) (fun d => qaF_low x0 x1 c d)]
  · rw [← EReal.coe_add, sub_eq_add_neg]
  · rw [qaF_high x0 x1 c _ (by show 128 ≤ 128; omega), if_pos rfl, chunkK x2 off inb k hoff j _ ⟨_, hn⟩ rfl, D.hk1, hσ, one_mul, zero_sub, EReal.coe_neg]
  · rw [qaF_high x0 x1 c d (by omega), if_neg (by omega), mul_zero]

/-- One chunk of the fixed shift. -/
theorem step_fixed (σ : ℝ) (hσ : x0 (ix2 0 0) = (σ : EReal)) (r : Fin 144) (j : Fin 8) (acc : FVec Ideal S144x4096 .f32)
    (h : acc (ix2 r c) = ∑ n ∈ Finset.range (512 * j.val), vN x3 r n * (((2 : ℝ) ^ (sN qr kr g t n - σ) : ℝ) : EReal)) :
    stepF (qaF x0 x1) acc (View.ld x2 (rK j)) (View.ld x3 (rV j)) (ix2 r c)
      = ∑ n ∈ Finset.range (512 * (j.val + 1)), vN x3 r n * (((2 : ℝ) ^ (sN qr kr g t n - σ) : ℝ) : EReal) := by
  rw [stepF_apply, h, ← sum_chunk]
  refine congrArg (_ + ·) (Finset.sum_congr rfl fun i _ => ?_)
  have hn : 512 * j.val + i.val < 4096 := by have := i.isLt; have := j.isLt; omega
  rw [score_fixed D g t c hc _ _ j.val j.isLt (off1 j) i σ hσ, Ideal.exp2_coe, chunkV x3 _ _ j.val (off2 j) i r ⟨_, hn⟩ rfl]
  unfold vN
  rw [dif_pos hn]
  rfl

theorem accF_apply (σ : ℝ) (hσ : x0 (ix2 0 0) = (σ : EReal)) (r : Fin 144) :
    accF x0 x1 x2 x3 (ix2 r c) = ∑ n ∈ Finset.range 4096, vN x3 r n * (((2 : ℝ) ^ (sN qr kr g t n - σ) : ℝ) : EReal) := by
  have st := fun j acc h => step_fixed D g t c hc σ hσ r j acc h
  exact st 7 _ (st 6 _ (st 5 _ (st 4 _ (st 3 _ (st 2 _ (st 1 _ (st 0 _ (by
    rw [show 512 * (0 : Fin 8).val = 0 from rfl, Finset.range_zero, Finset.sum_empty]
    exact Ideal.ofBits_zero_f32))))))))

/-- The running loop's state: before the first trip the maximum is `⊥` and the sums are zero; then the maximum is a real, and the sums are those against it. -/
theorem stM_apply (r : Fin 144) (k : ℕ) (hk : k ≤ 8) :
    ((stM x1 x2 x3 k).1 (ix2 0 c) = ⊥ ∧ (stM x1 x2 x3 k).2 (ix2 r c) = 0 ∧ k = 0)
    ∨ ∃ μ : ℝ, (stM x1 x2 x3 k).1 (ix2 0 c) = (μ : EReal)
        ∧ (stM x1 x2 x3 k).2 (ix2 r c) = ∑ n ∈ Finset.range (512 * k), vN x3 r n * (((2 : ℝ) ^ (sN qr kr g t n - μ) : ℝ) : EReal) := by
  induction k with
  | zero =>
    refine Or.inl ⟨?_, Ideal.ofBits_zero_f32, rfl⟩
    show Ideal.ofBits .f32 0xFF800000#32 = ⊥
    simp [Ideal.ofBits, Ideal.ieee]
  | succ k ih =>
    have ih := ih (by omega)
    have hlt : k < k0_t1_loop.trips := by rw [trips_eq]; omega
    rw [stM, dif_pos hlt]
    unfold stepM
    have hs : ∀ j : Fin 512, scores (qz x1) (View.ld x2 (rKl ⟨k, hlt⟩)) (ix2 j c) = (sN qr kr g t (512 * k + j.val) : EReal) :=
      fun j => score_running D g t c hc _ _ k (by omega) (off3 ⟨k, hlt⟩) j
    obtain ⟨μ, hμ⟩ := pay13_real x1 (stM x1 x2 x3 k).1 (View.ld x2 (rKl ⟨k, hlt⟩)) c (fun j => ⟨_, hs j⟩)
      (ih.elim (fun h => Or.inl h.1) (fun ⟨z, h, _⟩ => Or.inr ⟨z, h⟩))
    refine Or.inr ⟨μ, hμ, ?_⟩
    refine (pay14_apply x1 _ _ _ _ r c).trans ?_
    rw [hμ, ← sum_chunk]
    refine congrArg₂ (· + ·) ?_ (Finset.sum_congr rfl fun i _ => ?_)
    · rcases ih with ⟨h1, h2, h3⟩ | ⟨z, h1, h2⟩
      · rw [h2, h3, mul_zero, Nat.mul_zero, Finset.range_zero, Finset.sum_empty]
      · rw [h1, h2, rescale]
    · have hn : 512 * k + i.val < 4096 := by have := i.isLt; omega
      rw [hs, ← EReal.coe_sub, Ideal.exp2_coe, chunkV x3 _ _ k (off4 ⟨k, hlt⟩) i r ⟨_, hn⟩ rfl]
      unfold vN
      rw [dif_pos hn]
      rfl

/-- Sums against any real shift give the mix. -/
theorem quotient (acc : FVec Ideal S144x4096 .f32) (μ : ℝ) (d : Fin 128)
    (h : ∀ r : Fin 144, acc (ix2 r c) = ∑ n ∈ Finset.range 4096, vN x3 r n * (((2 : ℝ) ^ (sN qr kr g t n - μ) : ℝ) : EReal)) :
    k0_pay5 acc (ix2 d c) = mix (score qr kr g t) (fun j => x3 (ix3 0 ⟨d.val, by omega⟩ j)) := by
  have hv : ∀ (r : Fin 144) (j : Fin 4096), vN x3 r j.val = x3 (ix3 0 r j) := fun r j => by unfold vN; rw [dif_pos j.isLt]
  have hs : ∀ j : Fin 4096, sN qr kr g t j.val = score qr kr g t j := fun j => by unfold sN; rw [dif_pos j.isLt]
  rw [pay5_apply, h, h, Finset.sum_range, Finset.sum_range]
  simp only [hv, hs, D.hv1]
  refine div_eq_mix (a := (2 : ℝ) ^ (-μ)) (s := score qr kr g t) (w := fun j => (2 : ℝ) ^ (score qr kr g t j - μ)) _ (Real.rpow_pos_of_pos (by norm_num) _) fun j => ?_
  rw [← Real.rpow_add (by norm_num)]
  congr 1
  ring

omit hc in
/-- A shift that the branch takes as fixed is a real. -/
theorem shift_real (h : cond x0) : ∃ σ : ℝ, x0 (ix2 0 0) = (σ : EReal) := by
  by_cases ht : x0 (ix2 0 0) = ⊤
  · exfalso
    have hp : k0_pay4 (View.ld x0 rS) = (⊤ : EReal) := by
      unfold k0_pay4
      refine top_le_iff.mp ?_
      show ⊤ ≤ shapeCast S1x1x1 _ _ _
      refine le_of_le_of_eq ?_ (shapeCast_apply _ _ _ (ix1 0) (by decide)).symm
      refine le_of_le_of_eq ?_ (multiReduction_maximumf_eq_fold _ _ _ _ _ _).symm
      refine le_trans ?_ (show _ ≤ Finset.fold max _ _ _ from (Finset.le_fold_max _).mpr (Or.inr ⟨ix3 0 0 0, ?_, le_refl _⟩))
      · rw [shapeCast_apply _ _ (ix3 0 0 0) (ix2 0 0) (by decide), shift_eq, ht]
      · rw [Finset.mem_filter]; exact ⟨Finset.mem_univ _, funext fun a => match a with | ⟨0, _⟩ => Subsingleton.elim (α := Fin 1) _ _⟩
    unfold cond at h
    rw [hp] at h
    have h60 : ¬ ((⊤ : EReal) ≤ Ideal.ofBits .f32 0x42700000#32) := by
      rw [top_le_iff]; simp [Ideal.ofBits, Ideal.ieee, -EReal.coe_mul]
    have : (Scalar.cmpf .ole (⊤ : Ideal .f32) (Scalar.ofBits .f32 0x42700000#32)) = 0#1 := by
      show Ideal.cmp .ole ⊤ (Ideal.ofBits .f32 0x42700000#32) = 0#1
      simp only [Ideal.cmp]
      rw [decide_eq_false h60]
      rfl
    rw [show (Scalar.cmpf .ole (⊤ : EReal) (Scalar.ofBits (F := Ideal) .f32 0x42700000#32)) = 0#1 from this] at h
    exact absurd h (by decide)
  · have hb : x0 (ix2 0 0) ≠ ⊥ := fun hb => by have := D.h0; rw [hb] at this; exact absurd this (by simp)
    exact ⟨_, (EReal.coe_toReal ht hb).symm⟩

/-- The block's entry of query `t`, group `g`, lane `d`. -/
theorem out_apply (d : Fin 128) (e : Fin 512) (he : e.val = g.val * 128 + d.val) :
    out x0 x1 x2 x3 (ix3 0 t e) = mix (score qr kr g t) (fun j => x3 (ix3 0 ⟨d.val, by omega⟩ j)) := by
  unfold out
  have hd := d.isLt
  by_cases h : cond x0
  · rw [if_pos h]
    obtain ⟨σ, hσ⟩ := shift_real D h
    exact (rows_apply (accF x0 x1 x2 x3) t e d c (by omega) (by rw [hc]; congr 2; omega)).trans (quotient D g t c hc _ σ d fun r => accF_apply D g t c hc σ hσ r)
  · rw [if_neg h]
    refine (rows_apply (stM x1 x2 x3 k0_t1_loop.trips).2 t e d c (by omega) (by rw [hc]; congr 2; omega)).trans ?_
    rw [trips_eq]
    have h1 := fun r => stM_apply D g t c hc r 8 le_rfl
    obtain ⟨μ, hμ, -⟩ := (h1 0).resolve_left fun h => absurd h.2.2 (by omega)
    refine quotient D g t c hc _ μ d fun r => ?_
    obtain ⟨μ', hμ', h2⟩ := (h1 r).resolve_left fun h => absurd h.2.2 (by omega)
    rw [h2]
    rw [show μ = μ' from EReal.coe_injective (hμ.symm.trans hμ')]
end

end Cert.KernelIdeal.Attn.Val

end
-- ==== Proof.Attn.Host.lean ====
/-
  The arrays that the attention's call is given, over the reals: the scaled queries, the keys with a column of ones, the
  transposed values with a row of ones, and the shift.
-/
module

public import proofs.«01_k».proof.Proof.Attn.Block
public import proofs.«01_k».proof.Proof.Attn.Run
public import Idealize.ShloMosaic.Lib.KernelVsHost

@[expose] public section

noncomputable section

namespace Cert.KernelIdeal.Attn.Val

open Cert.KernelIdeal Cert.KernelIdeal.Gen Cert.KernelIdeal.Attn
open Idealize.ShloMosaic Idealize.ShloMosaic.TcCoe Idealize.SL.Sem Idealize.ShloMosaic.ValueIdx

variable (m : (ℓ : Loc nD τ sig) → Buf (Elt Ideal) ℓ)

/-! ## The scale -/

/-- The scale of the base-2 scores: `1 / (log 2 · √128)`. -/
def scaleR : ℝ := 1 / (Real.log 2 * Real.sqrt 128)

/-- The host's scale, as it computes it. -/
def scale : FVec Ideal S_ .f32 :=
  Host.divf (constant S_ .f32 0x3F800000#32) (mulf (Host.log (constant S_ .f32 0x40000000#32)) (Host.sqrt (constant S_ .f32 0x43000000#32)))

theorem log2_pos : (0 : ℝ) < Real.log 2 := Real.log_pos (by norm_num)
theorem sqrt128_pos : (0 : ℝ) < Real.sqrt 128 := Real.sqrt_pos.mpr (by norm_num)
theorem scaleR_pos : 0 < scaleR := by unfold scaleR; have := log2_pos; have := sqrt128_pos; positivity

theorem ofBits_two : Ideal.ofBits .f32 0x40000000#32 = ((2 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_margin : 0 ≤ Ideal.ofBits .f32 0x430147AE#32 := by
  simp [Ideal.ofBits, Ideal.ieee, -EReal.coe_mul]
theorem ofBits_bot : Ideal.ofBits .f32 0xFF800000#32 = ⊥ := by simp [Ideal.ofBits, Ideal.ieee]

theorem scale_eq (i : S_.Idx) : scale i = (scaleR : EReal) := by
  show Ideal.div (Ideal.ofBits .f32 0x3F800000#32) (Ideal.log (Ideal.ofBits .f32 0x40000000#32) * Ideal.sqrt (Ideal.ofBits .f32 0x43000000#32)) = _
  rw [ofBits_two, ofBits_128, Ideal.ofBits_one_f32, Ideal.log_coe, Ideal.sqrt_coe, if_neg (by norm_num), if_neg (by norm_num), ← EReal.coe_mul,
    Ideal.div_coe (mul_pos log2_pos sqrt128_pos).ne', one_mul]
  rfl

/-! ## The operands -/

theorem V_v14 (c : Dev nD) : (V m c main_v14 : Vec Ideal S4x4096x1024 .bf16)
    = shapeCast S4x4096x1024 (truncf (F := Ideal) .bf16 (mulf (m ((c : Thread nD τ).loc main_arg0))
        (broadcastInDim S4x4096x8x128 ![] bcast_S_S4x4096x8x128 scale)) bitsLt_bf16_f32) shapeCasts_S4x4096x8x128_S4x4096x1024 := by
  unfold V
  after_results <;> rfl
theorem V_v19 (c : Dev nD) : (V m c main_v19 : Vec Ideal S4x4096x512 .bf16)
    = shapeCast S4x4096x512 (truncf (F := Ideal) .bf16 (concatenate S4x4096x2x256 3
        [⟨S4x4096x2x128, m ((c : Thread nD τ).loc main_arg1)⟩,
          ⟨S4x4096x2x1, broadcastInDim S4x4096x2x1 ![] bcast_S_S4x4096x2x1 (constant (F := Ideal) S_ .f32 0x3F800000#32)⟩,
          ⟨S4x4096x2x127, broadcastInDim S4x4096x2x127 ![] bcast_S_S4x4096x2x127 (constant (F := Ideal) S_ .f32 0x00000000#32)⟩]
        concatenates_S4x4096x2x128_S4x4096x2x1_S4x4096x2x127_S4x4096x2x256_d3) bitsLt_bf16_f32) shapeCasts_S4x4096x2x256_S4x4096x512 := by
  unfold V
  after_results <;> rfl
theorem V_v24 (c : Dev nD) : (V m c main_v24 : Vec Ideal S4x288x4096 .bf16)
    = shapeCast S4x288x4096 (transpose S4x2x144x4096 [0, 2, 3, 1] (truncf (F := Ideal) .bf16 (concatenate S4x4096x2x144 3
        [⟨S4x4096x2x128, m ((c : Thread nD τ).loc main_arg2)⟩,
          ⟨S4x4096x2x1, broadcastInDim S4x4096x2x1 ![] bcast_S_S4x4096x2x1 (constant (F := Ideal) S_ .f32 0x3F800000#32)⟩,
          ⟨S4x4096x2x15, broadcastInDim S4x4096x2x15 ![] bcast_S_S4x4096x2x15 (constant (F := Ideal) S_ .f32 0x00000000#32)⟩]
        concatenates_S4x4096x2x128_S4x4096x2x1_S4x4096x2x15_S4x4096x2x144_d3) bitsLt_bf16_f32) transposes_S4x4096x2x144_S4x2x144x4096_0_2_3_1)
        shapeCasts_S4x2x144x4096_S4x288x4096 := by
  unfold V
  after_results <;> rfl
theorem V_v25 (c : Dev nD) : (V m c main_v25 : Vec Ideal S1x1 .f32)
    = shapeCast S1x1 (mulf (mulf (mulf (constant (F := Ideal) S_ .f32 0x430147AE#32) scale)
        (Host.reduce FloatOps.maximumf (Host.absf (F := Ideal) (m ((c : Thread nD τ).loc main_arg3))) (constant S_ .f32 0xFF800000#32) reducesTo_S128_S_d0 h_S_))
        (Host.reduce FloatOps.maximumf (Host.absf (F := Ideal) (m ((c : Thread nD τ).loc main_arg4))) (constant S_ .f32 0xFF800000#32) reducesTo_S128_S_d0 h_S_))
        shapeCasts_S_S1x1 := by
  unfold V
  after_results <;> rfl

theorem v14_apply (c : Dev nD) (b : Fin 4) (s : Fin 4096) (e : Fin 1024) : (V m c main_v14 : Vec Ideal S4x4096x1024 .bf16) (ix3 b s e)
    = HMul.hMul (α := EReal) (β := EReal) ((m ((c : Thread nD τ).loc main_arg0) : S4x4096x8x128.Idx → EReal) (ix4 b s ⟨e.val / 128, by omega⟩ ⟨e.val % 128, by omega⟩)) (scaleR : EReal) := by
  rw [V_v14]
  refine (shapeCast_apply _ _ (ix3 b s e) (ix4 b s ⟨e.val / 128, by omega⟩ ⟨e.val % 128, by omega⟩) ?_).trans ?_
  · rewrite [Shape.rowMajor_val_three, Shape.rowMajor_val_four]
    show ((b.val * 4096 + s.val) * 8 + e.val / 128) * 128 + e.val % 128 = (b.val * 4096 + s.val) * 1024 + e.val
    omega
  · rw [truncf_apply, mulf_apply]
    refine congrArg (fun z : EReal => HMul.hMul (α := EReal) (β := EReal) _ z) ?_
    exact (broadcastInDim_scalar_apply _ _ _).trans (scale_eq _)

/-- Three pieces side by side along the last axis: at the first piece's lanes, the first; at the next lane, the second. -/
theorem three_first {L M : ℕ} (x : (⟨4, ![4, 4096, 2, 128]⟩ : Shape).Idx → EReal) (y : (⟨4, ![4, 4096, 2, 1]⟩ : Shape).Idx → EReal)
    (z : (⟨4, ![4, 4096, 2, L]⟩ : Shape).Idx → EReal)
    (h : Shape.Concatenates [⟨4, ![4, 4096, 2, 128]⟩, ⟨4, ![4, 4096, 2, 1]⟩, ⟨4, ![4, 4096, 2, L]⟩] ⟨4, ![4, 4096, 2, M]⟩ 3)
    (b : Fin 4) (s : Fin 4096) (k : Fin 2) (d : Fin 128) (d' : Fin M) (hd : d'.val = d.val) :
    concatenate ⟨4, ![4, 4096, 2, M]⟩ 3 [⟨_, x⟩, ⟨_, y⟩, ⟨_, z⟩] h (ix4 b s k d') = x (ix4 b s k d) :=
  concatenate_apply_piece (t := ⟨4, ![4, 4096, 2, M]⟩) 3 [⟨_, x⟩, ⟨_, y⟩, ⟨_, z⟩] h (ix4 b s k d') 0 (by simp) _ x rfl rfl 0 rfl (ix4 b s k d)
    (fun a ha => match a with | ⟨0, _⟩ => rfl | ⟨1, _⟩ => rfl | ⟨2, _⟩ => rfl | ⟨3, _⟩ => absurd rfl ha)
    (by show 0 + d.val = d'.val; omega)
theorem three_second {L M : ℕ} (x : (⟨4, ![4, 4096, 2, 128]⟩ : Shape).Idx → EReal) (y : (⟨4, ![4, 4096, 2, 1]⟩ : Shape).Idx → EReal)
    (z : (⟨4, ![4, 4096, 2, L]⟩ : Shape).Idx → EReal)
    (h : Shape.Concatenates [⟨4, ![4, 4096, 2, 128]⟩, ⟨4, ![4, 4096, 2, 1]⟩, ⟨4, ![4, 4096, 2, L]⟩] ⟨4, ![4, 4096, 2, M]⟩ 3)
    (b : Fin 4) (s : Fin 4096) (k : Fin 2) (d' : Fin M) (hd : d'.val = 128) :
    concatenate ⟨4, ![4, 4096, 2, M]⟩ 3 [⟨_, x⟩, ⟨_, y⟩, ⟨_, z⟩] h (ix4 b s k d') = y (ix4 b s k 0) :=
  concatenate_apply_piece (t := ⟨4, ![4, 4096, 2, M]⟩) 3 [⟨_, x⟩, ⟨_, y⟩, ⟨_, z⟩] h (ix4 b s k d') 1 (by simp) _ y rfl rfl 128 rfl (ix4 b s k 0)
    (fun a ha => match a with | ⟨0, _⟩ => rfl | ⟨1, _⟩ => rfl | ⟨2, _⟩ => rfl | ⟨3, _⟩ => absurd rfl ha)
    (by show 128 + 0 = d'.val; omega)

theorem v19_apply (c : Dev nD) (b : Fin 4) (s : Fin 4096) (k : Fin 2) (d : Fin 128) (e : Fin 512) (he : e.val = k.val * 256 + d.val) :
    (V m c main_v19 : Vec Ideal S4x4096x512 .bf16) (ix3 b s e) = (m ((c : Thread nD τ).loc main_arg1) : S4x4096x2x128.Idx → EReal) (ix4 b s k d) := by
  rw [V_v19]
  refine (shapeCast_apply _ _ (ix3 b s e) (ix4 b s k ⟨d.val, by omega⟩) ?_).trans ?_
  · rewrite [Shape.rowMajor_val_three, Shape.rowMajor_val_four]
    show ((b.val * 4096 + s.val) * 2 + k.val) * 256 + d.val = (b.val * 4096 + s.val) * 512 + e.val
    omega
  · rw [truncf_apply]
    exact three_first (M := 256) (L := 127) _ _ _ _ b s k d ⟨d.val, by omega⟩ rfl
theorem v19_one (c : Dev nD) (b : Fin 4) (s : Fin 4096) (k : Fin 2) (e : Fin 512) (he : e.val = k.val * 256 + 128) :
    (V m c main_v19 : Vec Ideal S4x4096x512 .bf16) (ix3 b s e) = (1 : EReal) := by
  rw [V_v19]
  refine (shapeCast_apply _ _ (ix3 b s e) (ix4 b s k ⟨128, by omega⟩) ?_).trans ?_
  · rewrite [Shape.rowMajor_val_three, Shape.rowMajor_val_four]
    show ((b.val * 4096 + s.val) * 2 + k.val) * 256 + 128 = (b.val * 4096 + s.val) * 512 + e.val
    omega
  · rw [truncf_apply]
    refine (three_second (M := 256) (L := 127) _ _ _ _ b s k ⟨128, by omega⟩ rfl).trans ?_
    exact (broadcastInDim_scalar_apply _ _ _).trans Ideal.ofBits_one_f32

theorem v24_apply (c : Dev nD) (b : Fin 4) (s : Fin 4096) (k : Fin 2) (d : Fin 128) (e : Fin 288) (he : e.val = k.val * 144 + d.val) :
    (V m c main_v24 : Vec Ideal S4x288x4096 .bf16) (ix3 b e s) = (m ((c : Thread nD τ).loc main_arg2) : S4x4096x2x128.Idx → EReal) (ix4 b s k d) := by
  rw [V_v24]
  refine (shapeCast_apply _ _ (ix3 b e s) (ix4 b k (⟨d.val, by omega⟩ : Fin 144) s) ?_).trans ?_
  · rewrite [Shape.rowMajor_val_three, Shape.rowMajor_val_four]
    show ((b.val * 2 + k.val) * 144 + d.val) * 4096 + s.val = (b.val * 288 + e.val) * 4096 + s.val
    omega
  · refine (transpose_apply _ _ _ _ (ix4 b s k (⟨d.val, by omega⟩ : Fin 144)) (fun a => match a with | ⟨0, _⟩ => rfl | ⟨1, _⟩ => rfl | ⟨2, _⟩ => rfl | ⟨3, _⟩ => rfl)).trans ?_
    rw [truncf_apply]
    exact three_first (M := 144) (L := 15) _ _ _ _ b s k d ⟨d.val, by omega⟩ rfl
theorem v24_one (c : Dev nD) (b : Fin 4) (s : Fin 4096) (k : Fin 2) (e : Fin 288) (he : e.val = k.val * 144 + 128) :
    (V m c main_v24 : Vec Ideal S4x288x4096 .bf16) (ix3 b e s) = (1 : EReal) := by
  rw [V_v24]
  refine (shapeCast_apply _ _ (ix3 b e s) (ix4 b k (⟨128, by omega⟩ : Fin 144) s) ?_).trans ?_
  · rewrite [Shape.rowMajor_val_three, Shape.rowMajor_val_four]
    show ((b.val * 2 + k.val) * 144 + 128) * 4096 + s.val = (b.val * 288 + e.val) * 4096 + s.val
    omega
  · refine (transpose_apply _ _ _ _ (ix4 b s k (⟨128, by omega⟩ : Fin 144)) (fun a => match a with | ⟨0, _⟩ => rfl | ⟨1, _⟩ => rfl | ⟨2, _⟩ => rfl | ⟨3, _⟩ => rfl)).trans ?_
    rw [truncf_apply]
    refine (three_second (M := 144) (L := 15) _ _ _ _ b s k ⟨128, by omega⟩ rfl).trans ?_
    exact (broadcastInDim_scalar_apply _ _ _).trans Ideal.ofBits_one_f32

/-- The largest magnitude of 128 numbers is not negative. -/
theorem max_abs_nonneg (x : FVec Ideal S128 .f32) (i : S_.Idx) :
    (0 : EReal) ≤ (Host.reduce FloatOps.maximumf (Host.absf (F := Ideal) x) (constant S_ .f32 0xFF800000#32) reducesTo_S128_S_d0 h_S_ : FVec Ideal S_ .f32) i := by
  rw [Host.reduce_eq_fold]
  refine le_trans ?_ (show _ ≤ Finset.fold max _ _ _ from (Finset.le_fold_max _).mpr (Or.inr ⟨ix1 0, ?_, le_refl _⟩))
  · show (0 : EReal) ≤ max (x (ix1 0)) (-(x (ix1 0)))
    rcases le_total (0 : EReal) (x (ix1 0)) with h | h
    · exact le_max_of_le_left h
    · exact le_max_of_le_right (EReal.neg_nonneg.mpr h)
  · rw [Finset.mem_filter]; exact ⟨Finset.mem_univ _, funext fun a => a.elim0⟩

/-- The shift is not negative. -/
theorem v25_nonneg (c : Dev nD) : (0 : EReal) ≤ (V m c main_v25 : Vec Ideal S1x1 .f32) (ix2 0 0) := by
  rw [V_v25]
  refine le_of_le_of_eq ?_ (shapeCast_apply _ _ (ix2 0 0) ix0 (by decide)).symm
  rw [mulf_apply, mulf_apply, mulf_apply, scale_eq]
  have h1 : (0 : EReal) ≤ (constant (F := Ideal) S_ .f32 0x430147AE#32 : FVec Ideal S_ .f32) ix0 := ofBits_margin
  have h2 : (0 : EReal) ≤ (scaleR : EReal) := by exact_mod_cast scaleR_pos.le
  exact EReal.mul_nonneg (EReal.mul_nonneg (EReal.mul_nonneg h1 h2) (max_abs_nonneg _ _)) (max_abs_nonneg _ _)

end Cert.KernelIdeal.Attn.Val

end
-- ==== Proof.Attn.Value.lean ====
/-
  The array that the attention's call leaves, over the reals: at every token and lane the softmax (base 2) of the scaled
  scores over the values.
-/
module

public import proofs.«01_k».proof.Proof.Attn.Host

@[expose] public section

noncomputable section

namespace Cert.KernelIdeal.Attn.Val

open Cert.KernelIdeal Cert.KernelIdeal.Gen Cert.KernelIdeal.Attn
open Idealize.ShloMosaic Idealize.ShloMosaic.TcCoe Idealize.SL.Sem Idealize.ShloMosaic.ValueIdx
open Idealize.ShloMosaic.Pipeline (Dat)

/-- The base-2 score of key `j` for token `s` of head `h`, from real queries and keys. -/
def logit (x0 : S4x4096x8x128.Idx → EReal) (x1 : S4x4096x2x128.Idx → EReal) (b : Fin 4) (s : Fin 4096) (h : Fin 8) (j : Fin 4096) : ℝ :=
  ∑ d : Fin 128, (x1 (ix4 b j ⟨h.val / 4, by omega⟩ d)).toReal * ((x0 (ix4 b s h d)).toReal * scaleR)

/-- The attention's output. -/
def attn (x0 : S4x4096x8x128.Idx → EReal) (x1 x2 : S4x4096x2x128.Idx → EReal) (b : Fin 4) (s : Fin 4096) (e : Fin 1024) : EReal :=
  mix (logit x0 x1 b s ⟨e.val / 128, by omega⟩) (fun j => x2 (ix4 b j ⟨e.val / 512, by omega⟩ ⟨e.val % 128, by omega⟩))

variable (m : (ℓ : Loc nD τ sig) → Buf (Elt Ideal) ℓ)

/-- The index maps at point `t = 8 b + 4 k + i`. -/
theorem idx_facts : ∀ t : Fin cfg0.N, (win0_0.index t 0 = 0 ∧ win0_0.index t 1 = 0)
    ∧ (win0_1.index t 0 = t.val / 8 ∧ win0_1.index t 1 = t.val % 4 ∧ win0_1.index t 2 = t.val / 4 % 2)
    ∧ (win0_2.index t 0 = t.val / 8 ∧ win0_2.index t 1 = 0 ∧ win0_2.index t 2 = t.val / 4 % 2)
    ∧ (win0_3.index t 0 = t.val / 8 ∧ win0_3.index t 1 = t.val / 4 % 2 ∧ win0_3.index t 2 = 0)
    ∧ (win0_4.index t 0 = t.val / 8 ∧ win0_4.index t 1 = t.val % 4 ∧ win0_4.index t 2 = t.val / 4 % 2) :=
  (by decide +kernel : ∀ t : Fin grid0.N, _)

theorem iblk0_apply (c : Dev nD) (t : Fin cfg0.N) :
    (iblk m c 0 t : Vec Ideal S1x1 .f32) (ix2 0 0) = (V m c main_v25 : Vec Ideal S1x1 .f32) (ix2 0 0) := by
  have h := (idx_facts t).1
  unfold iblk
  rw [View.read_apply]
  show V m c main_v25 _ = V m c main_v25 _
  congr 1
  funext a
  apply Fin.ext
  match a with
  | ⟨0, _⟩ => show win0_0.index t 0 * 1 + 1 * 0 = 0; rw [h.1]
  | ⟨1, _⟩ => show win0_0.index t 1 * 1 + 1 * 0 = 0; rw [h.2]
theorem iblk1_apply (c : Dev nD) (t : Fin cfg0.N) (r : Fin 1024) (l : Fin 512) (b : Fin 4) (s : Fin 4096) (e : Fin 1024)
    (hb : b.val = t.val / 8) (hs : s.val = 1024 * (t.val % 4) + r.val) (he : e.val = 512 * (t.val / 4 % 2) + l.val) :
    (iblk m c 1 t : Vec Ideal S1x1024x512 .bf16) (ix3 0 r l) = (V m c main_v14 : Vec Ideal S4x4096x1024 .bf16) (ix3 b s e) := by
  have h := (idx_facts t).2.1
  unfold iblk
  rw [View.read_apply]
  show V m c main_v14 _ = V m c main_v14 _
  congr 1
  funext a
  apply Fin.ext
  match a with
  | ⟨0, _⟩ => show win0_1.index t 0 * 1 + 1 * 0 = b.val; rw [h.1]; omega
  | ⟨1, _⟩ => show win0_1.index t 1 * 1024 + 1 * r.val = s.val; rw [h.2.1]; omega
  | ⟨2, _⟩ => show win0_1.index t 2 * 512 + 1 * l.val = e.val; rw [h.2.2]; omega
theorem iblk2_apply (c : Dev nD) (t : Fin cfg0.N) (j : Fin 4096) (d : Fin 256) (b : Fin 4) (e : Fin 512)
    (hb : b.val = t.val / 8) (he : e.val = t.val / 4 % 2 * 256 + d.val) :
    (iblk m c 2 t : Vec Ideal S1x4096x256 .bf16) (ix3 0 j d) = (V m c main_v19 : Vec Ideal S4x4096x512 .bf16) (ix3 b j e) := by
  have h := (idx_facts t).2.2.1
  unfold iblk
  rw [View.read_apply]
  show V m c main_v19 _ = V m c main_v19 _
  congr 1
  funext a
  apply Fin.ext
  match a with
  | ⟨0, _⟩ => show win0_2.index t 0 * 1 + 1 * 0 = b.val; rw [h.1]; omega
  | ⟨1, _⟩ => show win0_2.index t 1 * 4096 + 1 * j.val = j.val; rw [h.2.1]; omega
  | ⟨2, _⟩ => show win0_2.index t 2 * 256 + 1 * d.val = e.val; rw [h.2.2]; omega
theorem iblk3_apply (c : Dev nD) (t : Fin cfg0.N) (r : Fin 144) (j : Fin 4096) (b : Fin 4) (e : Fin 288)
    (hb : b.val = t.val / 8) (he : e.val = t.val / 4 % 2 * 144 + r.val) :
    (iblk m c 3 t : Vec Ideal S1x144x4096 .bf16) (ix3 0 r j) = (V m c main_v24 : Vec Ideal S4x288x4096 .bf16) (ix3 b e j) := by
  have h := (idx_facts t).2.2.2.1
  unfold iblk
  rw [View.read_apply]
  show V m c main_v24 _ = V m c main_v24 _
  congr 1
  funext a
  apply Fin.ext
  match a with
  | ⟨0, _⟩ => show win0_3.index t 0 * 1 + 1 * 0 = b.val; rw [h.1]; omega
  | ⟨1, _⟩ => show win0_3.index t 1 * 144 + 1 * r.val = e.val; rw [h.2.1]; omega
  | ⟨2, _⟩ => show win0_3.index t 2 * 4096 + 1 * j.val = j.val; rw [h.2.2]; omega

/-- Queries and keys that are reals. -/
structure Reals (c : Dev nD) : Prop where
  q : ∀ i, (m ((c : Thread nD τ).loc main_arg0) : S4x4096x8x128.Idx → EReal) i = (((m ((c : Thread nD τ).loc main_arg0) : S4x4096x8x128.Idx → EReal) i).toReal : EReal)
  k : ∀ i, (m ((c : Thread nD τ).loc main_arg1) : S4x4096x2x128.Idx → EReal) i = (((m ((c : Thread nD τ).loc main_arg1) : S4x4096x2x128.Idx → EReal) i).toReal : EReal)

/-- The block at point `t` holds the attention's rows. -/
theorem out_blk (c : Dev nD) (H : Reals m c) (t : Fin cfg0.N) (r : Fin 1024) (l : Fin 512) (b : Fin 4) (s : Fin 4096) (e : Fin 1024)
    (hb : b.val = t.val / 8) (hs : s.val = 1024 * (t.val % 4) + r.val) (he : e.val = 512 * (t.val / 4 % 2) + l.val) :
    out (iblk m c 0 t) (iblk m c 1 t) (iblk m c 2 t) (iblk m c 3 t) (ix3 0 r l)
      = attn (m ((c : Thread nD τ).loc main_arg0)) (m ((c : Thread nD τ).loc main_arg1)) (m ((c : Thread nD τ).loc main_arg2)) b s e := by
  have hk2 : t.val / 4 % 2 < 2 := Nat.mod_lt _ (by omega)
  have hi4 : t.val % 4 < 4 := Nat.mod_lt _ (by omega)
  have hr := r.isLt
  have hl := l.isLt
  let κ : Fin 2 := ⟨t.val / 4 % 2, hk2⟩
  have D : Data (iblk m c 0 t) (iblk m c 1 t) (iblk m c 2 t) (iblk m c 3 t)
      (fun r' l' => ((m ((c : Thread nD τ).loc main_arg0) : S4x4096x8x128.Idx → EReal)
        (ix4 b ⟨1024 * (t.val % 4) + r'.val, by omega⟩ ⟨(512 * (t.val / 4 % 2) + l'.val) / 128, by omega⟩ ⟨(512 * (t.val / 4 % 2) + l'.val) % 128, by omega⟩)).toReal * scaleR)
      (fun j d => ((m ((c : Thread nD τ).loc main_arg1) : S4x4096x2x128.Idx → EReal) (ix4 b j κ d)).toReal) := by
    refine ⟨fun r' l' => ?_, fun j d => ?_, fun j => ?_, fun j => ?_, ?_⟩
    · refine (iblk1_apply m c t r' l' b ⟨1024 * (t.val % 4) + r'.val, by omega⟩ ⟨512 * (t.val / 4 % 2) + l'.val, by omega⟩ hb rfl rfl).trans ?_
      refine (v14_apply m c _ _ _).trans ?_
      rw [EReal.coe_mul]
      exact congrArg (fun z : EReal => z * (scaleR : EReal)) (H.q _)
    · refine (iblk2_apply m c t j _ b ⟨κ.val * 256 + d.val, by omega⟩ hb rfl).trans ?_
      exact (v19_apply m c b j κ d _ rfl).trans (H.k _)
    · refine (iblk2_apply m c t j _ b ⟨κ.val * 256 + 128, by omega⟩ hb rfl).trans ?_
      exact v19_one m c b j κ _ rfl
    · refine (iblk3_apply m c t _ j b ⟨κ.val * 144 + 128, by omega⟩ hb rfl).trans ?_
      exact v24_one m c b j κ _ rfl
    · exact (v25_nonneg m c).trans_eq (iblk0_apply m c t).symm
  refine (out_apply D ⟨l.val / 128, by omega⟩ r ⟨l.val / 128 * 1024 + r.val, by omega⟩ rfl ⟨l.val % 128, by omega⟩ l (by show l.val = l.val / 128 * 128 + l.val % 128; omega)).trans ?_
  unfold attn
  refine congrArg₂ mix (funext fun j => ?_) (funext fun j => ?_)
  · unfold score logit
    refine Finset.sum_congr rfl fun d _ => ?_
    refine congrArg₂ (fun a b : EReal => a.toReal * (b.toReal * scaleR)) (congrArg _ ?_) (congrArg _ ?_)
    · refine congrArg (fun z : Fin 2 => ix4 b j z d) (Fin.ext ?_)
      show t.val / 4 % 2 = e.val / 128 / 4
      omega
    · have hd := d.isLt
      refine congr (congr (congrArg (fun (y : Fin 4096) (z : Fin 8) (w : Fin 128) => ix4 b y z w) (Fin.ext ?_)) (Fin.ext ?_)) (Fin.ext ?_)
      · show 1024 * (t.val % 4) + r.val = s.val; omega
      · show (512 * (t.val / 4 % 2) + (l.val / 128 * 128 + d.val)) / 128 = e.val / 128; omega
      · show (512 * (t.val / 4 % 2) + (l.val / 128 * 128 + d.val)) % 128 = d.val; omega
  · refine (iblk3_apply m c t _ j b ⟨κ.val * 144 + l.val % 128, by omega⟩ hb rfl).trans ?_
    refine (v24_apply m c b j κ ⟨l.val % 128, by omega⟩ _ rfl).trans ?_
    refine congrArg _ (congrArg₂ (fun (y : Fin 2) (z : Fin 128) => ix4 b j y z) (Fin.ext ?_) (Fin.ext ?_))
    · show t.val / 4 % 2 = e.val / 512; omega
    · show l.val % 128 = e.val % 128; omega

/-! ## The output array -/

/-- What the output array ends holding. -/
def result (c : Dev nD) : Buf (Elt Ideal) ((c : Thread nD τ).loc main_v26) := fun i : S4x4096x1024.Idx =>
  attn (m ((c : Thread nD τ).loc main_arg0)) (m ((c : Thread nD τ).loc main_arg1)) (m ((c : Thread nD τ).loc main_arg2)) (i 0) (i 1) (i 2)

/-- What point `t` writes back is block `t` of it. -/
theorem flushed_eq (c : Dev nD) (H : Reals m c) (t : Fin cfg0.N) :
    (dats m 0 c).flushed 4 t = ((cfg0.win 4).blk t).view.read (Elt Ideal) (result m c) := by
  show (cfg0.win 4).cut (grid0.coords t) ((dats m 0 c).after 4 t) = _
  rw [after_4]
  have h := (idx_facts t).2.2.2.2
  have hN : cfg0.N = 32 := N_0
  have ht := t.isLt
  refine funext fun (y : S1x1024x512.Idx) => ?_
  rw [View.read_apply]
  have hy0 : (y 0).val < 1 := (y 0).isLt
  have hy1 : (y 1).val < 1024 := (y 1).isLt
  have hy2 : (y 2).val < 512 := (y 2).isLt
  have he : ((cfg0.win 4).blk t).view.emb y = (ix3 (⟨t.val / 8, by omega⟩ : Fin 4) (⟨1024 * (t.val % 4) + (y 1).val, by omega⟩ : Fin 4096)
      (⟨512 * (t.val / 4 % 2) + (y 2).val, by omega⟩ : Fin 1024) : S4x4096x1024.Idx) := by
    funext a
    apply Fin.ext
    match a with
    | ⟨0, _⟩ => show win0_4.index t 0 * 1 + 1 * (y 0).val = t.val / 8; rw [h.1]; omega
    | ⟨1, _⟩ => show win0_4.index t 1 * 1024 + 1 * (y 1).val = 1024 * (t.val % 4) + (y 1).val; rw [h.2.1]; omega
    | ⟨2, _⟩ => show win0_4.index t 2 * 512 + 1 * (y 2).val = 512 * (t.val / 4 % 2) + (y 2).val; rw [h.2.2]; omega
  rw [he]
  have hy : y = ix3 (0 : Fin 1) (y 1) (y 2) := (eq_ix3 y).trans (congrArg (fun z : Fin 1 => ix3 z (y 1) (y 2)) (Subsingleton.elim (α := Fin 1) _ _))
  refine (congrArg (out (iblk m c 0 t) (iblk m c 1 t) (iblk m c 2 t) (iblk m c 3 t)) hy).trans ?_
  exact out_blk m c H t (y 1) (y 2) _ _ _ rfl rfl rfl

theorem cover (i : S4x4096x1024.Idx) : ∃ t : Fin cfg0.N, (cfg0.win 4).flush t = true ∧ i ∈ ((cfg0.win 4).blk t).view.set := by
  have h0 : (i 0 : Nat) < 4 := (i 0).isLt
  have h1 : (i 1 : Nat) < 4096 := (i 1).isLt
  have h2 : (i 2 : Nat) < 1024 := (i 2).isLt
  have hN : cfg0.N = 32 := N_0
  have ht : 8 * (i 0 : Nat) + 4 * ((i 2 : Nat) / 512) + (i 1 : Nat) / 1024 < cfg0.N := by omega
  refine ⟨⟨_, ht⟩, flush0_4 _, ?_⟩
  have h := (idx_facts ⟨_, ht⟩).2.2.2.2
  show i ∈ ((View.whole main_v26).slice (win0_4.rect ⟨_, ht⟩)).set
  rw [View.set_slice_whole, Rect.mem_set_unit]
  intro a
  match a with
  | ⟨0, _⟩ => show win0_4.index ⟨_, ht⟩ 0 * 1 ≤ (i 0 : Nat) ∧ (i 0 : Nat) < win0_4.index ⟨_, ht⟩ 0 * 1 + 1
              rw [h.1]; dsimp only; omega
  | ⟨1, _⟩ => show win0_4.index ⟨_, ht⟩ 1 * 1024 ≤ (i 1 : Nat) ∧ (i 1 : Nat) < win0_4.index ⟨_, ht⟩ 1 * 1024 + 1024
              rw [h.2.1]; dsimp only; omega
  | ⟨2, _⟩ => show win0_4.index ⟨_, ht⟩ 2 * 512 ≤ (i 2 : Nat) ∧ (i 2 : Nat) < win0_4.index ⟨_, ht⟩ 2 * 512 + 512
              rw [h.2.2]; dsimp only; omega

theorem final (c : Dev nD) (H : Reals m c) : (dats m 0 c).arrAt 4 cfg0.N = result m c :=
  (dats m 0 c).arrAt_eq_of_cover 4 (result m c) (fun t _ => flushed_eq m c H t) cover

end Cert.KernelIdeal.Attn.Val

end
-- ==== Proof.Attn.Ref.lean ====
/-
  The attention's reference over the reals: its softmax (base e, scores divided by √128) over the values is the softmax in
  base 2 of the scaled scores.
-/
module

public import proofs.«01_k».proof.Proof.Gen.ReferenceIdeal.Read
public import proofs.«01_k».proof.Proof.Attn.Value

@[expose] public section

noncomputable section

namespace Cert.KernelIdeal.Attn.Val

open Cert.ReferenceIdeal.Gen Cert.ReferenceIdeal.Read
open Idealize.ShloMosaic Idealize.ShloMosaic.ValueIdx

variable (x0 : S4x4096x8x128.Idx → EReal) (x1 x2 : S4x4096x2x128.Idx → EReal)

/-- The reference's score: over `√128`, with base e. -/
def nat (b : Fin 4) (s : Fin 4096) (h : Fin 8) (j : Fin 4096) : ℝ :=
  (∑ d : Fin 128, (x1 (ix4 b j ⟨h.val / 4, by omega⟩ d)).toReal * (x0 (ix4 b s h d)).toReal) * (1 / Real.sqrt 128)

theorem nat_eq (b : Fin 4) (s : Fin 4096) (h : Fin 8) (j : Fin 4096) : nat x0 x1 b s h j = Real.log 2 * logit x0 x1 b s h j := by
  have h2 := log2_pos.ne'
  have h1 := sqrt128_pos.ne'
  unfold nat logit scaleR
  rw [Finset.sum_mul, Finset.mul_sum]
  refine Finset.sum_congr rfl fun d _ => ?_
  field_simp

theorem ref_scale (i : Cert.ReferenceIdeal.S_.Idx) : val_main_v1 (F := Ideal) i = ((1 / Real.sqrt 128 : ℝ) : EReal) := by
  rw [val_main_v1_apply, val_main_v0_apply, val_main_cst_apply, val_main_cst_0_apply]
  show Ideal.div (Ideal.ofBits .f32 0x3F800000#32) (Ideal.sqrt (Ideal.ofBits .f32 0x43000000#32)) = _
  rw [ofBits_128, Ideal.ofBits_one_f32, Ideal.sqrt_coe, if_neg (by norm_num), Ideal.div_coe sqrt128_pos.ne', one_mul]

variable (hq : ∀ i, x0 i = ((x0 i).toReal : EReal)) (hk : ∀ i, x1 i = ((x1 i).toReal : EReal))
include hq hk

theorem ref_score (b : Fin 4) (κ : Fin 2) (g : Fin 4) (t : Fin 4096) (j : Fin 4096) (h : Fin 8) (hh : h.val = κ.val * 4 + g.val) :
    val_main_v6 (F := Ideal) x0 x1 (ix5 b κ g t j) = ((nat x0 x1 b t h j : ℝ) : EReal) := by
  have hb := b.isLt
  have hκ := κ.isLt
  have hg := g.isLt
  have ht := t.isLt
  rw [val_main_v6_apply, val_main_v4_apply, val_main_v5_apply, ref_scale, val_main_v3_apply]
  show (_ : EReal) * _ = _
  unfold nat
  rw [EReal.coe_mul, ← coe_sum]
  refine congrArg (fun z : EReal => z * _) (Finset.sum_congr rfl fun d _ => ?_)
  have hd := d.isLt
  rw [val_main_v2_apply, EReal.coe_mul]
  refine congrArg₂ (fun y z : EReal => y * z) ?_ ?_
  · refine Eq.trans (congrArg x1 ?_) (hk _)
    funext a
    apply Fin.ext
    match a with
    | ⟨0, _⟩ => rfl
    | ⟨1, _⟩ => rfl
    | ⟨2, _⟩ => show κ.val = h.val / 4; omega
    | ⟨3, _⟩ => rfl
  · refine Eq.trans (congrArg x0 ?_) (hq _)
    funext a
    apply Fin.ext
    match a with
    | ⟨0, _⟩ => show ((((b.val * 4096 + t.val) * 2 + κ.val) * 4 + g.val) * 128 + d.val) / 4194304 = b.val; omega
    | ⟨1, _⟩ => show ((((b.val * 4096 + t.val) * 2 + κ.val) * 4 + g.val) * 128 + d.val) / 1024 % 4096 = t.val; omega
    | ⟨2, _⟩ => show ((((b.val * 4096 + t.val) * 2 + κ.val) * 4 + g.val) * 128 + d.val) / 128 % 8 = h.val; omega
    | ⟨3, _⟩ => show ((((b.val * 4096 + t.val) * 2 + κ.val) * 4 + g.val) * 128 + d.val) % 128 = d.val; omega

theorem ref_max (i : Cert.ReferenceIdeal.S4x2x4x4096.Idx) : ∃ M : ℝ, val_main_v9 (F := Ideal) x0 x1 i = (M : EReal) := by
  have real6 : ∀ y : Cert.ReferenceIdeal.S4x2x4x4096x4096.Idx, ∃ r : ℝ, val_main_v6 (F := Ideal) x0 x1 y = (r : EReal) := fun y => by
    have h1 : (y 1).val < 2 := (y 1).isLt
    have h2 : (y 2).val < 4 := (y 2).isLt
    exact ⟨_, (congrArg _ (eq_ix5 y)).trans (ref_score x0 x1 hq hk (y 0) (y 1) (y 2) (y 3) (y 4) ⟨(y 1).val * 4 + (y 2).val, by omega⟩ rfl)⟩
  have h7 : ∃ M : ℝ, val_main_v7 (F := Ideal) x0 x1 i = (M : EReal) := by
    unfold val_main_v7
    rw [Host.reduce_eq_fold_single FloatOps.maximumf _ _ _ (by decide) _ i, val_main_cst_1_apply]
    show ∃ M : ℝ, (Finset.univ : Finset (Fin 4096)).fold max (Ideal.ofBits .f32 0xFF800000#32) _ = _
    rw [ofBits_bot]
    refine fold_max_real (n := 4096) (by norm_num) _ fun j => ?_
    exact real6 _
  obtain ⟨M, hM⟩ := h7
  refine ⟨M, ?_⟩
  rw [val_main_v9_apply, val_main_v8_apply, val_main_cst_2_apply, hM]
  show max (Ideal.ofBits .f32 0xFF800000#32) (M : EReal) = _
  rw [ofBits_bot]
  exact max_eq_right bot_le

theorem ref_apply (b : Fin 4) (s : Fin 4096) (e : Fin 1024) :
    val_main_v21 (F := Ideal) x0 x1 x2 (ix3 b s e) = attn x0 x1 x2 b s e := by
  have hb := b.isLt
  have hs := s.isLt
  have he := e.isLt
  let κ : Fin 2 := ⟨e.val / 512, by omega⟩
  let g : Fin 4 := ⟨e.val / 128 % 4, by omega⟩
  let h : Fin 8 := ⟨e.val / 128, by omega⟩
  let dd : Fin 128 := ⟨e.val % 128, by omega⟩
  have hh : h.val = κ.val * 4 + g.val := by show e.val / 128 = e.val / 512 * 4 + e.val / 128 % 4; omega
  obtain ⟨M, hM⟩ := ref_max x0 x1 hq hk (ix4 b κ g s)
  have hw : ∀ j : Fin 4096, val_main_v13 (F := Ideal) x0 x1 (ix5 b κ g s j)
      = ((Real.exp (-M) * (2 : ℝ) ^ logit x0 x1 b s h j : ℝ) : EReal) := fun j => by
    rw [val_main_v13_apply, val_main_v12_apply, ref_score x0 x1 hq hk b κ g s j h hh, val_main_v11_apply, val_main_v10_apply]
    have hi : val_main_v9 (F := Ideal) x0 x1 (idx_main_v10 (idx_main_v11 (ix5 b κ g s j))) = (M : EReal) := by
      refine Eq.trans (congrArg _ ?_) hM
      funext a
      apply Fin.ext
      match a with
      | ⟨0, _⟩ => rfl
      | ⟨1, _⟩ => rfl
      | ⟨2, _⟩ => rfl
      | ⟨3, _⟩ => rfl
    rw [hi]
    show Ideal.exp ((nat x0 x1 b s h j : EReal) - (M : EReal)) = _
    rw [← EReal.coe_sub, Ideal.exp_coe, nat_eq, Real.rpow_def_of_pos (by norm_num), ← Real.exp_add]
    exact congrArg (fun z : ℝ => ((Real.exp z : ℝ) : EReal)) (by ring)
  have hsum : val_main_v14 (F := Ideal) x0 x1 (ix4 b κ g s)
      = 0 + ∑ j : Fin 4096, ((Real.exp (-M) * (2 : ℝ) ^ logit x0 x1 b s h j : ℝ) : EReal) := by
    have hz : val_main_cst_3 (F := Ideal) (Shape.Idx.first Cert.ReferenceIdeal.Gen.h_S_) = (0 : EReal) := Ideal.ofBits_zero_f32
    rw [val_main_v14_apply, hz]
    refine congrArg (fun z : EReal => 0 + z) (Finset.sum_congr rfl fun j _ => ?_)
    refine Eq.trans (congrArg (val_main_v13 (F := Ideal) x0 x1) ?_) (hw j)
    funext a
    apply Fin.ext
    match a with
    | ⟨0, _⟩ => rfl
    | ⟨1, _⟩ => rfl
    | ⟨2, _⟩ => rfl
    | ⟨3, _⟩ => rfl
    | ⟨4, _⟩ => rfl
  have hdiv : ∀ j : Fin 4096, val_main_v17 (F := Ideal) x0 x1 (ix5 b κ g s j)
      = Ideal.div ((Real.exp (-M) * (2 : ℝ) ^ logit x0 x1 b s h j : ℝ) : EReal)
          (0 + ∑ i : Fin 4096, ((Real.exp (-M) * (2 : ℝ) ^ logit x0 x1 b s h i : ℝ) : EReal)) := fun j => by
    rw [val_main_v17_apply, hw j, val_main_v16_apply, val_main_v15_apply]
    refine congrArg (Ideal.div _) ?_
    refine Eq.trans (congrArg _ ?_) hsum
    funext a
    apply Fin.ext
    match a with
    | ⟨0, _⟩ => rfl
    | ⟨1, _⟩ => rfl
    | ⟨2, _⟩ => rfl
    | ⟨3, _⟩ => rfl
  rw [val_main_v21_apply]
  show val_main_v20 (F := Ideal) x0 x1 x2 (ix3 b s e) = _
  rw [val_main_v20_apply, val_main_v19_apply, val_main_v18_apply]
  unfold attn
  refine Eq.trans (Finset.sum_congr rfl fun j _ => ?_)
    (mix_eq_sum (fun j => x2 (ix4 b j κ dd)) (Real.exp_pos (-M)) (s := logit x0 x1 b s h) (fun j => rfl))
  refine congrArg₂ (fun y z : EReal => y * z) (congrArg x2 ?_) (Eq.trans (congrArg _ ?_) (hdiv j))
  · funext a
    apply Fin.ext
    match a with
    | ⟨0, _⟩ => show ((b.val * 4096 + s.val) * 1024 + e.val) / 4194304 = b.val; omega
    | ⟨1, _⟩ => rfl
    | ⟨2, _⟩ => show ((b.val * 4096 + s.val) * 1024 + e.val) / 512 % 2 = e.val / 512; omega
    | ⟨3, _⟩ => show ((b.val * 4096 + s.val) * 1024 + e.val) % 128 = e.val % 128; omega
  · funext a
    apply Fin.ext
    match a with
    | ⟨0, _⟩ => show ((b.val * 4096 + s.val) * 1024 + e.val) / 4194304 = b.val; omega
    | ⟨1, _⟩ => show ((b.val * 4096 + s.val) * 1024 + e.val) / 512 % 2 = e.val / 512; omega
    | ⟨2, _⟩ => show ((b.val * 4096 + s.val) * 1024 + e.val) / 128 % 4 = e.val / 128 % 4; omega
    | ⟨3, _⟩ => show ((b.val * 4096 + s.val) * 1024 + e.val) / 1024 % 4096 = s.val; omega
    | ⟨4, _⟩ => rfl

end Cert.KernelIdeal.Attn.Val

end
-- ==== Proof.Attn.lean ====
/-
  The attention's call and its reference leave the same array, when the queries and keys are finite.
-/
module

public import proofs.«01_k».proof.Defs
public import proofs.«01_k».proof.Proof.Frames
public import proofs.«01_k».proof.Proof.Attn.Ref
public import Idealize.ShloMosaic.Lib.ReduceAll
public import Idealize.ShloMosaic.Lib.Affine

@[expose] public section

noncomputable section

namespace Cert.Pre_finite_qk

/-- The shape facts the precondition's function takes. -/
theorem facts : Facts where
  bcast_S_S4x4096x8x128 := by decide
  reducesTo_S4x4096x8x128_S_d0_1_2_3 := by decide
  h_S_ := by decide
  bcast_S_S4x4096x2x128 := by decide
  reducesTo_S4x4096x2x128_S_d0_1_2_3 := by decide

end Cert.Pre_finite_qk

namespace Cert.KernelIdeal.Attn.Val

open Cert.KernelIdeal Cert.KernelIdeal.Gen Cert.KernelIdeal.Attn
open Idealize.ShloMosaic Idealize.ShloMosaic.TcCoe Idealize.SL.Sem Idealize.ShloMosaic.ValueIdx

attribute [local instance] Cert.Pre_finite_qk.facts

/-- A value whose absolute value is below infinity is a real. -/
theorem real_of_abs_lt (x : EReal) (h : max x (-x) < ⊤) : x = (x.toReal : EReal) := by
  refine (EReal.coe_toReal ?_ ?_).symm
  · rintro rfl; simp at h
  · rintro rfl; simp at h

theorem ofBits_inf : Ideal.ofBits .f32 0x7F800000#32 = ⊤ := by simp [Ideal.ofBits, Ideal.ieee]

theorem real_of_cmp {s : Shape} (x : FVec Ideal s .f32) (hb : (⟨0, ![]⟩ : Shape).BroadcastsInDim s (![] : Fin 0 → Fin s.rank)) (i : s.Idx)
    (h : cmpf .olt (Host.absf x) (broadcastInDim s ![] hb (constant ⟨0, ![]⟩ .f32 0x7F800000#32)) i = 1#1) :
    (x i : EReal) = ((x i : EReal).toReal : EReal) := by
  refine real_of_abs_lt _ ?_
  have hc : Ideal.cmp .olt (max (x i : EReal) (-(x i : EReal))) (Ideal.ofBits .f32 0x7F800000#32) = 1#1 :=
    (congrArg (Ideal.cmp .olt (max (x i : EReal) (-(x i : EReal)))) (broadcastInDim_scalar_apply hb _ i).symm).trans h
  rw [ofBits_inf] at hc
  by_contra hn
  have : Ideal.cmp .olt (max (x i : EReal) (-(x i : EReal))) ⊤ = 0#1 := by
    show BitVec.ofBool (decide _) = _
    rw [decide_eq_false hn]; rfl
  rw [this] at hc
  exact absurd hc (by decide)

instance : Subsingleton Cert.Pre_finite_qk.S_.Idx := ⟨fun a b => funext fun k => k.elim0⟩

/-- Under the precondition the queries and keys are reals. -/
theorem reals_of_pre (m : (ℓ : Loc nD τ sig) → Buf (Elt Ideal) ℓ) (h : Cert.Pre_KernelIdeal_finite_qk m) (c : Dev nD) : Reals m c := by
  have hc := congrFun (h c) ix0
  obtain ⟨h0, h1⟩ := IntOp.andi_eq_one.1 hc
  exact ⟨fun i => real_of_cmp _ _ i (Host.reduce_andi_all _ _ _ _ _ h0 i), fun i => real_of_cmp _ _ i (Host.reduce_andi_all _ _ _ _ _ h1 i)⟩

/-- The reference's array at the kernel's arguments is the array the kernel leaves. -/
theorem ref_result (m : (ℓ : Loc nD τ sig) → Buf (Elt Ideal) ℓ) (c : Dev nD) (H : Reals m c) :
    Cert.ReferenceIdeal.Read.val_main_v21 (F := Ideal) (m ((c.tc : Thread nD τ).loc main_arg0)) (m ((c.tc : Thread nD τ).loc main_arg1))
      (m ((c.tc : Thread nD τ).loc main_arg2)) = result m c :=
  funext fun i => (congrArg _ (eq_ix3 i)).trans (ref_apply _ _ _ H.q H.k (i 0) (i 1) (i 2))

theorem algebraic : Cert.algebraic_KernelIdeal_ReferenceIdeal_pre_finite_qk := fun m g m' g' hp h =>
  ⟨fun c => result m c,
    (θ_run Cert.KernelIdeal.defs _ _).mono (fun r hr c => ⟨((hr.1 c).1 4).trans (final m c (reals_of_pre m hp c)), hr.2 c⟩)
      (θ_run_and (run_main m g) (frame_of m g (dats m) (A_eq m) (run_main m g))),
    (θ_run Cert.ReferenceIdeal.defs _ _).mono (fun r hr c => ⟨(hr c).1.trans ((Cert.ReferenceIdeal.Read.val_main_v21_eq _ _ _).trans (by
        rw [(h c).1, (h c).2.1, (h c).2.2.1]; exact ref_result m c (reals_of_pre m hp c))), (hr c).2⟩)
      (Cert.ReferenceIdeal.Value.run m' g')⟩

theorem frame_pre : Cert.quiescent_KernelIdeal_pre_finite_qk := fun m ρ _ => Cert.Proof.frame_kernelIdeal m ρ trivial

theorem frame_ref_pre : Cert.quiescent_ReferenceIdeal_pre_finite_qk := fun m ρ _ => Cert.Proof.frame_kernelRef m ρ trivial

end Cert.KernelIdeal.Attn.Val

end
-- ==== Proof.Ffn.Body.lean ====
/-
  The feed-forward kernel's body as a triple, at any values: on staging buffers holding the tokens, the gates and the three weight tiles,
  and on a running sum, it adds this tile's products to the running sum (or starts it, at an expert's first tile), and at an expert's
  last tile it leaves in the output block the sums times the gates.
-/
module

public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import Idealize.ShloMosaic.Lib.Pipeline.FrameBody
public import Idealize.ShloMosaic.Lib.Tactic

@[expose] public section

set_option maxRecDepth 16384

noncomputable section

namespace Cert.FfnIdeal.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The rectangles the body reads and writes -/

abbrev rX0 : Rect S4x1x512x1024 := Rect.unit (s := S4x1x512x1024) ![0, 0, 0, 0] S1x1x512x1024.size inb_S4x1x512x1024_S1x1x512x1024_0_0_0_0
abbrev rX1 : Rect S4x1x512x1024 := Rect.unit (s := S4x1x512x1024) ![1, 0, 0, 0] S1x1x512x1024.size inb_S4x1x512x1024_S1x1x512x1024_1_0_0_0
abbrev rX2 : Rect S4x1x512x1024 := Rect.unit (s := S4x1x512x1024) ![2, 0, 0, 0] S1x1x512x1024.size inb_S4x1x512x1024_S1x1x512x1024_2_0_0_0
abbrev rX3 : Rect S4x1x512x1024 := Rect.unit (s := S4x1x512x1024) ![3, 0, 0, 0] S1x1x512x1024.size inb_S4x1x512x1024_S1x1x512x1024_3_0_0_0
abbrev rA0 : Rect S4x512x1024 := Rect.unit (s := S4x512x1024) ![0, 0, 0] S1x512x1024.size inb_S4x512x1024_S1x512x1024_0_0_0
abbrev rA1 : Rect S4x512x1024 := Rect.unit (s := S4x512x1024) ![1, 0, 0] S1x512x1024.size inb_S4x512x1024_S1x512x1024_1_0_0
abbrev rA2 : Rect S4x512x1024 := Rect.unit (s := S4x512x1024) ![2, 0, 0] S1x512x1024.size inb_S4x512x1024_S1x512x1024_2_0_0
abbrev rA3 : Rect S4x512x1024 := Rect.unit (s := S4x512x1024) ![3, 0, 0] S1x512x1024.size inb_S4x512x1024_S1x512x1024_3_0_0
abbrev rA : Rect S4x512x1024 := Rect.unit (s := S4x512x1024) ![0, 0, 0] S4x512x1024.size inb_S4x512x1024_S4x512x1024_0_0_0
abbrev rG : Rect S4x1x512x1 := Rect.unit (s := S4x1x512x1) ![0, 0, 0, 0] S4x1x512x1.size inb_S4x1x512x1_S4x1x512x1_0_0_0_0
abbrev rW : Rect S1x1x1024x512 := Rect.unit (s := S1x1x1024x512) ![0, 0, 0, 0] S1x1x1024x512.size inb_S1x1x1024x512_S1x1x1024x512_0_0_0_0
abbrev rD : Rect S1x1x512x1024 := Rect.unit (s := S1x1x512x1024) ![0, 0, 0, 0] S1x1x512x1024.size inb_S1x1x512x1024_S1x1x512x1024_0_0_0_0
abbrev rO : Rect S4x1x512x1024 := Rect.unit (s := S4x1x512x1024) ![0, 0, 0, 0] S4x1x512x1024.size inb_S4x1x512x1024_S4x1x512x1024_0_0_0_0

/-! ## What the body computes -/

/-- The running sums of the four batches after a tile, from those before it. -/
def p0 (i : grid0.Coords) (x : Vec F S4x1x512x1024 .bf16) (g u : Vec F S1x1x1024x512 .f32) (d : Vec F S1x1x512x1024 .f32) (s : Vec F S4x512x1024 .f32) : FVec F S1x512x1024 .f32 :=
  k0_pay7 (k0_pay6 i (View.ld g rW) (View.ld u rW) (View.ld d rD) (View.ld x rX0) (View.ld s rA0))
def p1 (i : grid0.Coords) (x : Vec F S4x1x512x1024 .bf16) (g u : Vec F S1x1x1024x512 .f32) (d : Vec F S1x1x512x1024 .f32) (s : Vec F S4x512x1024 .f32) : FVec F S1x512x1024 .f32 :=
  k0_pay8 (BitVec.ofNat 32 (i 1).val) (k0_pay3 (View.ld g rW)) (k0_pay4 (View.ld u rW)) (k0_pay5 (View.ld d rD)) (View.ld x rX1) (View.ld s rA1)
def p2 (i : grid0.Coords) (x : Vec F S4x1x512x1024 .bf16) (g u : Vec F S1x1x1024x512 .f32) (d : Vec F S1x1x512x1024 .f32) (s : Vec F S4x512x1024 .f32) : FVec F S1x512x1024 .f32 :=
  k0_pay12 (BitVec.ofNat 32 (i 1).val) (k0_pay5 (View.ld d rD)) (k0_pay10 (k0_pay3 (View.ld g rW)) (View.ld x rX2)) (k0_pay11 (k0_pay4 (View.ld u rW)) (View.ld x rX2))
    (Scalar.ofBits .f32 0x00000000#32) (View.ld s rA2)
def p3 (i : grid0.Coords) (x : Vec F S4x1x512x1024 .bf16) (g u : Vec F S1x1x1024x512 .f32) (d : Vec F S1x1x512x1024 .f32) (s : Vec F S4x512x1024 .f32) : FVec F S1x512x1024 .f32 :=
  k0_pay1 (k0_pay5 (View.ld d rD)) (k0_pay13 (k0_pay3 (View.ld g rW)) (k0_pay4 (View.ld u rW)) (View.ld x rX3))
    (Scalar.cmpi .eq (BitVec.ofNat 32 (i 1).val) 0#32) (View.ld s rA3)

/-- The running sum after a tile. -/
def step (i : grid0.Coords) (x : Vec F S4x1x512x1024 .bf16) (g u : Vec F S1x1x1024x512 .f32) (d : Vec F S1x1x512x1024 .f32) (s : Vec F S4x512x1024 .f32) : Vec F S4x512x1024 .f32 :=
  View.canon [⟨rA3, p3 i x g u d s⟩, ⟨rA2, p2 i x g u d s⟩, ⟨rA1, p1 i x g u d s⟩, ⟨rA0, p0 i x g u d s⟩]

/-- The output block, from the running sum and the gates. -/
def out (s : Vec F S4x512x1024 .f32) (gs : Vec F S4x1x512x1 .f32) : Vec F S4x1x512x1024 .bf16 :=
  View.canon [⟨rO, k0_pay2 (View.ld s rA) (View.ld gs rG)⟩]

/-- The four batches tile the running sum. -/
theorem cover4 (q0 q1 q2 q3 : Vec F S1x512x1024 .f32) (y : S4x512x1024.Idx) :
    ∃ pc ∈ ([⟨rA3, q3⟩, ⟨rA2, q2⟩, ⟨rA1, q1⟩, ⟨rA0, q0⟩] : List (View.Piece (Elt F) S4x512x1024 .f32)), y ∈ pc.1.set :=
  View.cover_of_tiled [⟨rA3, q3⟩, ⟨rA2, q2⟩, ⟨rA1, q1⟩, ⟨rA0, q0⟩] S1x512x1024.size (by rfl) y

/-- One store covers the output block. -/
theorem cover1 (q : Vec F S4x1x512x1024 .bf16) (y : S4x1x512x1024.Idx) :
    ∃ pc ∈ ([⟨rO, q⟩] : List (View.Piece (Elt F) S4x1x512x1024 .bf16)), y ∈ pc.1.set :=
  View.cover_of_tiled [⟨rO, q⟩] S4x1x512x1024.size (by rfl) y

/-! ## The body's triple, by case -/

set_option maxHeartbeats 1600000 in
/-- Before an expert's last tile the body leaves the output block as it found it. -/
theorem sound_mid (c : Dev nD) (E : Set ℕ) (i : grid0.Coords) (arg2 : Memref sig .tc .vmem S4x1x512x1024 .bf16) (harg2 : arg2.IsWhole)
    (arg3 : Memref sig .tc .vmem S4x1x512x1 .f32) (harg3 : arg3.IsWhole) (arg4 : Memref sig .tc .vmem S1x1x1024x512 .f32) (harg4 : arg4.IsWhole)
    (arg5 : Memref sig .tc .vmem S1x1x1024x512 .f32) (harg5 : arg5.IsWhole) (arg6 : Memref sig .tc .vmem S1x1x512x1024 .f32) (harg6 : arg6.IsWhole)
    (arg7 : Memref sig .tc .vmem S4x1x512x1024 .bf16) (harg7 : arg7.IsWhole) (arg8 : Memref sig .tc .vmem S4x512x1024 .f32) (harg8 : arg8.IsWhole)
    (x : Vec F S4x1x512x1024 .bf16) (gs : Vec F S4x1x512x1 .f32) (g u : Vec F S1x1x1024x512 .f32) (d : Vec F S1x1x512x1024 .f32)
    (s : Vec F S4x512x1024 .f32) (hc : ¬ k0_cond1 i = 1#1) (K : PUnit → sProp 𝕄) :
    iprop(owns (c : Thread nD τ) arg2 fullShare x ∗ owns (c : Thread nD τ) arg4 fullShare g
        ∗ owns (c : Thread nD τ) arg5 fullShare u ∗ owns (c : Thread nD τ) arg6 fullShare d ∗ owns (c : Thread nD τ) arg8 fullShare s
        ∗ (iprop(owns (c : Thread nD τ) arg2 fullShare x ∗ owns (c : Thread nD τ) arg4 fullShare g
            ∗ owns (c : Thread nD τ) arg5 fullShare u ∗ owns (c : Thread nD τ) arg6 fullShare d ∗ owns (c : Thread nD τ) arg8 fullShare (step i x g u d s)) -∗ K ⟨⟩))
      ⊢ wp frame (wpE (defs₀ (F := F)) Variants.none c none) E
          (cc0_ffn i arg2 harg2 arg3 harg3 arg4 harg4 arg5 harg5 arg6 harg6 arg7 harg7 arg8 harg8) K := by
  simp only [cc0_ffn_eq_skeleton]; unfold cc0_ffn_skel
  simp only [k0_part1_eq_skeleton, k0_part2_eq_skeleton, k0_part3_eq_skeleton]
  unfold k0_part1_skel k0_part2_skel k0_part3_skel
  unfold owns
  iintro ⟨⟨%f2, %hf2, H2⟩, ⟨%f4, %hf4, H4⟩, ⟨%f5, %hf5, H5⟩, ⟨%f6, %hf6, H6⟩, ⟨%f8, %hf8, H8⟩, Hk⟩
  subst hf2 hf4 hf5 hf6 hf8
  sl_exec (disch := sl_exact hc)
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  exact View.read_writes_eq_canon _ _ _ (cover4 _ _ _ _)

set_option maxHeartbeats 1600000 in
/-- At an expert's last tile it also leaves the output block. -/
theorem sound_last (c : Dev nD) (E : Set ℕ) (i : grid0.Coords) (arg2 : Memref sig .tc .vmem S4x1x512x1024 .bf16) (harg2 : arg2.IsWhole)
    (arg3 : Memref sig .tc .vmem S4x1x512x1 .f32) (harg3 : arg3.IsWhole) (arg4 : Memref sig .tc .vmem S1x1x1024x512 .f32) (harg4 : arg4.IsWhole)
    (arg5 : Memref sig .tc .vmem S1x1x1024x512 .f32) (harg5 : arg5.IsWhole) (arg6 : Memref sig .tc .vmem S1x1x512x1024 .f32) (harg6 : arg6.IsWhole)
    (arg7 : Memref sig .tc .vmem S4x1x512x1024 .bf16) (harg7 : arg7.IsWhole) (arg8 : Memref sig .tc .vmem S4x512x1024 .f32) (harg8 : arg8.IsWhole)
    (x : Vec F S4x1x512x1024 .bf16) (gs : Vec F S4x1x512x1 .f32) (g u : Vec F S1x1x1024x512 .f32) (d : Vec F S1x1x512x1024 .f32)
    (s : Vec F S4x512x1024 .f32) (hc : k0_cond1 i = 1#1) (K : PUnit → sProp 𝕄) :
    iprop(owns (c : Thread nD τ) arg2 fullShare x ∗ owns (c : Thread nD τ) arg3 fullShare gs ∗ owns (c : Thread nD τ) arg4 fullShare g
        ∗ owns (c : Thread nD τ) arg5 fullShare u ∗ owns (c : Thread nD τ) arg6 fullShare d ∗ owns (c : Thread nD τ) arg8 fullShare s
        ∗ (∃ z, owns (c : Thread nD τ) arg7 fullShare z)
        ∗ (iprop(owns (c : Thread nD τ) arg2 fullShare x ∗ owns (c : Thread nD τ) arg3 fullShare gs ∗ owns (c : Thread nD τ) arg4 fullShare g
            ∗ owns (c : Thread nD τ) arg5 fullShare u ∗ owns (c : Thread nD τ) arg6 fullShare d ∗ owns (c : Thread nD τ) arg8 fullShare (step i x g u d s)
            ∗ owns (c : Thread nD τ) arg7 fullShare (out (step i x g u d s) gs)) -∗ K ⟨⟩))
      ⊢ wp frame (wpE (defs₀ (F := F)) Variants.none c none) E
          (cc0_ffn i arg2 harg2 arg3 harg3 arg4 harg4 arg5 harg5 arg6 harg6 arg7 harg7 arg8 harg8) K := by
  simp only [cc0_ffn_eq_skeleton]; unfold cc0_ffn_skel
  simp only [k0_part1_eq_skeleton, k0_part2_eq_skeleton, k0_part3_eq_skeleton]
  unfold k0_part1_skel k0_part2_skel k0_part3_skel
  unfold owns
  iintro ⟨⟨%f2, %hf2, H2⟩, ⟨%f3, %hf3, H3⟩, ⟨%f4, %hf4, H4⟩, ⟨%f5, %hf5, H5⟩, ⟨%f6, %hf6, H6⟩, ⟨%f8, %hf8, H8⟩, ⟨%z7, %f7, -, H7⟩, Hk⟩
  subst hf2 hf3 hf4 hf5 hf6 hf8
  sl_exec (disch := sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists _; isplitr
    swap; · iexact H8
    ipureintro
    exact View.read_writes_eq_canon _ _ _ (cover4 _ _ _ _)
  iexists _; isplitr
  swap; · iexact H7
  ipureintro
  refine (View.read_writes_eq_canon _ _ _ (cover1 _)).trans ?_
  unfold out
  refine congrArg (fun q => View.canon [(⟨rO, q⟩ : View.Piece (Elt F) S4x1x512x1024 .bf16)]) (congrArg₂ k0_pay2 ?_ ?_)
  · unfold sound_last.sl.v108
    exact View.readCov_eq_canon_ld _ _ rA (cover4 _ _ _ _)
  · rfl

end Cert.FfnIdeal.Ffn

end
-- ==== Proof.Ffn.Run.lean ====
/-
  The feed-forward kernel's run, at any values: its body's triples (Body.lean) at every grid point, with the running sum tracked from point
  to point, give the launch, the frame, and what the output array holds at the end.
-/
module

public import proofs.«01_k».proof.Proof.Ffn.Body
public import Idealize.ShloMosaic.Lib.Claim

@[expose] public section

set_option maxRecDepth 16384

noncomputable section

namespace Cert.FfnIdeal.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid's points -/

/-- Point `t`'s tile is `t mod 4`, -/
theorem tile_eq : ∀ t : Fin cfg0.N, ((grid0.coords t) 1).val = t.val % 4 := (by decide +kernel : ∀ t : Fin grid0.N, _)
/-- and the output is stored at the last of the four. -/
theorem cond_iff : ∀ t : Fin cfg0.N, k0_cond1 (grid0.coords t) = 1#1 ↔ t.val % 4 = 3 := (by decide +kernel : ∀ t : Fin grid0.N, _)

/-- At a first tile the running sum found does not matter. -/
theorem step_first (i : grid0.Coords) (h : (i 1).val = 0) (x : Vec F S4x1x512x1024 .bf16) (g u : Vec F S1x1x1024x512 .f32) (d : Vec F S1x1x512x1024 .f32)
    (s s' : Vec F S4x512x1024 .f32) : step i x g u d s = step i x g u d s' := by
  have e0 : p0 i x g u d s = p0 i x g u d s' := by
    unfold p0 k0_pay6; rw [h]; rfl
  have e1 : p1 i x g u d s = p1 i x g u d s' := by
    unfold p1 k0_pay8; rw [h]; rfl
  have e2 : p2 i x g u d s = p2 i x g u d s' := by
    unfold p2 k0_pay12; rw [h]; rfl
  have e3 : p3 i x g u d s = p3 i x g u d s' := by
    unfold p3 k0_pay1; rw [h]; rfl
  unfold step
  rw [e0, e1, e2, e3]

variable (m : (ℓ : Loc nD τ sig) → Buf (Elt F) ℓ) (ρ : Dev nD → PrngReg)

/-- The running sum after the body at point `t`, if it was `s` before. -/
def stepAt (c : Dev nD) (t : Fin cfg0.N) (s : Vec F S4x512x1024 .f32) : Vec F S4x512x1024 .f32 :=
  step (grid0.coords t) (iblk m c 0 t) (iblk m c 2 t) (iblk m c 3 t) (iblk m c 4 t) s

/-- The running sum after `n` points. -/
def acc (c : Dev nD) : ℕ → Vec F S4x512x1024 .f32
  | 0 => constant S4x512x1024 .f32 0x00000000#32
  | n + 1 => if h : n < cfg0.N then stepAt m c ⟨n, h⟩ (acc c n) else acc c n

theorem acc_succ (c : Dev nD) (t : Fin cfg0.N) : acc m c (t.val + 1) = stepAt m c t (acc m c t.val) := by
  rw [acc, dif_pos t.isLt]

/-- Before point `n` the running sum's buffer holds `acc n`, but at an expert's first tile anything. -/
def Inv (c : Dev nD) (n : ℕ) : sProp 𝕄 :=
  iprop((∃ s, ⌜n % 4 ≠ 0 → s = acc m c n⌝ ∗ owns (c : Thread nD τ) (Memref.whole cc0_scratch0) fullShare s) ∗ ∃ r, prngReg c r)

/-- The proof data: each array as the region finds it; after a point the five inputs' buffers hold their blocks and the output's, where
    the point stores it, the block of the running sum and the gates. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (acc m c (t.val + 1)) (iblk m c 1 t)
  Φ t := Inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = out (acc m c (t.val + 1)) (iblk m c 1 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns, the output's buffer being `o`. -/
def bodyPost (c : Dev nD) (t : Fin cfg0.N) (o : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ o)

/-- The running sum after a point, whatever was found at an expert's first tile. -/
theorem stepAt_eq (c : Dev nD) (t : Fin cfg0.N) (s : Vec F S4x512x1024 .f32) (hs : t.val % 4 ≠ 0 → s = acc m c t.val) :
    stepAt m c t s = acc m c (t.val + 1) := by
  rw [acc_succ]
  by_cases h : t.val % 4 = 0
  · exact step_first _ ((tile_eq t).trans h) _ _ _ _ _ _
  · rw [hs h]

theorem sound_body_mid (c : Dev nD) (t : Fin cfg0.N) (hc : ¬ k0_cond1 (grid0.coords t) = 1#1) :
    bodyPre m c t ⊢ wp frame (wpE (defs₀ (F := F)) Variants.none c none) Set.univ (bodyAt0 t)
      (fun _ => bodyPost m c t iprop(∃ d, owns (c : Thread nD τ) (st0_5 t) fullShare ((dats m 0 c).before 5 t d))) := by
  unfold bodyPre bodyPost bodyAt0
  simp only [before_0, before_1, before_2, before_3, before_4]
  rw [show (dats m 0 c).owesAt () t.succ = (dats m 0 c).owesAt () t.castSucc from rfl,
    show (dats m 0 c).Φ t.succ = Inv m c (t.val + 1) from rfl, show (dats m 0 c).Φ t.castSucc = Inv m c t.val from rfl,
    after_0, after_1, after_2, after_3, after_4]
  unfold Inv
  iintro ⟨⟨⟨%s, %hs, Hs⟩, Hr⟩, Ho, ⟨%d0, H0⟩, ⟨%d1, H1⟩, ⟨%d2, H2⟩, ⟨%d3, H3⟩, ⟨%d4, H4⟩, ⟨%d5, H5⟩⟩
  iapply (sound_mid c Set.univ (grid0.coords t) _ _ _ _ _ _ _ _ _ _ _ _ _ _ (iblk m c 0 t) (iblk m c 1 t) (iblk m c 2 t) (iblk m c 3 t) (iblk m c 4 t) s hc _)
  isplitl [H0]; · iexact H0
  isplitl [H2]; · iexact H2
  isplitl [H3]; · iexact H3
  isplitl [H4]; · iexact H4
  isplitl [Hs]; · iexact Hs
  iintro ⟨H0, H2, H3, H4, Hs⟩
  isplitl [Hs Hr]
  · isplitl [Hs]
    · iexists (stepAt m c t s)
      isplitr; · ipureintro; exact fun _ => stepAt_eq m c t s hs
      iexact Hs
    iexact Hr
  isplitl [Ho]; · iexact Ho
  isplitl [H0]; · iexact H0
  isplitl [H1]; · iexact H1
  isplitl [H2]; · iexact H2
  isplitl [H3]; · iexact H3
  isplitl [H4]; · iexact H4
  iexists d5; iexact H5

theorem sound_body_last (c : Dev nD) (t : Fin cfg0.N) (hc : k0_cond1 (grid0.coords t) = 1#1) :
    bodyPre m c t ⊢ wp frame (wpE (defs₀ (F := F)) Variants.none c none) Set.univ (bodyAt0 t)
      (fun _ => bodyPost m c t (owns (c : Thread nD τ) (st0_5 t) fullShare ((dats m 0 c).after 5 t))) := by
  unfold bodyPre bodyPost bodyAt0
  simp only [before_0, before_1, before_2, before_3, before_4]
  rw [show (dats m 0 c).owesAt () t.succ = (dats m 0 c).owesAt () t.castSucc from rfl,
    show (dats m 0 c).Φ t.succ = Inv m c (t.val + 1) from rfl, show (dats m 0 c).Φ t.castSucc = Inv m c t.val from rfl,
    after_0, after_1, after_2, after_3, after_4, after_5]
  unfold Inv
  iintro ⟨⟨⟨%s, %hs, Hs⟩, Hr⟩, Ho, ⟨%d0, H0⟩, ⟨%d1, H1⟩, ⟨%d2, H2⟩, ⟨%d3, H3⟩, ⟨%d4, H4⟩, ⟨%d5, H5⟩⟩
  rw [← stepAt_eq m c t s hs]
  iapply (sound_last c Set.univ (grid0.coords t) _ _ _ _ _ _ _ _ _ _ _ _ _ _ (iblk m c 0 t) (iblk m c 1 t) (iblk m c 2 t) (iblk m c 3 t) (iblk m c 4 t) s hc _)
  isplitl [H0]; · iexact H0
  isplitl [H1]; · iexact H1
  isplitl [H2]; · iexact H2
  isplitl [H3]; · iexact H3
  isplitl [H4]; · iexact H4
  isplitl [Hs]; · iexact Hs
  isplitl [H5]; · iexists _; iexact H5
  iintro ⟨H0, H1, H2, H3, H4, Hs, H5⟩
  isplitl [Hs Hr]
  · isplitl [Hs]
    · iexists (stepAt m c t s)
      isplitr; · ipureintro; exact fun _ => rfl
      iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

theorem defs_row (t : Fin cfg0.N) : defs₀ (F := F) .tc cfg0.body (cfg0.bodyArgs t (cfg0.slots t)) = bodyAt0 t := by
  unfold defs₀; rw [Defs.onTc_tc]

theorem idle_mid (t : Fin cfg0.N) (hc : ¬ k0_cond1 (grid0.coords t) = 1#1) : cfg0.idle 5 (cfg0.grid.coords t) = true := by
  show (!(k0_cond1 (grid0.coords t) == 1#1)) = true
  rw [beq_eq_false_iff_ne.mpr hc]; rfl
theorem idle_last (t : Fin cfg0.N) (hc : k0_cond1 (grid0.coords t) = 1#1) : cfg0.idle 5 (cfg0.grid.coords t) = false := by
  show (!(k0_cond1 (grid0.coords t) == 1#1)) = false
  rw [hc]; rfl
theorem flush_mid (t : Fin cfg0.N) (hc : ¬ k0_cond1 (grid0.coords t) = 1#1) : (cfg0.win 5).flush t = false :=
  Bool.eq_false_iff.mpr fun h => hc ((cond_iff t).mpr ((flush0_5 t).mp h))

theorem body_obligation (c : Dev nD) : BodyObligation (dats (F := F) m 0 c) (defs₀ (F := F)) Variants.none () Set.univ := fun t => by
  rw [bigSep_W0, bigSep_W0, defs_row]
  by_cases hc : k0_cond1 (grid0.coords t) = 1#1
  · rewrite [idle_last t hc]
    exact triple_restated (sound_body_last m c t hc) rfl .rfl fun _ => .rfl
  · rewrite [idle_mid t hc, flush_mid t hc]
    exact triple_restated (sound_body_mid m c t hc) rfl .rfl fun _ => .rfl

/-- Entering the loop, the running sum's buffer holds anything, -/
theorem inv_in (c : Dev nD) : Pipeline.ΦA spec0 c ⊢ (dats (F := F) m 0 c).Φ 0 := by
  rw [show (dats m 0 c).Φ 0 = Inv m c 0 from rfl]
  unfold Pipeline.ΦA Inv
  rw [scopedRest0_eq]
  simp only [owns_whole]
  iintro ⟨⟨%f, Hf⟩, Hr⟩
  isplitl [Hf]
  · iexists f
    isplitr; · ipureintro; exact fun h => absurd rfl h
    iexact Hf
  iexact Hr

/-- and leaving it, what it holds is forgotten. -/
theorem inv_out (c : Dev nD) : (dats (F := F) m 0 c).Φ (Fin.last cfg0.N) ⊢ Pipeline.ΦA spec0 c := by
  rw [show (dats m 0 c).Φ (Fin.last cfg0.N) = Inv m c cfg0.N from rfl]
  unfold Pipeline.ΦA Inv
  rw [scopedRest0_eq]
  simp only [owns_whole]
  iintro ⟨⟨%s, -, Hf⟩, Hr⟩
  isplitl [Hf]
  · iexists s; iexact Hf
  iexact Hr

set_option backward.isDefEq.respectTransparency.types false in
set_option maxHeartbeats 800000 in
/-- The launch, with every semaphore counter at zero at every final state. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution terminates with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_main_quiescent m ρ))

end Cert.FfnIdeal.Ffn

end
-- ==== Proof.Ffn.Pay.lean ====
/-
  What the feed-forward kernel's body computes over the reals, element by element: one tile's step of the running sum, and the output block.
-/
module

public import proofs.«01_k».proof.Proof.Ffn.Run
public import Idealize.ShloMosaic.Lib.MatmulPlain
public import Idealize.ShloMosaic.Lib.ValueIdx
public import Idealize.ShloMosaic.Lib.IdealHost
public import Idealize.ShloMosaic.Lib.Pipeline.Value
public import Idealize.ShloMosaic.Lib.Pipeline.ValueKit.Tiles
public import Idealize.ShloMosaic.PureOps.Ideal.Laws

@[expose] public section

noncomputable section

namespace Cert.FfnIdeal.Ffn

open Cert.FfnIdeal Cert.FfnIdeal.Gen
open Idealize.ShloMosaic Idealize.ShloMosaic.TcCoe Idealize.SL.Sem Idealize.ShloMosaic.ValueIdx

/-- The gated hidden unit, from its gate's projection and its value's. -/
def unit (a u : EReal) : EReal := a * Ideal.div 1 (1 + Ideal.exp (-a)) * u

/-! ## The payloads at an index -/

theorem pay3_apply (v : Vec Ideal S1x1x1024x512 .f32) (k : Fin 1024) (j : Fin 512) :
    (k0_pay3 v : FVec Ideal S1024x512 .bf16) (ix2 k j) = v (ix4 0 0 k j) := by
  unfold k0_pay3
  show shapeCast S1024x512 v shapeCasts_S1x1x1024x512_S1024x512 (ix2 k j) = _
  refine shapeCast_apply _ _ (ix2 k j) (ix4 0 0 k j) ?_
  rewrite [Shape.rowMajor_val_four, Shape.rowMajor_val_two]
  show ((0 * 1 + 0) * 1024 + k.val) * 512 + j.val = k.val * 512 + j.val
  omega

theorem pay4_apply (v : Vec Ideal S1x1x1024x512 .f32) (k : Fin 1024) (j : Fin 512) :
    (k0_pay4 v : FVec Ideal S1024x512 .bf16) (ix2 k j) = v (ix4 0 0 k j) := pay3_apply v k j

theorem pay5_apply (v : Vec Ideal S1x1x512x1024 .f32) (k : Fin 512) (l : Fin 1024) :
    (k0_pay5 v : FVec Ideal S512x1024 .bf16) (ix2 k l) = v (ix4 0 0 k l) := by
  unfold k0_pay5
  show shapeCast S512x1024 v shapeCasts_S1x1x512x1024_S512x1024 (ix2 k l) = _
  refine shapeCast_apply _ _ (ix2 k l) (ix4 0 0 k l) ?_
  rewrite [Shape.rowMajor_val_four, Shape.rowMajor_val_two]
  show ((0 * 1 + 0) * 512 + k.val) * 1024 + l.val = k.val * 1024 + l.val
  omega

/-- The hidden units of one batch's rows in a tile. -/
theorem pay13_apply (wg wu : FVec Ideal S1024x512 .bf16) (x : Vec Ideal S1x1x512x1024 .bf16) (r : Fin 512) (j : Fin 512) :
    (k0_pay13 wg wu x : FVec Ideal S512x512 .bf16) (ix2 r j)
      = unit (∑ k : Fin 1024, (x (ix4 0 0 r k) * wg (ix2 k j) : EReal)) (∑ k : Fin 1024, (x (ix4 0 0 r k) * wu (ix2 k j) : EReal)) := by
  have hx : ∀ k : Fin 1024, shapeCast S512x1024 x shapeCasts_S1x1x512x1024_S512x1024 (ix2 r k) = x (ix4 0 0 r k) := fun k => by
    refine shapeCast_apply _ _ (ix2 r k) (ix4 0 0 r k) ?_
    rewrite [Shape.rowMajor_val_four, Shape.rowMajor_val_two]
    show ((0 * 1 + 0) * 512 + r.val) * 1024 + k.val = r.val * 1024 + k.val
    omega
  have hm : ∀ w : FVec Ideal S1024x512 .bf16, (matmul dot_S512x1024_S1024x512_S512x512_1_0_0_1_n_n none (shapeCast S512x1024 x shapeCasts_S1x1x512x1024_S512x1024 : FVec Ideal S512x1024 .bf16) w
      (constant S512x512 .f32 0x00000000#32) : FVec Ideal S512x512 .f32) (ix2 r j) = ∑ k : Fin 1024, (x (ix4 0 0 r k) * w (ix2 k j) : EReal) := fun w => by
    refine (Ideal.matmul_plain_apply (φ₁ := .bf16) (φ₂ := .bf16) none _ w _ r j).trans ?_
    rw [show (constant S512x512 .f32 0x00000000#32 : FVec Ideal S512x512 .f32) (ix2 r j) = (0 : EReal) from Ideal.ofBits_zero_f32, zero_add]
    exact Finset.sum_congr rfl fun k _ => congrArg (fun y : EReal => y * w (ix2 k j)) (hx k)
  have h1 : (Scalar.ofBits (F := Ideal) .f32 0x3F800000#32 : EReal) = 1 := Ideal.ofBits_one_f32
  have h0 : (Scalar.ofBits (F := Ideal) .f32 0x00000000#32 : EReal) = 0 := Ideal.ofBits_zero_f32
  have he : ∀ (a : FVec Ideal S512x512 .f32) i, exp a i = Ideal.exp (a i) := fun _ _ => rfl
  unfold k0_pay13 unit
  show (mulf (F := Ideal) (φ := .f32) (mulf (F := Ideal) (φ := .f32) _ (divf (F := Ideal) (φ := .f32) _ _)) _ : FVec Ideal S512x512 .f32) (ix2 r j) = _
  simp only [mulf_apply, divf_apply, addf_apply, subf_apply, he, hm, broadcast_apply, h0, h1, zero_sub]

/-- One tile's step of the running sum of one batch: at an expert's first tile from zero, at the others from what it held. -/
theorem pay1_apply (wd : FVec Ideal S512x1024 .bf16) (h : FVec Ideal S512x512 .bf16) (b : BitVec 1) (s : Vec Ideal S1x512x1024 .f32) (r : Fin 512) (l : Fin 1024) :
    (k0_pay1 wd h b s : FVec Ideal S1x512x1024 .f32) (ix3 0 r l)
      = (if b = 1 then 0 else s (ix3 0 r l) : EReal) + ∑ j : Fin 512, (h (ix2 r j) * wd (ix2 j l) : EReal) := by
  have hs : shapeCast S512x1024 s shapeCasts_S1x512x1024_S512x1024 (ix2 r l) = s (ix3 0 r l) := by
    refine shapeCast_apply _ _ (ix2 r l) (ix3 0 r l) ?_
    rewrite [Shape.rowMajor_val_three, Shape.rowMajor_val_two]
    show (0 * 512 + r.val) * 1024 + l.val = r.val * 1024 + l.val
    omega
  have hm : (matmul dot_S512x512_S512x1024_S512x1024_1_0_0_1_n_n none h wd
      (constant S512x1024 .f32 0x00000000#32) : FVec Ideal S512x1024 .f32) (ix2 r l) = ∑ j : Fin 512, (h (ix2 r j) * wd (ix2 j l) : EReal) := by
    refine (Ideal.matmul_plain_apply (φ₁ := .bf16) (φ₂ := .bf16) none h wd _ r l).trans ?_
    rw [show (constant S512x1024 .f32 0x00000000#32 : FVec Ideal S512x1024 .f32) (ix2 r l) = (0 : EReal) from Ideal.ofBits_zero_f32, zero_add]
  have h0 : (Scalar.ofBits (F := Ideal) .f32 0x00000000#32 : EReal) = 0 := Ideal.ofBits_zero_f32
  unfold k0_pay1
  refine (shapeCast_apply _ shapeCasts_S512x1024_S1x512x1024 (ix3 0 r l) (ix2 r l) ?_).trans ?_
  · rewrite [Shape.rowMajor_val_three, Shape.rowMajor_val_two]
    show r.val * 1024 + l.val = (0 * 512 + r.val) * 1024 + l.val
    omega
  rw [addf_apply, hm]
  refine congrArg (fun y : EReal => y + ∑ j : Fin 512, (h (ix2 r j) * wd (ix2 j l) : EReal)) ?_
  unfold Scalar.select
  by_cases hb : b = 1
  · rw [if_pos hb, if_pos hb, broadcast_apply, h0]
  · rw [if_neg hb, if_neg hb, hs]

/-! ## The step at an index -/

theorem p0_eq (i : grid0.Coords) (x : Vec Ideal S4x1x512x1024 .bf16) (g u : Vec Ideal S1x1x1024x512 .f32) (d : Vec Ideal S1x1x512x1024 .f32) (s : Vec Ideal S4x512x1024 .f32) :
    p0 i x g u d s = k0_pay1 (k0_pay5 (View.ld d rD)) (k0_pay13 (k0_pay3 (View.ld g rW)) (k0_pay4 (View.ld u rW)) (View.ld x rX0))
      (Scalar.cmpi .eq (BitVec.ofNat 32 (i 1).val) 0#32) (View.ld s rA0) := rfl
theorem p1_eq (i : grid0.Coords) (x : Vec Ideal S4x1x512x1024 .bf16) (g u : Vec Ideal S1x1x1024x512 .f32) (d : Vec Ideal S1x1x512x1024 .f32) (s : Vec Ideal S4x512x1024 .f32) :
    p1 i x g u d s = k0_pay1 (k0_pay5 (View.ld d rD)) (k0_pay13 (k0_pay3 (View.ld g rW)) (k0_pay4 (View.ld u rW)) (View.ld x rX1))
      (Scalar.cmpi .eq (BitVec.ofNat 32 (i 1).val) 0#32) (View.ld s rA1) := rfl
theorem p2_eq (i : grid0.Coords) (x : Vec Ideal S4x1x512x1024 .bf16) (g u : Vec Ideal S1x1x1024x512 .f32) (d : Vec Ideal S1x1x512x1024 .f32) (s : Vec Ideal S4x512x1024 .f32) :
    p2 i x g u d s = k0_pay1 (k0_pay5 (View.ld d rD)) (k0_pay13 (k0_pay3 (View.ld g rW)) (k0_pay4 (View.ld u rW)) (View.ld x rX2))
      (Scalar.cmpi .eq (BitVec.ofNat 32 (i 1).val) 0#32) (View.ld s rA2) := rfl

/-- The hidden unit of batch `b`, row `r`, at the tile's lane `j`. -/
def hidT (x : Vec Ideal S4x1x512x1024 .bf16) (g u : Vec Ideal S1x1x1024x512 .f32) (b : Fin 4) (r j : Fin 512) : EReal :=
  unit (∑ k : Fin 1024, (x (ix4 b 0 r k) * g (ix4 0 0 k j) : EReal)) (∑ k : Fin 1024, (x (ix4 b 0 r k) * u (ix4 0 0 k j) : EReal))

/-- The running sum after a tile at batch `b`, row `r`, lane `l`. -/
def stepEl (i : grid0.Coords) (x : Vec Ideal S4x1x512x1024 .bf16) (g u : Vec Ideal S1x1x1024x512 .f32) (d : Vec Ideal S1x1x512x1024 .f32) (s : Vec Ideal S4x512x1024 .f32)
    (b : Fin 4) (r : Fin 512) (l : Fin 1024) : EReal :=
  (if Scalar.cmpi .eq (BitVec.ofNat 32 (i 1).val) 0#32 = 1 then 0 else s (ix3 b r l) : EReal) + ∑ j : Fin 512, hidT x g u b r j * d (ix4 0 0 j l)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

theorem piece (i : grid0.Coords) (x : Vec Ideal S4x1x512x1024 .bf16) (g u : Vec Ideal S1x1x1024x512 .f32) (d : Vec Ideal S1x1x512x1024 .f32) (s : Vec Ideal S4x512x1024 .f32)
    (b : Fin 4) (xb : Vec Ideal S1x1x512x1024 .bf16) (sb : Vec Ideal S1x512x1024 .f32)
    (hx : ∀ r k, xb (ix4 0 0 r k) = x (ix4 b 0 r k)) (hs : ∀ r l, sb (ix3 0 r l) = s (ix3 b r l)) (r : Fin 512) (l : Fin 1024) :
    (k0_pay1 (k0_pay5 (View.ld d rD)) (k0_pay13 (k0_pay3 (View.ld g rW)) (k0_pay4 (View.ld u rW)) xb)
      (Scalar.cmpi .eq (BitVec.ofNat 32 (i 1).val) 0#32) sb : FVec Ideal S1x512x1024 .f32) (ix3 0 r l) = stepEl i x g u d s b r l := by
  rw [pay1_apply, hs]
  unfold stepEl hidT
  refine congrArg (fun y : EReal => (if Scalar.cmpi .eq (BitVec.ofNat 32 (i 1).val) 0#32 = 1 then 0 else s (ix3 b r l) : EReal) + y) (Finset.sum_congr rfl fun j _ => ?_)
  rw [pay13_apply, pay5_apply, View.ld_unit_zero (S := S1x1x512x1024) hz4, View.ld_unit_zero (S := S1x1x1024x512) hz4, View.ld_unit_zero (S := S1x1x1024x512) hz4]
  refine congrArg₂ (fun y z : EReal => unit y z * d (ix4 0 0 j l)) (Finset.sum_congr rfl fun k _ => ?_) (Finset.sum_congr rfl fun k _ => ?_)
  · rw [hx, pay3_apply]
  · rw [hx, pay4_apply]

theorem step_apply (i : grid0.Coords) (x : Vec Ideal S4x1x512x1024 .bf16) (g u : Vec Ideal S1x1x1024x512 .f32) (d : Vec Ideal S1x1x512x1024 .f32) (s : Vec Ideal S4x512x1024 .f32)
    (b : Fin 4) (r : Fin 512) (l : Fin 1024) : step i x g u d s (ix3 b r l) = stepEl i x g u d s b r l := by
  unfold step
  refine View.canon_apply_of_pieces (Val := Elt Ideal) (S := S4x512x1024) (e := .f32) (fun y : S4x512x1024.Idx => stepEl i x g u d s (y 0) (y 1) (y 2)) _ ?_ (ix3 b r l) (cover4 _ _ _ _ _)
  intro pc hpc
  simp only [List.mem_cons, List.not_mem_nil, or_false] at hpc
  have hy0 : ∀ y : S1x512x1024.Idx, y = ix3 0 (y 1) (y 2) := fun y => (eq_ix3 y).trans (congrArg (fun q : Fin 1 => ix3 q (y 1) (y 2)) (Fin.eq_zero (y 0 : Fin 1)))
  rcases hpc with rfl | rfl | rfl | rfl
  · refine fun (y : S1x512x1024.Idx) => ?_
    have e : rA3.emb y = (ix3 3 (y 1) (y 2) : S4x512x1024.Idx) := funext fun a => Fin.ext (match a with
      | ⟨0, _⟩ => by show 3 + 1 * (y 0).val = 3; have : (y 0).val < 1 := (y 0).isLt; omega
      | ⟨1, _⟩ => by show 0 + 1 * (y 1).val = (y 1).val; omega
      | ⟨2, _⟩ => by show 0 + 1 * (y 2).val = (y 2).val; omega)
    show p3 i x g u d s y = (fun y : S4x512x1024.Idx => stepEl i x g u d s (y 0) (y 1) (y 2)) (rA3.emb y)
    rw [e]
    refine (congrArg (p3 i x g u d s) (hy0 y)).trans ?_
    unfold p3
    exact piece i x g u d s 3 _ _ (fun r k => View.ld_unit_apply_of x _ _ _ (ix4 0 0 r k) (ix4 3 0 r k) (fun a => match a with
        | ⟨0, _⟩ => rfl | ⟨1, _⟩ => rfl | ⟨2, _⟩ => (Nat.zero_add _).symm | ⟨3, _⟩ => (Nat.zero_add _).symm))
      (fun r l => View.ld_unit_apply_of s _ _ _ (ix3 0 r l) (ix3 3 r l) (fun a => match a with
        | ⟨0, _⟩ => rfl | ⟨1, _⟩ => (Nat.zero_add _).symm | ⟨2, _⟩ => (Nat.zero_add _).symm)) (y 1) (y 2)
  · refine fun (y : S1x512x1024.Idx) => ?_
    have e : rA2.emb y = (ix3 2 (y 1) (y 2) : S4x512x1024.Idx) := funext fun a => Fin.ext (match a with
      | ⟨0, _⟩ => by show 2 + 1 * (y 0).val = 2; have : (y 0).val < 1 := (y 0).isLt; omega
      | ⟨1, _⟩ => by show 0 + 1 * (y 1).val = (y 1).val; omega
      | ⟨2, _⟩ => by show 0 + 1 * (y 2).val = (y 2).val; omega)
    show p2 i x g u d s y = (fun y : S4x512x1024.Idx => stepEl i x g u d s (y 0) (y 1) (y 2)) (rA2.emb y)
    rw [e]
    refine (congrArg (p2 i x g u d s) (hy0 y)).trans ?_
    rw [p2_eq]
    exact piece i x g u d s 2 _ _ (fun r k => View.ld_unit_apply_of x _ _ _ (ix4 0 0 r k) (ix4 2 0 r k) (fun a => match a with
        | ⟨0, _⟩ => rfl | ⟨1, _⟩ => rfl | ⟨2, _⟩ => (Nat.zero_add _).symm | ⟨3, _⟩ => (Nat.zero_add _).symm))
      (fun r l => View.ld_unit_apply_of s _ _ _ (ix3 0 r l) (ix3 2 r l) (fun a => match a with
        | ⟨0, _⟩ => rfl | ⟨1, _⟩ => (Nat.zero_add _).symm | ⟨2, _⟩ => (Nat.zero_add _).symm)) (y 1) (y 2)
  · refine fun (y : S1x512x1024.Idx) => ?_
    have e : rA1.emb y = (ix3 1 (y 1) (y 2) : S4x512x1024.Idx) := funext fun a => Fin.ext (match a with
      | ⟨0, _⟩ => by show 1 + 1 * (y 0).val = 1; have : (y 0).val < 1 := (y 0).isLt; omega
      | ⟨1, _⟩ => by show 0 + 1 * (y 1).val = (y 1).val; omega
      | ⟨2, _⟩ => by show 0 + 1 * (y 2).val = (y 2).val; omega)
    show p1 i x g u d s y = (fun y : S4x512x1024.Idx => stepEl i x g u d s (y 0) (y 1) (y 2)) (rA1.emb y)
    rw [e]
    refine (congrArg (p1 i x g u d s) (hy0 y)).trans ?_
    rw [p1_eq]
    exact piece i x g u d s 1 _ _ (fun r k => View.ld_unit_apply_of x _ _ _ (ix4 0 0 r k) (ix4 1 0 r k) (fun a => match a with
        | ⟨0, _⟩ => rfl | ⟨1, _⟩ => rfl | ⟨2, _⟩ => (Nat.zero_add _).symm | ⟨3, _⟩ => (Nat.zero_add _).symm))
      (fun r l => View.ld_unit_apply_of s _ _ _ (ix3 0 r l) (ix3 1 r l) (fun a => match a with
        | ⟨0, _⟩ => rfl | ⟨1, _⟩ => (Nat.zero_add _).symm | ⟨2, _⟩ => (Nat.zero_add _).symm)) (y 1) (y 2)
  · refine fun (y : S1x512x1024.Idx) => ?_
    have e : rA0.emb y = (ix3 0 (y 1) (y 2) : S4x512x1024.Idx) := funext fun a => Fin.ext (match a with
      | ⟨0, _⟩ => by show 0 + 1 * (y 0).val = 0; have : (y 0).val < 1 := (y 0).isLt; omega
      | ⟨1, _⟩ => by show 0 + 1 * (y 1).val = (y 1).val; omega
      | ⟨2, _⟩ => by show 0 + 1 * (y 2).val = (y 2).val; omega)
    show p0 i x g u d s y = (fun y : S4x512x1024.Idx => stepEl i x g u d s (y 0) (y 1) (y 2)) (rA0.emb y)
    rw [e]
    refine (congrArg (p0 i x g u d s) (hy0 y)).trans ?_
    rw [p0_eq]
    exact piece i x g u d s 0 _ _ (fun r k => View.ld_unit_apply_of x _ _ _ (ix4 0 0 r k) (ix4 0 0 r k) (fun a => match a with
        | ⟨0, _⟩ => rfl | ⟨1, _⟩ => rfl | ⟨2, _⟩ => (Nat.zero_add _).symm | ⟨3, _⟩ => (Nat.zero_add _).symm))
      (fun r l => View.ld_unit_apply_of s _ _ _ (ix3 0 r l) (ix3 0 r l) (fun a => match a with
        | ⟨0, _⟩ => rfl | ⟨1, _⟩ => (Nat.zero_add _).symm | ⟨2, _⟩ => (Nat.zero_add _).symm)) (y 1) (y 2)

/-- The output block at batch `b`, row `r`, lane `l`. -/
theorem out_apply (s : Vec Ideal S4x512x1024 .f32) (gs : Vec Ideal S4x1x512x1 .f32) (b : Fin 4) (r : Fin 512) (l : Fin 1024) :
    (out s gs : Vec Ideal S4x1x512x1024 .bf16) (ix4 b 0 r l) = (s (ix3 b r l) * gs (ix4 b 0 r 0) : EReal) := by
  unfold out
  rw [View.canon_unit_zero hz4, View.ld_unit_zero (S := S4x512x1024) hz3, View.ld_unit_zero (S := S4x1x512x1) hz4]
  unfold k0_pay2
  refine (shapeCast_apply _ shapeCasts_S4x512x1024_S4x1x512x1024 (ix4 b 0 r l) (ix3 b r l) ?_).trans ?_
  · rewrite [Shape.rowMajor_val_three, Shape.rowMajor_val_four]
    show (b.val * 512 + r.val) * 1024 + l.val = ((b.val * 1 + 0) * 512 + r.val) * 1024 + l.val
    omega
  show (mulf (F := Ideal) (φ := .f32) (s : FVec Ideal S4x512x1024 .f32) _ : FVec Ideal S4x512x1024 .f32) (ix3 b r l) = _
  rw [mulf_apply]
  refine congrArg (fun y : EReal => (s (ix3 b r l) : EReal) * y) ?_
  refine (broadcastTo_apply _ broadcasts_S4x512x1_S4x512x1024 (ix3 b r l) (ix3 b r 0) (fun a => match a with | ⟨0, _⟩ => rfl | ⟨1, _⟩ => rfl | ⟨2, _⟩ => rfl)).trans ?_
  refine shapeCast_apply _ _ (ix3 b r 0) (ix4 b 0 r 0) ?_
  rewrite [Shape.rowMajor_val_three, Shape.rowMajor_val_four]
  show ((b.val * 1 + 0) * 512 + r.val) * 1 + 0 = (b.val * 512 + r.val) * 1 + 0
  omega

end Cert.FfnIdeal.Ffn

end
-- ==== Proof.Ffn.Value.lean ====
/-
  The feed-forward call over the reals: the array it leaves. The running sum after each of an expert's four tiles is the sum over the
  hidden units seen so far, so after the last it is the sum over all of them.
-/
module

public import proofs.«01_k».proof.Proof.Ffn.Pay

@[expose] public section

noncomputable section

namespace Cert.FfnIdeal.Ffn

open Cert.FfnIdeal Cert.FfnIdeal.Gen
open Idealize.ShloMosaic Idealize.ShloMosaic.TcCoe Idealize.SL.Sem Idealize.ShloMosaic.ValueIdx
open Idealize.ShloMosaic.Pipeline (Dat)

/-! ## The layer's feed-forward network -/

/-- The projection of batch `b`'s row `r` of expert `e` onto hidden lane `j`. -/
def proj (x : S4x16x512x1024.Idx → EReal) (w : S4x16x1024x2048.Idx → EReal) (b : Fin 4) (e : Fin 16) (r : Fin 512) (j : Fin 2048) : EReal :=
  ∑ k : Fin 1024, x (ix4 b e r k) * w (ix4 0 e k j)

/-- One hidden lane's contribution to output lane `l`. -/
def term (x : S4x16x512x1024.Idx → EReal) (wg wu : S4x16x1024x2048.Idx → EReal) (wd : S4x16x2048x1024.Idx → EReal)
    (b : Fin 4) (e : Fin 16) (r : Fin 512) (l : Fin 1024) (j : Fin 2048) : EReal :=
  unit (proj x wg b e r j) (proj x wu b e r j) * wd (ix4 0 e j l)

/-- The network's output, weighted by the gates. -/
def ffn (x : S4x16x512x1024.Idx → EReal) (g : S4x16x512.Idx → EReal) (wg wu : S4x16x1024x2048.Idx → EReal) (wd : S4x16x2048x1024.Idx → EReal)
    (b : Fin 4) (e : Fin 16) (r : Fin 512) (l : Fin 1024) : EReal :=
  (∑ j : Fin 2048, term x wg wu wd b e r l j) * g (ix3 b e r)

/-- The sum of the contributions of the first `n` tiles' hidden lanes. -/
def part (T : Fin 2048 → EReal) (n : ℕ) : EReal := ∑ j ∈ Finset.range (512 * n), if h : j < 2048 then T ⟨j, h⟩ else 0

theorem part_zero (T : Fin 2048 → EReal) : part T 0 = 0 := rfl

theorem part_succ (T : Fin 2048 → EReal) (n : ℕ) (hn : n < 4) :
    part T (n + 1) = part T n + ∑ j : Fin 512, T ⟨512 * n + j.val, by omega⟩ := by
  unfold part
  rw [show 512 * (n + 1) = 512 * n + 512 by omega, Finset.sum_range_add, Finset.sum_range (n := 512)]
  refine congrArg _ (Finset.sum_congr rfl fun j _ => ?_)
  rw [dif_pos]

theorem part_four (T : Fin 2048 → EReal) : part T 4 = ∑ j : Fin 2048, T j := by
  unfold part
  rw [show 512 * 4 = 2048 by rfl, Finset.sum_range]
  refine Finset.sum_congr rfl fun j _ => ?_
  rw [dif_pos j.isLt]

variable (m : (ℓ : Loc nD τ sig) → Buf (Elt Ideal) ℓ)

/-! ## The blocks -/

theorem V_v0 (c : Dev nD) : (V m c main_v0 : Vec Ideal S4x16x512x1024 .bf16)
    = truncf (F := Ideal) .bf16 (m ((c : Thread nD τ).loc main_arg0)) bitsLt_bf16_f32 := by
  unfold V
  after_results <;> rfl
theorem V_v1 (c : Dev nD) : (V m c main_v1 : Vec Ideal S4x16x512x1 .f32)
    = broadcastInDim S4x16x512x1 ![0, 1, 2] bcast_S4x16x512_S4x16x512x1_0_1_2 (m ((c : Thread nD τ).loc main_arg1)) := by
  unfold V
  after_results <;> rfl
theorem V_arg2 (c : Dev nD) : (V m c main_arg2 : Vec Ideal S4x16x1024x2048 .f32) = m ((c : Thread nD τ).loc main_arg2) := by
  unfold V
  after_results <;> rfl
theorem V_arg3 (c : Dev nD) : (V m c main_arg3 : Vec Ideal S4x16x1024x2048 .f32) = m ((c : Thread nD τ).loc main_arg3) := by
  unfold V
  after_results <;> rfl
theorem V_arg4 (c : Dev nD) : (V m c main_arg4 : Vec Ideal S4x16x2048x1024 .f32) = m ((c : Thread nD τ).loc main_arg4) := by
  unfold V
  after_results <;> rfl

/-- The index maps at point `t = 4 e + f`. -/
theorem idx_facts : ∀ t : Fin cfg0.N,
    (win0_0.index t 0 = 0 ∧ win0_0.index t 1 = t.val / 4 ∧ win0_0.index t 2 = 0 ∧ win0_0.index t 3 = 0)
    ∧ (win0_1.index t 0 = 0 ∧ win0_1.index t 1 = t.val / 4 ∧ win0_1.index t 2 = 0 ∧ win0_1.index t 3 = 0)
    ∧ (win0_2.index t 0 = 0 ∧ win0_2.index t 1 = t.val / 4 ∧ win0_2.index t 2 = 0 ∧ win0_2.index t 3 = t.val % 4)
    ∧ (win0_3.index t 0 = 0 ∧ win0_3.index t 1 = t.val / 4 ∧ win0_3.index t 2 = 0 ∧ win0_3.index t 3 = t.val % 4)
    ∧ (win0_4.index t 0 = 0 ∧ win0_4.index t 1 = t.val / 4 ∧ win0_4.index t 2 = t.val % 4 ∧ win0_4.index t 3 = 0)
    ∧ (win0_5.index t 0 = 0 ∧ win0_5.index t 1 = t.val / 4 ∧ win0_5.index t 2 = 0 ∧ win0_5.index t 3 = 0) :=
  (by decide +kernel : ∀ t : Fin grid0.N, _)

theorem iblk0_apply (c : Dev nD) (t : Fin cfg0.N) (e : Fin 16) (he : e.val = t.val / 4) (b : Fin 4) (r : Fin 512) (k : Fin 1024) :
    (iblk m c 0 t : Vec Ideal S4x1x512x1024 .bf16) (ix4 b 0 r k) = (m ((c : Thread nD τ).loc main_arg0) : S4x16x512x1024.Idx → EReal) (ix4 b e r k) := by
  have h := (idx_facts t).1
  refine Eq.trans ?_ (congrFun (V_v0 m c) (ix4 b e r k))
  unfold iblk
  rw [View.read_apply]
  show V m c main_v0 _ = V m c main_v0 _
  congr 1
  funext a
  apply Fin.ext
  match a with
  | ⟨0, _⟩ => show win0_0.index t 0 * 4 + 1 * b.val = b.val; rw [h.1]; omega
  | ⟨1, _⟩ => show win0_0.index t 1 * 1 + 1 * 0 = e.val; rw [h.2.1]; omega
  | ⟨2, _⟩ => show win0_0.index t 2 * 512 + 1 * r.val = r.val; rw [h.2.2.1]; omega
  | ⟨3, _⟩ => show win0_0.index t 3 * 1024 + 1 * k.val = k.val; rw [h.2.2.2]; omega
theorem iblk1_apply (c : Dev nD) (t : Fin cfg0.N) (e : Fin 16) (he : e.val = t.val / 4) (b : Fin 4) (r : Fin 512) :
    (iblk m c 1 t : Vec Ideal S4x1x512x1 .f32) (ix4 b 0 r 0) = (m ((c : Thread nD τ).loc main_arg1) : S4x16x512.Idx → EReal) (ix3 b e r) := by
  have h := (idx_facts t).2.1
  refine Eq.trans ?_ ((congrFun (V_v1 m c) (ix4 b e r 0)).trans (broadcastInDim_apply _ bcast_S4x16x512_S4x16x512x1_0_1_2 _ (ix4 b e r 0) (ix3 b e r) (fun a => match a with
    | ⟨0, _⟩ => by show b.val = if (4 : Nat) = 1 then 0 else b.val; rw [if_neg (by decide)]
    | ⟨1, _⟩ => by show e.val = if (16 : Nat) = 1 then 0 else e.val; rw [if_neg (by decide)]
    | ⟨2, _⟩ => by show r.val = if (512 : Nat) = 1 then 0 else r.val; rw [if_neg (by decide)])))
  unfold iblk
  rw [View.read_apply]
  show V m c main_v1 _ = V m c main_v1 _
  congr 1
  funext a
  apply Fin.ext
  match a with
  | ⟨0, _⟩ => show win0_1.index t 0 * 4 + 1 * b.val = b.val; rw [h.1]; omega
  | ⟨1, _⟩ => show win0_1.index t 1 * 1 + 1 * 0 = e.val; rw [h.2.1]; omega
  | ⟨2, _⟩ => show win0_1.index t 2 * 512 + 1 * r.val = r.val; rw [h.2.2.1]; omega
  | ⟨3, _⟩ => show win0_1.index t 3 * 1 + 1 * 0 = 0; rw [h.2.2.2]
theorem iblk2_apply (c : Dev nD) (t : Fin cfg0.N) (e : Fin 16) (he : e.val = t.val / 4) (k : Fin 1024) (j : Fin 512) :
    (iblk m c 2 t : Vec Ideal S1x1x1024x512 .f32) (ix4 0 0 k j)
      = (m ((c : Thread nD τ).loc main_arg2) : S4x16x1024x2048.Idx → EReal) (ix4 0 e k ⟨512 * (t.val % 4) + j.val, by omega⟩) := by
  have h := (idx_facts t).2.2.1
  refine Eq.trans ?_ (congrFun (V_arg2 m c) (ix4 0 e k ⟨512 * (t.val % 4) + j.val, by omega⟩))
  unfold iblk
  rw [View.read_apply]
  show V m c main_arg2 _ = V m c main_arg2 _
  congr 1
  funext a
  apply Fin.ext
  match a with
  | ⟨0, _⟩ => show win0_2.index t 0 * 1 + 1 * 0 = 0; rw [h.1]
  | ⟨1, _⟩ => show win0_2.index t 1 * 1 + 1 * 0 = e.val; rw [h.2.1]; omega
  | ⟨2, _⟩ => show win0_2.index t 2 * 1024 + 1 * k.val = k.val; rw [h.2.2.1]; omega
  | ⟨3, _⟩ => show win0_2.index t 3 * 512 + 1 * j.val = 512 * (t.val % 4) + j.val; rw [h.2.2.2]; omega
theorem iblk3_apply (c : Dev nD) (t : Fin cfg0.N) (e : Fin 16) (he : e.val = t.val / 4) (k : Fin 1024) (j : Fin 512) :
    (iblk m c 3 t : Vec Ideal S1x1x1024x512 .f32) (ix4 0 0 k j)
      = (m ((c : Thread nD τ).loc main_arg3) : S4x16x1024x2048.Idx → EReal) (ix4 0 e k ⟨512 * (t.val % 4) + j.val, by omega⟩) := by
  have h := (idx_facts t).2.2.2.1
  refine Eq.trans ?_ (congrFun (V_arg3 m c) (ix4 0 e k ⟨512 * (t.val % 4) + j.val, by omega⟩))
  unfold iblk
  rw [View.read_apply]
  show V m c main_arg3 _ = V m c main_arg3 _
  congr 1
  funext a
  apply Fin.ext
  match a with
  | ⟨0, _⟩ => show win0_3.index t 0 * 1 + 1 * 0 = 0; rw [h.1]
  | ⟨1, _⟩ => show win0_3.index t 1 * 1 + 1 * 0 = e.val; rw [h.2.1]; omega
  | ⟨2, _⟩ => show win0_3.index t 2 * 1024 + 1 * k.val = k.val; rw [h.2.2.1]; omega
  | ⟨3, _⟩ => show win0_3.index t 3 * 512 + 1 * j.val = 512 * (t.val % 4) + j.val; rw [h.2.2.2]; omega
theorem iblk4_apply (c : Dev nD) (t : Fin cfg0.N) (e : Fin 16) (he : e.val = t.val / 4) (j : Fin 512) (l : Fin 1024) :
    (iblk m c 4 t : Vec Ideal S1x1x512x1024 .f32) (ix4 0 0 j l)
      = (m ((c : Thread nD τ).loc main_arg4) : S4x16x2048x1024.Idx → EReal) (ix4 0 e ⟨512 * (t.val % 4) + j.val, by omega⟩ l) := by
  have h := (idx_facts t).2.2.2.2.1
  refine Eq.trans ?_ (congrFun (V_arg4 m c) (ix4 0 e ⟨512 * (t.val % 4) + j.val, by omega⟩ l))
  unfold iblk
  rw [View.read_apply]
  show V m c main_arg4 _ = V m c main_arg4 _
  congr 1
  funext a
  apply Fin.ext
  match a with
  | ⟨0, _⟩ => show win0_4.index t 0 * 1 + 1 * 0 = 0; rw [h.1]
  | ⟨1, _⟩ => show win0_4.index t 1 * 1 + 1 * 0 = e.val; rw [h.2.1]; omega
  | ⟨2, _⟩ => show win0_4.index t 2 * 512 + 1 * j.val = 512 * (t.val % 4) + j.val; rw [h.2.2.1]; omega
  | ⟨3, _⟩ => show win0_4.index t 3 * 1024 + 1 * l.val = l.val; rw [h.2.2.2]; omega

/-! ## The running sum -/

/-- The contributions at the call's arguments. -/
abbrev contrib (c : Dev nD) (b : Fin 4) (e : Fin 16) (r : Fin 512) (l : Fin 1024) : Fin 2048 → EReal :=
  term (m ((c : Thread nD τ).loc main_arg0)) (m ((c : Thread nD τ).loc main_arg2)) (m ((c : Thread nD τ).loc main_arg3)) (m ((c : Thread nD τ).loc main_arg4)) b e r l

/-- The tile a point adds is its share of the contributions. -/
theorem tile_sum (c : Dev nD) (t : Fin cfg0.N) (e : Fin 16) (he : e.val = t.val / 4) (b : Fin 4) (r : Fin 512) (l : Fin 1024) :
    (∑ j : Fin 512, hidT (iblk m c 0 t) (iblk m c 2 t) (iblk m c 3 t) b r j * (iblk m c 4 t : Vec Ideal S1x1x512x1024 .f32) (ix4 0 0 j l) : EReal)
      = ∑ j : Fin 512, contrib m c b e r l ⟨512 * (t.val % 4) + j.val, by omega⟩ := by
  refine Finset.sum_congr rfl fun j _ => ?_
  refine congrArg₂ (fun y z : EReal => y * z) ?_ (iblk4_apply m c t e he j l)
  unfold hidT proj
  refine congrArg₂ unit (Finset.sum_congr rfl fun k _ => ?_) (Finset.sum_congr rfl fun k _ => ?_)
  · exact congrArg₂ (fun y z : EReal => y * z) (iblk0_apply m c t e he b r k) (iblk2_apply m c t e he k j)
  · exact congrArg₂ (fun y z : EReal => y * z) (iblk0_apply m c t e he b r k) (iblk3_apply m c t e he k j)

theorem first_iff : ∀ t : Fin cfg0.N, Scalar.cmpi .eq (BitVec.ofNat 32 ((grid0.coords t) 1).val) 0#32 = 1 ↔ t.val % 4 = 0 :=
  (by decide +kernel : ∀ t : Fin grid0.N, _)

/-- After a point the running sum is the sum of the contributions of its expert's tiles so far. -/
theorem acc_apply (c : Dev nD) (b : Fin 4) (r : Fin 512) (l : Fin 1024) : ∀ (n : ℕ) (hn : n < 64),
    acc m c (n + 1) (ix3 b r l) = part (contrib m c b ⟨n / 4, by omega⟩ r l) (n % 4 + 1) := by
  intro n
  induction n with
  | zero =>
    intro hn
    have ht : 0 < cfg0.N := by rw [show cfg0.N = 64 from N_0]; omega
    refine (congrFun (acc_succ m c ⟨0, ht⟩) (ix3 b r l)).trans ?_
    unfold stepAt
    rw [step_apply]
    unfold stepEl
    rw [if_pos ((first_iff ⟨0, ht⟩).mpr rfl), tile_sum m c ⟨0, ht⟩ ⟨0 / 4, by omega⟩ rfl b r l]
    exact (part_succ _ 0 (by omega)).symm
  | succ n ih =>
    intro hn
    have ht : n + 1 < cfg0.N := by rw [show cfg0.N = 64 from N_0]; omega
    refine (congrFun (acc_succ m c ⟨n + 1, ht⟩) (ix3 b r l)).trans ?_
    unfold stepAt
    rw [step_apply]
    unfold stepEl
    rw [tile_sum m c ⟨n + 1, ht⟩ ⟨(n + 1) / 4, by omega⟩ rfl b r l, part_succ _ _ (by omega)]
    refine congrArg (fun y : EReal => y + _) ?_
    by_cases h : (n + 1) % 4 = 0
    · rw [if_pos ((first_iff ⟨n + 1, ht⟩).mpr h), h, part_zero]
    · rw [if_neg (fun h' => h ((first_iff ⟨n + 1, ht⟩).mp h'))]
      refine (ih (by omega)).trans ?_
      have e1 : n % 4 + 1 = (n + 1) % 4 := by omega
      have e2 : (⟨n / 4, by omega⟩ : Fin 16) = ⟨(n + 1) / 4, by omega⟩ := Fin.ext (by show n / 4 = (n + 1) / 4; omega)
      rw [e1, e2]

/-! ## The output array -/

/-- What the output array ends holding. -/
def result (c : Dev nD) : Buf (Elt Ideal) ((c : Thread nD τ).loc main_v2) := fun i : S4x16x512x1024.Idx =>
  ffn (m ((c : Thread nD τ).loc main_arg0)) (m ((c : Thread nD τ).loc main_arg1)) (m ((c : Thread nD τ).loc main_arg2)) (m ((c : Thread nD τ).loc main_arg3))
    (m ((c : Thread nD τ).loc main_arg4)) (i 0) (i 1) (i 2) (i 3)

/-- What an expert's last point writes back is its block of it. -/
theorem flushed_eq (c : Dev nD) (t : Fin cfg0.N) (h3 : t.val % 4 = 3) :
    (dats m 0 c).flushed 5 t = ((cfg0.win 5).blk t).view.read (Elt Ideal) (result m c) := by
  show (cfg0.win 5).cut (grid0.coords t) ((dats m 0 c).after 5 t) = _
  rw [after_5]
  have h := (idx_facts t).2.2.2.2.2
  have hN : cfg0.N = 64 := N_0
  have ht := t.isLt
  have hE : t.val / 4 < 16 := by omega
  refine funext fun (y : S4x1x512x1024.Idx) => ?_
  rw [View.read_apply]
  have hy1 : (y 1).val < 1 := (y 1).isLt
  have hemb : ((cfg0.win 5).blk t).view.emb y = (ix4 (y 0 : Fin 4) (⟨t.val / 4, hE⟩ : Fin 16) (y 2 : Fin 512) (y 3 : Fin 1024) : S4x16x512x1024.Idx) := by
    funext a
    apply Fin.ext
    match a with
    | ⟨0, _⟩ => show win0_5.index t 0 * 4 + 1 * (y 0).val = (y 0).val; rw [h.1]; omega
    | ⟨1, _⟩ => show win0_5.index t 1 * 1 + 1 * (y 1).val = t.val / 4; rw [h.2.1]; omega
    | ⟨2, _⟩ => show win0_5.index t 2 * 512 + 1 * (y 2).val = (y 2).val; rw [h.2.2.1]; omega
    | ⟨3, _⟩ => show win0_5.index t 3 * 1024 + 1 * (y 3).val = (y 3).val; rw [h.2.2.2]; omega
  rw [hemb]
  have hy : y = ix4 (y 0) 0 (y 2) (y 3) := (eq_ix4 y).trans (congrArg (fun q : Fin 1 => ix4 (y 0) q (y 2) (y 3)) (Fin.eq_zero (y 1 : Fin 1)))
  refine (congrArg (out (acc m c (t.val + 1)) (iblk m c 1 t)) hy).trans ?_
  refine (out_apply _ _ (y 0) (y 2) (y 3)).trans ?_
  show _ = ffn _ _ _ _ _ (y 0) ⟨t.val / 4, hE⟩ (y 2) (y 3)
  unfold ffn
  refine congrArg₂ (fun p q : EReal => p * q) ?_ (iblk1_apply m c t ⟨t.val / 4, hE⟩ rfl (y 0) (y 2))
  refine (acc_apply m c (y 0) (y 2) (y 3) t.val (by omega)).trans ?_
  rw [h3]
  exact part_four _

theorem cover (i : S4x16x512x1024.Idx) : ∃ t : Fin cfg0.N, (cfg0.win 5).flush t = true ∧ i ∈ ((cfg0.win 5).blk t).view.set := by
  have h0 : (i 0 : Nat) < 4 := (i 0).isLt
  have h1 : (i 1 : Nat) < 16 := (i 1).isLt
  have h2 : (i 2 : Nat) < 512 := (i 2).isLt
  have h3 : (i 3 : Nat) < 1024 := (i 3).isLt
  have hN : cfg0.N = 64 := N_0
  have ht : 4 * (i 1 : Nat) + 3 < cfg0.N := by omega
  refine ⟨⟨4 * (i 1 : Nat) + 3, ht⟩, (flush0_5 _).mpr (by show (4 * (i 1 : Nat) + 3) % 4 = 3; omega), ?_⟩
  have h := (idx_facts ⟨4 * (i 1 : Nat) + 3, ht⟩).2.2.2.2.2
  show i ∈ ((View.whole main_v2).slice (win0_5.rect ⟨4 * (i 1 : Nat) + 3, ht⟩)).set
  rw [View.set_slice_whole, Rect.mem_set_unit]
  intro a
  match a with
  | ⟨0, _⟩ => show win0_5.index ⟨4 * (i 1 : Nat) + 3, ht⟩ 0 * 4 ≤ (i 0 : Nat) ∧ (i 0 : Nat) < win0_5.index ⟨4 * (i 1 : Nat) + 3, ht⟩ 0 * 4 + 4
              rw [h.1]; omega
  | ⟨1, _⟩ => show win0_5.index ⟨4 * (i 1 : Nat) + 3, ht⟩ 1 * 1 ≤ (i 1 : Nat) ∧ (i 1 : Nat) < win0_5.index ⟨4 * (i 1 : Nat) + 3, ht⟩ 1 * 1 + 1
              rw [h.2.1]; dsimp only; omega
  | ⟨2, _⟩ => show win0_5.index ⟨4 * (i 1 : Nat) + 3, ht⟩ 2 * 512 ≤ (i 2 : Nat) ∧ (i 2 : Nat) < win0_5.index ⟨4 * (i 1 : Nat) + 3, ht⟩ 2 * 512 + 512
              rw [h.2.2.1]; omega
  | ⟨3, _⟩ => show win0_5.index ⟨4 * (i 1 : Nat) + 3, ht⟩ 3 * 1024 ≤ (i 3 : Nat) ∧ (i 3 : Nat) < win0_5.index ⟨4 * (i 1 : Nat) + 3, ht⟩ 3 * 1024 + 1024
              rw [h.2.2.2]; omega

theorem final (c : Dev nD) : (dats m 0 c).arrAt 5 cfg0.N = result m c :=
  (dats m 0 c).arrAt_eq_of_cover 5 (result m c) (fun t ht => flushed_eq m c t ((flush0_5 t).mp ht)) cover

end Cert.FfnIdeal.Ffn

end
-- ==== Proof.Ffn.lean ====
/-
  The feed-forward call and its reference leave the same array, and the call's frames. The reference sums over all hidden lanes at once;
  its products have the weights on the left.
-/
module

public import proofs.«01_k».proof.Defs
public import proofs.«01_k».proof.Proof.Gen.Ffn
public import proofs.«01_k».proof.Proof.Gen.FfnRefIdeal.Run
public import proofs.«01_k».proof.Proof.Gen.FfnRefIdeal.Read
public import proofs.«01_k».proof.Proof.Ffn.Value

@[expose] public section

noncomputable section

namespace Cert.FfnIdeal.Ffn

open Cert.FfnIdeal Cert.FfnIdeal.Gen
open Idealize.ShloMosaic Idealize.ShloMosaic.TcCoe Idealize.SL.Sem Idealize.ShloMosaic.ValueIdx

section Ref

open Cert.FfnRefIdeal.Read

/-- A weight of the layer, sliced out and viewed without its first axis. -/
theorem weight_in (x2 : S4x16x1024x2048.Idx → EReal) (e : Fin 16) (k : Fin 1024) (j : Fin 2048) :
    val_main_v1 (F := Ideal) x2 (ix3 e k j) = x2 (ix4 0 e k j) := by
  rw [val_main_v1_apply, val_main_v0_apply]
  refine congrArg x2 (funext fun a => Fin.ext ?_)
  match a with
  | ⟨0, _⟩ => rfl
  | ⟨1, _⟩ => show ((e.val * 1024 + k.val) * 2048 + j.val) / 2097152 % 16 = e.val; omega
  | ⟨2, _⟩ => show ((e.val * 1024 + k.val) * 2048 + j.val) / 2048 % 1024 = k.val; omega
  | ⟨3, _⟩ => show ((e.val * 1024 + k.val) * 2048 + j.val) % 2048 = j.val; omega
theorem weight_up (x3 : S4x16x1024x2048.Idx → EReal) (e : Fin 16) (k : Fin 1024) (j : Fin 2048) :
    val_main_v6 (F := Ideal) x3 (ix3 e k j) = x3 (ix4 0 e k j) := weight_in x3 e k j
theorem weight_out (x4 : S4x16x2048x1024.Idx → EReal) (e : Fin 16) (j : Fin 2048) (l : Fin 1024) :
    val_main_v11 (F := Ideal) x4 (ix3 e j l) = x4 (ix4 0 e j l) := by
  rw [val_main_v11_apply, val_main_v10_apply]
  refine congrArg x4 (funext fun a => Fin.ext ?_)
  match a with
  | ⟨0, _⟩ => rfl
  | ⟨1, _⟩ => show ((e.val * 2048 + j.val) * 1024 + l.val) / 2097152 % 16 = e.val; omega
  | ⟨2, _⟩ => show ((e.val * 2048 + j.val) * 1024 + l.val) / 1024 % 2048 = j.val; omega
  | ⟨3, _⟩ => show ((e.val * 2048 + j.val) * 1024 + l.val) % 1024 = l.val; omega

/-- The reference's two projections, -/
theorem proj_in (x0 : S4x16x512x1024.Idx → EReal) (x2 : S4x16x1024x2048.Idx → EReal) (b : Fin 4) (e : Fin 16) (r : Fin 512) (j : Fin 2048) :
    val_main_v3 (F := Ideal) x0 x2 (ix4 b e r j) = proj x0 x2 b e r j := by
  have e0 : idx_main_v3 (ix4 b e r j) = ix4 e j b r := funext fun a => match a with | ⟨0, _⟩ => rfl | ⟨1, _⟩ => rfl | ⟨2, _⟩ => rfl | ⟨3, _⟩ => rfl
  rw [val_main_v3_apply, e0, val_main_v2_apply]
  unfold proj
  refine Finset.sum_congr rfl fun k _ => ?_
  have e1 : lidx_main_v2 (ix4 e j b r) k = ix3 e k j := funext fun a => match a with | ⟨0, _⟩ => rfl | ⟨1, _⟩ => rfl | ⟨2, _⟩ => rfl
  have e2 : ridx_main_v2 (ix4 e j b r) k = ix4 b e r k := funext fun a => match a with | ⟨0, _⟩ => rfl | ⟨1, _⟩ => rfl | ⟨2, _⟩ => rfl | ⟨3, _⟩ => rfl
  rw [e1, e2, weight_in]
  exact mul_comm (G := EReal) _ _
theorem proj_up (x0 : S4x16x512x1024.Idx → EReal) (x3 : S4x16x1024x2048.Idx → EReal) (b : Fin 4) (e : Fin 16) (r : Fin 512) (j : Fin 2048) :
    val_main_v8 (F := Ideal) x0 x3 (ix4 b e r j) = proj x0 x3 b e r j := proj_in x0 x3 b e r j

/-- its hidden units, -/
theorem hidden (x0 : S4x16x512x1024.Idx → EReal) (x2 x3 : S4x16x1024x2048.Idx → EReal) (b : Fin 4) (e : Fin 16) (r : Fin 512) (j : Fin 2048) :
    val_main_v9 (F := Ideal) x0 x2 x3 (ix4 b e r j) = unit (proj x0 x2 b e r j) (proj x0 x3 b e r j) := by
  rw [val_main_v9_apply, val_main_v4_apply, val_main_call0_v5_apply, val_main_call0_v4_apply, val_main_call0_cst_0_apply, val_main_call0_v3_apply,
    val_main_call0_v2_apply, val_main_call0_cst_apply, val_main_call0_v1_apply, val_main_call0_v0_apply, proj_in, proj_up]
  simp only [Ideal.ofBits_def, Ideal.ofBits_one_f32]
  rfl

/-- and its result. -/
theorem ref_apply (x0 : S4x16x512x1024.Idx → EReal) (x1 : S4x16x512.Idx → EReal) (x2 x3 : S4x16x1024x2048.Idx → EReal) (x4 : S4x16x2048x1024.Idx → EReal)
    (b : Fin 4) (e : Fin 16) (r : Fin 512) (l : Fin 1024) :
    val_main_v17 (F := Ideal) x0 x1 x2 x3 x4 (ix4 b e r l) = ffn x0 x1 x2 x3 x4 b e r l := by
  have e0 : idx_main_v13 (ix4 b e r l) = ix4 e l b r := funext fun a => match a with | ⟨0, _⟩ => rfl | ⟨1, _⟩ => rfl | ⟨2, _⟩ => rfl | ⟨3, _⟩ => rfl
  have e1 : idx_main_v14 (idx_main_v15 (ix4 b e r l)) = ix3 b e r := funext fun a => match a with | ⟨0, _⟩ => rfl | ⟨1, _⟩ => rfl | ⟨2, _⟩ => rfl
  show (val_main_v13 (F := Ideal) x0 x2 x3 x4 (ix4 b e r l) : EReal) * val_main_v15 (F := Ideal) x1 (ix4 b e r l) = _
  rw [val_main_v13_apply, e0, val_main_v15_apply, val_main_v14_apply, e1, val_main_v12_apply]
  unfold ffn
  refine congrArg (fun y : EReal => y * x1 (ix3 b e r)) (Finset.sum_congr rfl fun j _ => ?_)
  have e2 : lidx_main_v12 (ix4 e l b r) j = ix3 e j l := funext fun a => match a with | ⟨0, _⟩ => rfl | ⟨1, _⟩ => rfl | ⟨2, _⟩ => rfl
  have e3 : ridx_main_v12 (ix4 e l b r) j = ix4 b e r j := funext fun a => match a with | ⟨0, _⟩ => rfl | ⟨1, _⟩ => rfl | ⟨2, _⟩ => rfl | ⟨3, _⟩ => rfl
  rw [e2, e3, weight_out, hidden]
  unfold term
  exact mul_comm (G := EReal) _ _

end Ref

/-- The reference's array at the kernel's arguments is the array the kernel leaves. -/
theorem ref_result (m : (ℓ : Loc nD τ sig) → Buf (Elt Ideal) ℓ) (c : Dev nD) :
    Cert.FfnRefIdeal.Read.val_main_v17 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = result m c :=
  funext fun i => (congrArg _ (eq_ix4 i)).trans (ref_apply _ _ _ _ _ (i 0) (i 1) (i 2) (i 3))

theorem algebraic : Cert.algebraic_FfnIdeal_FfnRefIdeal := fun m g m' g' _ h =>
  ⟨fun c => result m c,
    (θ_run Cert.FfnIdeal.defs _ _).mono (fun r hr c => ⟨((hr.1 c).1 5).trans (final m c), hr.2 c⟩)
      (θ_run_and (run_main m g) (frame_of m g (dats m) (A_eq m) (run_main m g))),
    (θ_run Cert.FfnRefIdeal.defs _ _).mono (fun r hr c => ⟨(hr c).1.trans ((Cert.FfnRefIdeal.Read.val_main_v17_eq _ _ _ _ _).trans (by
        rw [(h c).1, (h c).2.1, (h c).2.2.1, (h c).2.2.2.1, (h c).2.2.2.2]; exact ref_result m c)), (hr c).2⟩)
      (Cert.FfnRefIdeal.Value.run m' g')⟩

/-! ## The frames: the kernel and its idealization have one text, so one run serves both -/

theorem defs₀_eq : Cert.Ffn.defs₀ (F := Bits) = Cert.FfnIdeal.defs₀ (F := Bits) :=
  funext fun p => match p with
    | .tc => funext fun ℓ => match ℓ with
      | ⟨0, _⟩ => funext fun ⟨_, _⟩ => rfl
      | ⟨_ + 1, h⟩ => absurd h (Nat.not_lt.2 (Nat.le_add_left _ _))
    | .scScalar _ => rfl
    | .scVector _ _ => rfl

theorem defs_eq : Cert.Ffn.defs (F := Bits) = Cert.FfnIdeal.defs (F := Bits) :=
  congrArg (Pipeline.defs Cert.Ffn.pcfgs) defs₀_eq

theorem frame_bits : Cert.quiescent_Ffn := fun m ρ _ => by
  have h := frame (F := Bits) m ρ
  rw [← defs_eq] at h
  exact h

theorem frame_ideal : Cert.quiescent_FfnIdeal := fun m ρ _ => frame m ρ

end Cert.FfnIdeal.Ffn

end
-- ==== Proof.Glu.Value.lean ====
/-
  The gated linear unit's call over the reals: the array it leaves is the reference's, element by element.
-/
module

public import proofs.«01_k».proof.Proof.Gen.GluIdeal.Value
public import proofs.«01_k».proof.Proof.Gen.GluRefIdeal.Read
public import Idealize.ShloMosaic.Lib.MatmulPlain
public import Idealize.ShloMosaic.Lib.ValueIdx
public import Idealize.ShloMosaic.Lib.IdealHost

@[expose] public section

noncomputable section

namespace Cert.GluIdeal.Val

open Cert.GluIdeal Cert.GluIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The projection of row `R` onto column `l`, with its bias. -/
def lin (x0 : S4x4096x1024.Idx → EReal) (x1 : S1024x5632.Idx → EReal) (x2 : S5632.Idx → EReal) (R : Fin 16384) (l : Fin 5632) : EReal :=
  (∑ k : Fin 1024, x0 (ix3 ⟨R.val / 4096, by omega⟩ ⟨R.val % 4096, by omega⟩ k) * x1 (ix2 k l)) + x2 (ix1 l)

/-- The gated linear unit of row `R` at lane `l`. -/
def glu (x0 : S4x4096x1024.Idx → EReal) (x1 : S1024x5632.Idx → EReal) (x2 : S5632.Idx → EReal) (R : Fin 16384) (l : Fin 1024) : EReal :=
  lin x0 x1 x2 R ⟨l.val, by omega⟩ * Ideal.div 1 (1 + Ideal.exp (-(lin x0 x1 x2 R ⟨1024 + l.val, by omega⟩)))

/-- The payload at row `r`, lane `l`: the value projection times the logistic function of the gate's. -/
theorem pay_apply (v0 : Vec Ideal S512x1024 .bf16) (v2 : Vec Ideal S1024x1024 .bf16) (v5 : Vec Ideal S1x1024 .f32)
    (v9 : Vec Ideal S1024x1024 .bf16) (v12 : Vec Ideal S1x1024 .f32) (r : Fin 512) (l : Fin 1024) :
    (k0_pay1 v0 v2 v5 v9 v12 : FVec Ideal S512x1024 .f32) (ix2 r l)
      = ((∑ k : Fin 1024, (v0 (ix2 r k) * v2 (ix2 k l) : EReal)) + v5 (ix2 0 l))
        * Ideal.div 1 (1 + Ideal.exp (-((∑ k : Fin 1024, (v0 (ix2 r k) * v9 (ix2 k l) : EReal)) + v12 (ix2 0 l)))) := by
  have hb : ∀ x : Vec Ideal S1x1024 .f32, broadcastTo S512x1024 x broadcasts_S1x1024_S512x1024 (ix2 r l) = x (ix2 0 l) := fun x =>
    broadcastTo_apply x _ (ix2 r l) (ix2 0 l) (fun a => match a with | ⟨0, _⟩ => rfl | ⟨1, _⟩ => rfl)
  have hm : ∀ w : Vec Ideal S1024x1024 .bf16, (matmul dot_S512x1024_S1024x1024_S512x1024_1_0_0_1_n_n none v0 w (constant S512x1024 .f32 0x00000000#32) : FVec Ideal S512x1024 .f32) (ix2 r l)
      = ∑ k : Fin 1024, (v0 (ix2 r k) * w (ix2 k l) : EReal) := fun w => by
    refine (Ideal.matmul_plain_apply (φ₁ := .bf16) (φ₂ := .bf16) none v0 w _ r l).trans ?_
    rw [show (constant S512x1024 .f32 0x00000000#32 : FVec Ideal S512x1024 .f32) (ix2 r l) = (0 : EReal) from Ideal.ofBits_zero_f32, zero_add]
  unfold k0_pay1
  simp only [shapeCast_self]
  simp only [mulf_apply, divf_apply, addf_apply, subf_apply, hm, hb]
  have h1 : (Scalar.ofBits (F := Ideal) .f32 0x3F800000#32 : EReal) = 1 := Ideal.ofBits_one_f32
  have h0 : (Scalar.ofBits (F := Ideal) .f32 0x00000000#32 : EReal) = 0 := Ideal.ofBits_zero_f32
  have he : ∀ (a : FVec Ideal S512x1024 .f32) i, exp a i = Ideal.exp (a i) := fun _ _ => rfl
  simp only [he, subf_apply, addf_apply, hm, hb, broadcast_apply, h0, h1, zero_sub]

/-- The payload of blocks that hold row `R` and the projection's columns is the gated linear unit. -/
theorem pay_glu (x0 : S4x4096x1024.Idx → EReal) (x1 : S1024x5632.Idx → EReal) (x2 : S5632.Idx → EReal)
    (v0 : Vec Ideal S512x1024 .bf16) (v2 : Vec Ideal S1024x1024 .bf16) (v5 : Vec Ideal S1x1024 .f32)
    (v9 : Vec Ideal S1024x1024 .bf16) (v12 : Vec Ideal S1x1024 .f32) (r : Fin 512) (l : Fin 1024) (R : Fin 16384)
    (h0 : ∀ k : Fin 1024, v0 (ix2 r k) = x0 (ix3 ⟨R.val / 4096, by omega⟩ ⟨R.val % 4096, by omega⟩ k))
    (h2 : ∀ k : Fin 1024, v2 (ix2 k l) = x1 (ix2 k ⟨l.val, by omega⟩))
    (h9 : ∀ k : Fin 1024, v9 (ix2 k l) = x1 (ix2 k ⟨1024 + l.val, by omega⟩))
    (h5 : v5 (ix2 0 l) = x2 (ix1 ⟨l.val, by omega⟩)) (h12 : v12 (ix2 0 l) = x2 (ix1 ⟨1024 + l.val, by omega⟩)) :
    (k0_pay1 v0 v2 v5 v9 v12 : FVec Ideal S512x1024 .f32) (ix2 r l) = glu x0 x1 x2 R l := by
  rw [pay_apply]
  unfold glu lin
  rw [h5, h12]
  refine congrArg₂ (fun a b : EReal => (a + x2 (ix1 ⟨l.val, by omega⟩)) * Ideal.div 1 (1 + Ideal.exp (-(b + x2 (ix1 ⟨1024 + l.val, by omega⟩)))))
    (Finset.sum_congr rfl fun k _ => ?_) (Finset.sum_congr rfl fun k _ => ?_)
  · rw [h0, h2]
  · rw [h0, h9]

theorem V_v2 (c : Dev nD) : (V m c main_v2 : Vec Ideal S16384x1024 .bf16)
    = shapeCast S16384x1024 (truncf (F := Ideal) .bf16 (m ((c : Thread nD τ).loc main_arg0)) bitsLt_bf16_f32) shapeCasts_S4x4096x1024_S16384x1024 := by
  unfold V
  after_results <;> rfl
theorem V_v3 (c : Dev nD) : (V m c main_v3 : Vec Ideal S1024x1024 .bf16)
    = extractStridedSlice S1024x1024 ![0, 0] (truncf (F := Ideal) .bf16 (m ((c : Thread nD τ).loc main_arg1)) bitsLt_bf16_f32) slices_S1024x5632_S1024x1024_0_0 := by
  unfold V
  after_results <;> rfl
theorem V_v4 (c : Dev nD) : (V m c main_v4 : Vec Ideal S1024x1024 .bf16)
    = extractStridedSlice S1024x1024 ![0, 1024] (truncf (F := Ideal) .bf16 (m ((c : Thread nD τ).loc main_arg1)) bitsLt_bf16_f32) slices_S1024x5632_S1024x1024_0_1024 := by
  unfold V
  after_results <;> rfl
theorem V_v7 (c : Dev nD) : (V m c main_v7 : Vec Ideal S1x1024 .f32)
    = shapeCast S1x1024 (extractStridedSlice S1024 ![0] (m ((c : Thread nD τ).loc main_arg2)) slices_S5632_S1024_0) shapeCasts_S1024_S1x1024 := by
  unfold V
  after_results <;> rfl
theorem V_v8 (c : Dev nD) : (V m c main_v8 : Vec Ideal S1x1024 .f32)
    = shapeCast S1x1024 (extractStridedSlice S1024 ![1024] (m ((c : Thread nD τ).loc main_arg2)) slices_S5632_S1024_1024) shapeCasts_S1024_S1x1024 := by
  unfold V
  after_results <;> rfl

/-- The index maps: the rows and the output move with the point, the weights and biases stay. -/
theorem idx_facts : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 ∧ win0_4.index t 0 = 0 ∧ win0_4.index t 1 = 0
    ∧ win0_5.index t 0 = t.val ∧ win0_5.index t 1 = 0 :=
  (by decide +kernel : ∀ t : Fin grid0.N, _)

theorem iblk0_apply (c : Dev nD) (t : Fin cfg0.N) (r : Fin 512) (k : Fin 1024) (i : Fin 16384) (hi : i.val = 512 * t.val + r.val) :
    (iblk m c 0 t : Vec Ideal S512x1024 .bf16) (ix2 r k) = (V m c main_v2 : Vec Ideal S16384x1024 .bf16) (ix2 i k) := by
  have h := idx_facts t
  unfold iblk
  rw [View.read_apply]
  show V m c main_v2 _ = V m c main_v2 _
  congr 1
  funext a
  apply Fin.ext
  match a with
  | ⟨0, _⟩ => show win0_0.index t 0 * 512 + 1 * r.val = i.val; rw [h.1]; omega
  | ⟨1, _⟩ => show win0_0.index t 1 * 1024 + 1 * k.val = k.val; rw [h.2.1]; omega
theorem iblk1_eq (c : Dev nD) (t : Fin cfg0.N) : (iblk m c 1 t : Vec Ideal S1024x1024 .bf16) = V m c main_v3 := by
  have h := idx_facts t
  funext y
  unfold iblk
  rw [View.read_apply]
  show V m c main_v3 _ = V m c main_v3 _
  congr 1
  funext a
  apply Fin.ext
  match a with
  | ⟨0, _⟩ => show win0_1.index t 0 * 1024 + 1 * (y 0).val = (y 0).val; rw [h.2.2.1]; omega
  | ⟨1, _⟩ => show win0_1.index t 1 * 1024 + 1 * (y 1).val = (y 1).val; rw [h.2.2.2.1]; omega
theorem iblk2_eq (c : Dev nD) (t : Fin cfg0.N) : (iblk m c 2 t : Vec Ideal S1024x1024 .bf16) = V m c main_v4 := by
  have h := idx_facts t
  funext y
  unfold iblk
  rw [View.read_apply]
  show V m c main_v4 _ = V m c main_v4 _
  congr 1
  funext a
  apply Fin.ext
  match a with
  | ⟨0, _⟩ => show win0_2.index t 0 * 1024 + 1 * (y 0).val = (y 0).val; rw [h.2.2.2.2.1]; omega
  | ⟨1, _⟩ => show win0_2.index t 1 * 1024 + 1 * (y 1).val = (y 1).val; rw [h.2.2.2.2.2.1]; omega
theorem iblk3_eq (c : Dev nD) (t : Fin cfg0.N) : (iblk m c 3 t : Vec Ideal S1x1024 .f32) = V m c main_v7 := by
  have h := idx_facts t
  funext y
  unfold iblk
  rw [View.read_apply]
  show V m c main_v7 _ = V m c main_v7 _
  congr 1
  funext a
  apply Fin.ext
  match a with
  | ⟨0, _⟩ => show win0_3.index t 0 * 1 + 1 * (y 0).val = (y 0).val; rw [h.2.2.2.2.2.2.1]; omega
  | ⟨1, _⟩ => show win0_3.index t 1 * 1024 + 1 * (y 1).val = (y 1).val; rw [h.2.2.2.2.2.2.2.1]; omega
theorem iblk4_eq (c : Dev nD) (t : Fin cfg0.N) : (iblk m c 4 t : Vec Ideal S1x1024 .f32) = V m c main_v8 := by
  have h := idx_facts t
  funext y
  unfold iblk
  rw [View.read_apply]
  show V m c main_v8 _ = V m c main_v8 _
  congr 1
  funext a
  apply Fin.ext
  match a with
  | ⟨0, _⟩ => show win0_4.index t 0 * 1 + 1 * (y 0).val = (y 0).val; rw [h.2.2.2.2.2.2.2.2.1]; omega
  | ⟨1, _⟩ => show win0_4.index t 1 * 1024 + 1 * (y 1).val = (y 1).val; rw [h.2.2.2.2.2.2.2.2.2.1]; omega

/-! ## The operands read at an index -/

theorem v2_apply (c : Dev nD) (R : Fin 16384) (k : Fin 1024) : (V m c main_v2 : Vec Ideal S16384x1024 .bf16) (ix2 R k)
    = (m ((c : Thread nD τ).loc main_arg0) : S4x4096x1024.Idx → EReal) (ix3 ⟨R.val / 4096, by omega⟩ ⟨R.val % 4096, by omega⟩ k) := by
  rw [V_v2]
  refine (shapeCast_apply _ _ (ix2 R k) (ix3 ⟨R.val / 4096, by omega⟩ ⟨R.val % 4096, by omega⟩ k) ?_).trans rfl
  rewrite [Shape.rowMajor_val_three, Shape.rowMajor_val_two]
  show (R.val / 4096 * 4096 + R.val % 4096) * 1024 + k.val = R.val * 1024 + k.val
  omega
theorem v3_apply (c : Dev nD) (k l : Fin 1024) : (V m c main_v3 : Vec Ideal S1024x1024 .bf16) (ix2 k l)
    = (m ((c : Thread nD τ).loc main_arg1) : S1024x5632.Idx → EReal) (ix2 k ⟨l.val, by omega⟩) := by
  rw [V_v3]
  exact (extractStridedSlice_apply _ _ _ (ix2 k l) (ix2 k ⟨l.val, by omega⟩) (fun a => match a with
    | ⟨0, _⟩ => by show k.val = 0 + k.val; omega
    | ⟨1, _⟩ => by show l.val = 0 + l.val; omega)).trans rfl
theorem v4_apply (c : Dev nD) (k l : Fin 1024) : (V m c main_v4 : Vec Ideal S1024x1024 .bf16) (ix2 k l)
    = (m ((c : Thread nD τ).loc main_arg1) : S1024x5632.Idx → EReal) (ix2 k ⟨1024 + l.val, by omega⟩) := by
  rw [V_v4]
  exact (extractStridedSlice_apply _ _ _ (ix2 k l) (ix2 k ⟨1024 + l.val, by omega⟩) (fun a => match a with
    | ⟨0, _⟩ => by show k.val = 0 + k.val; omega
    | ⟨1, _⟩ => by show 1024 + l.val = 1024 + l.val; omega)).trans rfl
theorem v7_apply (c : Dev nD) (l : Fin 1024) : (V m c main_v7 : Vec Ideal S1x1024 .f32) (ix2 0 l)
    = (m ((c : Thread nD τ).loc main_arg2) : S5632.Idx → EReal) (ix1 ⟨l.val, by omega⟩) := by
  rw [V_v7]
  refine (shapeCast_apply _ _ (ix2 0 l) (ix1 l) ?_).trans ?_
  · rewrite [Shape.rowMajor_val_one, Shape.rowMajor_val_two]
    show l.val = 0 * 1024 + l.val
    omega
  · exact extractStridedSlice_apply _ _ _ (ix1 l) (ix1 ⟨l.val, by omega⟩) (fun a => match a with
      | ⟨0, _⟩ => by show l.val = 0 + l.val; omega)
theorem v8_apply (c : Dev nD) (l : Fin 1024) : (V m c main_v8 : Vec Ideal S1x1024 .f32) (ix2 0 l)
    = (m ((c : Thread nD τ).loc main_arg2) : S5632.Idx → EReal) (ix1 ⟨1024 + l.val, by omega⟩) := by
  rw [V_v8]
  refine (shapeCast_apply _ _ (ix2 0 l) (ix1 l) ?_).trans ?_
  · rewrite [Shape.rowMajor_val_one, Shape.rowMajor_val_two]
    show l.val = 0 * 1024 + l.val
    omega
  · exact extractStridedSlice_apply _ _ _ (ix1 l) (ix1 ⟨1024 + l.val, by omega⟩) (fun a => match a with
      | ⟨0, _⟩ => by show 1024 + l.val = 1024 + l.val; omega)

/-! ## The output array -/

/-- What the output array ends holding. -/
def result (c : Dev nD) : Buf (Elt Ideal) ((c : Thread nD τ).loc main_v9) := fun i : S16384x1024.Idx =>
  glu (m ((c : Thread nD τ).loc main_arg0)) (m ((c : Thread nD τ).loc main_arg1)) (m ((c : Thread nD τ).loc main_arg2)) (i 0) (i 1)

theorem hz : (![0, 0] : Fin 2 → Nat) = fun _ => 0 := funext fun a => by fin_cases a <;> rfl

/-- What point `t` writes back is block `t` of it. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz]
  simp only [View.ld_unit_zero (S := S512x1024) hz, View.ld_unit_zero (S := S1024x1024) hz, View.ld_unit_zero (S := S1x1024) hz]
  have h := idx_facts t
  have hN : cfg0.N = 32 := N_0
  have ht := t.isLt
  refine funext fun (y : S512x1024.Idx) => ?_
  rw [View.read_apply]
  have hy0 : (y 0).val < 512 := (y 0).isLt
  have hR : 512 * t.val + (y 0).val < 16384 := by omega
  have he : ((cfg0.win 5).blk t).view.emb y = (ix2 (⟨512 * t.val + (y 0).val, hR⟩ : Fin 16384) (y 1 : Fin 1024) : S16384x1024.Idx) := by
    funext a
    apply Fin.ext
    match a with
    | ⟨0, _⟩ => show win0_5.index t 0 * 512 + 1 * (y 0).val = 512 * t.val + (y 0).val; rw [h.2.2.2.2.2.2.2.2.2.2.1]; omega
    | ⟨1, _⟩ => show win0_5.index t 1 * 1024 + 1 * (y 1).val = (y 1).val; rw [h.2.2.2.2.2.2.2.2.2.2.2]; omega
  rw [he]
  refine (congrArg (k0_pay1 (iblk m c 0 t) (iblk m c 1 t) (iblk m c 3 t) (iblk m c 2 t) (iblk m c 4 t)) (eq_ix2 y)).trans ?_
  exact pay_glu _ _ _ _ _ _ _ _ (y 0) (y 1) ⟨512 * t.val + (y 0).val, hR⟩
    (fun k => (iblk0_apply m c t (y 0) k _ rfl).trans (v2_apply m c _ k))
    (fun k => (congrFun (iblk1_eq m c t) _).trans (v3_apply m c k (y 1)))
    (fun k => (congrFun (iblk2_eq m c t) _).trans (v4_apply m c k (y 1)))
    ((congrFun (iblk3_eq m c t) _).trans (v7_apply m c (y 1)))
    ((congrFun (iblk4_eq m c t) _).trans (v8_apply m c (y 1)))

theorem cover (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  have hN : cfg0.N = 32 := N_0
  have ht : (i 0 : Nat) / 512 < cfg0.N := by omega
  refine ⟨⟨(i 0 : Nat) / 512, ht⟩, flush0_5 _, ?_⟩
  have h := idx_facts ⟨(i 0 : Nat) / 512, ht⟩
  show i ∈ ((View.whole main_v9).slice (win0_5.rect ⟨(i 0 : Nat) / 512, ht⟩)).set
  rw [View.set_slice_whole, Rect.mem_set_unit]
  intro a
  match a with
  | ⟨0, _⟩ => show win0_5.index ⟨(i 0 : Nat) / 512, ht⟩ 0 * 512 ≤ (i 0 : Nat) ∧ (i 0 : Nat) < win0_5.index ⟨(i 0 : Nat) / 512, ht⟩ 0 * 512 + 512
              rw [h.2.2.2.2.2.2.2.2.2.2.1]; dsimp only; omega
  | ⟨1, _⟩ => show win0_5.index ⟨(i 0 : Nat) / 512, ht⟩ 1 * 1024 ≤ (i 1 : Nat) ∧ (i 1 : Nat) < win0_5.index ⟨(i 0 : Nat) / 512, ht⟩ 1 * 1024 + 1024
              rw [h.2.2.2.2.2.2.2.2.2.2.2]; omega

theorem final (c : Dev nD) : (dats m 0 c).arrAt 5 cfg0.N = result m c :=
  (dats m 0 c).arrAt_eq_of_cover 5 (result m c) (fun t _ => flushed_eq m c t) cover

/-- The reference's result at row `R`, lane `l`. -/
theorem ref_apply (x0 : Cert.GluRefIdeal.S4x4096x1024.Idx → EReal) (x1 : Cert.GluRefIdeal.S1024x5632.Idx → EReal) (x2 : Cert.GluRefIdeal.S5632.Idx → EReal)
    (R : Fin 16384) (l : Fin 1024) :
    Cert.GluRefIdeal.Read.val_main_v13 (F := Ideal) x0 x1 x2 (ix2 R l) = glu x0 x1 x2 R l := by
  open Cert.GluRefIdeal.Read in
  have hz : ∀ (b : Fin 4) (s : Fin 4096) (d : Fin 5632), val_main_v3 (F := Ideal) x0 x1 x2 (ix3 b s d)
      = (∑ k : Fin 1024, x0 (ix3 b s k) * x1 (ix2 k d)) + x2 (ix1 d) := fun b s d => by
    rw [val_main_v3_apply, val_main_v0_apply, val_main_v2_apply, val_main_v1_apply]
    have e1 : ∀ k, lidx_main_v0 (ix3 b s d) k = ix3 b s k := fun k => funext fun a => match a with | ⟨0, _⟩ => rfl | ⟨1, _⟩ => rfl | ⟨2, _⟩ => rfl
    have e2 : ∀ k, ridx_main_v0 (ix3 b s d) k = ix2 k d := fun k => funext fun a => match a with | ⟨0, _⟩ => rfl | ⟨1, _⟩ => rfl
    have e3 : idx_main_v1 (idx_main_v2 (ix3 b s d)) = ix1 d := funext fun a => match a with | ⟨0, _⟩ => rfl
    simp only [e1, e2, e3]
    rfl
  have e0 : idx_main_v13 (ix2 R l) = ix3 ⟨R.val / 4096, by omega⟩ ⟨R.val % 4096, by omega⟩ l := funext fun a => Fin.ext (match a with
    | ⟨0, _⟩ => by show (R.val * 1024 + l.val) / 4194304 = R.val / 4096; omega
    | ⟨1, _⟩ => by show (R.val * 1024 + l.val) / 1024 % 4096 = R.val % 4096; omega
    | ⟨2, _⟩ => by show (R.val * 1024 + l.val) % 1024 = l.val; omega)
  have e4 : ∀ b s, idx_main_v4 (ix3 b s l) = ix3 b s ⟨l.val, by omega⟩ := fun b s => funext fun a => match a with | ⟨0, _⟩ => rfl | ⟨1, _⟩ => rfl | ⟨2, _⟩ => rfl
  have e5 : ∀ b s, idx_main_v5 (ix3 b s l) = ix3 b s ⟨1024 + l.val, by omega⟩ := fun b s => funext fun a => match a with | ⟨0, _⟩ => rfl | ⟨1, _⟩ => rfl | ⟨2, _⟩ => rfl
  rw [val_main_v13_apply, e0, val_main_v12_apply, val_main_v4_apply, val_main_v11_apply, val_main_v10_apply, val_main_v9_apply, val_main_v8_apply, val_main_v7_apply,
    val_main_v6_apply, val_main_v5_apply, val_main_cst_apply, val_main_cst_0_apply, e4, e5, hz, hz]
  simp only [Ideal.ofBits_def, Ideal.ofBits_one_f32]
  rfl

end Cert.GluIdeal.Val

end
-- ==== Proof.Glu.lean ====
/-
  The gated linear unit's call and its reference leave the same array.
-/
module

public import proofs.«01_k».proof.Defs
public import proofs.«01_k».proof.Proof.Gen.GluRefIdeal.Run
public import proofs.«01_k».proof.Proof.Glu.Value

@[expose] public section

noncomputable section

namespace Cert.GluIdeal.Val

open Cert.GluIdeal Cert.GluIdeal.Gen
open Idealize.ShloMosaic Idealize.ShloMosaic.TcCoe Idealize.SL.Sem Idealize.ShloMosaic.ValueIdx

/-- The reference's array at the kernel's arguments is the array the kernel leaves. -/
theorem ref_result (m : (ℓ : Loc nD τ sig) → Buf (Elt Ideal) ℓ) (c : Dev nD) :
    Cert.GluRefIdeal.Read.val_main_v13 (F := Ideal) (m ((c.tc : Thread nD τ).loc main_arg0)) (m ((c.tc : Thread nD τ).loc main_arg1))
      (m ((c.tc : Thread nD τ).loc main_arg2)) = result m c :=
  funext fun i => (congrArg _ (eq_ix2 i)).trans (ref_apply _ _ _ (i 0) (i 1))

theorem algebraic : Cert.algebraic_GluIdeal_GluRefIdeal := fun m g m' g' _ h =>
  ⟨fun c => result m c,
    (θ_run Cert.GluIdeal.defs _ _).mono (fun r hr c => ⟨(hr c).1.trans (final m c), (hr c).2⟩) (Cert.GluIdeal.Value.run_blocks m g),
    (θ_run Cert.GluRefIdeal.defs _ _).mono (fun r hr c => ⟨(hr c).1.trans ((Cert.GluRefIdeal.Read.val_main_v13_eq _ _ _).trans (by
        rw [(h c).1, (h c).2.1, (h c).2.2]; exact ref_result m c)), (hr c).2⟩)
      (Cert.GluRefIdeal.Value.run m' g')⟩

end Cert.GluIdeal.Val

end
-- ==== Proof.Merge.Math.lean ====
/-
  The gated merge of one row, as a function of the row's entries and the weights: the two branches' projections under their gates, the
  output projection, the residual, and the layer's norm.
-/
module

public import Idealize.ShloMosaic.Lib.IdealHost

@[expose] public section

noncomputable section

namespace Cert.Merge.Math

open Idealize.ShloMosaic

/-- A row times a matrix. -/
def lin (h : Fin 1024 → EReal) (w : Fin 1024 → Fin 1024 → EReal) (l : Fin 1024) : EReal := ∑ k : Fin 1024, h k * w k l

/-- The logistic function of a projection with its bias. -/
def gate (h : Fin 1024 → EReal) (w : Fin 1024 → Fin 1024 → EReal) (b : Fin 1024 → EReal) (l : Fin 1024) : EReal :=
  Ideal.div 1 (1 + Ideal.exp (-(lin h w l + b l)))

/-- The weight of the residual. -/
def alpha : EReal := Ideal.ofBits .f32 0x3FD744FD#32

/-- The number of lanes, and the norm's shift of the variance. -/
def lanes : EReal := Ideal.ofBits .f32 0x44800000#32
def eps : EReal := Ideal.ofBits .f32 0x3727C5AC#32

/-- The two branches under their gates. -/
def mixed (h c t : Fin 1024 → EReal) (wgc wga wpw wo : Fin 1024 → Fin 1024 → EReal) (bgc bga bpw : Fin 1024 → EReal) (k : Fin 1024) : EReal :=
  gate h wgc bgc k * (lin c wpw k + bpw k) + gate h wga bga k * lin t wo k

/-- The residual with the mixture's output projection. -/
def pre (h x c t : Fin 1024 → EReal) (wgc wga wpw wo wout : Fin 1024 → Fin 1024 → EReal) (bgc bga bpw bout : Fin 1024 → EReal) (l : Fin 1024) : EReal :=
  alpha * x l + (lin (mixed h c t wgc wga wpw wo bgc bga bpw) wout l + bout l)

/-- A row less its mean. -/
def centred (y : Fin 1024 → EReal) (l : Fin 1024) : EReal := y l - Ideal.div (∑ k : Fin 1024, y k) lanes

/-- The layer norm of a row. -/
def norm (y g b : Fin 1024 → EReal) (l : Fin 1024) : EReal :=
  centred y l * Ideal.rsqrt (Ideal.div (∑ k : Fin 1024, centred y k * centred y k) lanes + eps) * g l + b l

/-- The merged row. -/
def merged (h x c t : Fin 1024 → EReal) (wgc wga wpw wo wout : Fin 1024 → Fin 1024 → EReal) (bgc bga bpw bout g b : Fin 1024 → EReal) : Fin 1024 → EReal :=
  norm (pre h x c t wgc wga wpw wo wout bgc bga bpw bout) g b

end Cert.Merge.Math

end
-- ==== Proof.Merge.Pay.lean ====
/-
  The gated merge's body over the reals: the block it writes holds, row by row, the merged row of the blocks it reads.
-/
module

public import proofs.«01_k».proof.Proof.Gen.MergeIdeal.Frame
public import proofs.«01_k».proof.Proof.Merge.Math
public import Idealize.ShloMosaic.Lib.Pipeline.Value
public import Idealize.ShloMosaic.Lib.MatmulPlain
public import Idealize.ShloMosaic.Lib.ValueIdx
public import Idealize.ShloMosaic.Lib.IdealHost

@[expose] public section

noncomputable section

namespace Cert.MergeIdeal.Val

open Cert.MergeIdeal Cert.MergeIdeal.Gen Cert.Merge.Math
open Idealize.ShloMosaic Idealize.ShloMosaic.TcCoe Idealize.SL.Sem Idealize.ShloMosaic.ValueIdx

/-- A row of a block, a block as a matrix, and a one-row block as a vector. -/
abbrev row (v : S256x1024.Idx → EReal) (r : Fin 256) : Fin 1024 → EReal := fun k => v (ix2 r k)
abbrev mat (v : S1024x1024.Idx → EReal) : Fin 1024 → Fin 1024 → EReal := fun k l => v (ix2 k l)
abbrev vec (v : S1x1024.Idx → EReal) : Fin 1024 → EReal := fun l => v (ix2 0 l)

theorem bias_apply (x : FVec Ideal S1x1024 .f32) (r : Fin 256) (l : Fin 1024) :
    broadcastTo S256x1024 x broadcasts_S1x1024_S256x1024 (ix2 r l) = x (ix2 0 l) :=
  broadcastTo_apply x _ (ix2 r l) (ix2 0 l) (fun a => match a with | ⟨0, _⟩ => rfl | ⟨1, _⟩ => rfl)

theorem col_apply (x : FVec Ideal S256x1 .f32) (r : Fin 256) (l : Fin 1024) :
    broadcastTo S256x1024 x broadcasts_S256x1_S256x1024 (ix2 r l) = x (ix2 r 0) :=
  broadcastTo_apply x _ (ix2 r l) (ix2 r 0) (fun a => match a with | ⟨0, _⟩ => rfl | ⟨1, _⟩ => rfl)

theorem dot_apply (v : FVec Ideal S256x1024 .bf16) (w : FVec Ideal S1024x1024 .bf16) (r : Fin 256) (l : Fin 1024) :
    (matmul dot_S256x1024_S1024x1024_S256x1024_1_0_0_1_n_n none v w (constant S256x1024 .f32 0x00000000#32) : FVec Ideal S256x1024 .f32) (ix2 r l)
      = lin (row v r) (mat w) l := by
  refine (Ideal.matmul_plain_apply (φ₁ := .bf16) (φ₂ := .bf16) none v w _ r l).trans ?_
  rw [show (constant S256x1024 .f32 0x00000000#32 : FVec Ideal S256x1024 .f32) (ix2 r l) = (0 : EReal) from Ideal.ofBits_zero_f32, zero_add]
  rfl

/-- The sum of a row's lanes, as a column. -/
theorem sum_apply (x : FVec Ideal S256x1024 .f32) (r : Fin 256) :
    (shapeCast S256x1 (multiReduction .add [1] S256 x 0x00000000#32 reduces_S256x1024_S256 (.inl rfl) rfl) shapeCasts_S256_S256x1 : FVec Ideal S256x1 .f32) (ix2 r 0)
      = ∑ k : Fin 1024, x (ix2 r k) := by
  refine (shapeCast_apply _ _ (ix2 r 0) (ix1 r) ?_).trans ?_
  · rewrite [Shape.rowMajor_val_one, Shape.rowMajor_val_two]
    show r.val = r.val * 1 + 0
    omega
  · refine (Ideal.multiReduction_add_single x 0x00000000#32 reduces_S256x1024_S256 (.inl rfl) rfl (ix1 r)).trans ?_
    exact Finset.sum_congr rfl fun k _ => congrArg x (funext fun a => match a with | ⟨0, _⟩ => rfl | ⟨1, _⟩ => rfl)

theorem pay5_apply (v0 : Vec Ideal S256x1024 .bf16) (v2 : Vec Ideal S1024x1024 .bf16) (v5 : Vec Ideal S1x1024 .f32) (r : Fin 256) (l : Fin 1024) :
    (k0_pay5 v0 v2 v5 : FVec Ideal S256x1024 .f32) (ix2 r l) = gate (row v0 r) (mat v2) (vec v5) l := by
  unfold k0_pay5 k0_pay4
  simp only [shapeCast_self]
  have h1 : (Scalar.ofBits (F := Ideal) .f32 0x3F800000#32 : EReal) = 1 := Ideal.ofBits_one_f32
  have h0 : (Scalar.ofBits (F := Ideal) .f32 0x00000000#32 : EReal) = 0 := Ideal.ofBits_zero_f32
  have he : ∀ (a : FVec Ideal S256x1024 .f32) i, exp a i = Ideal.exp (a i) := fun _ _ => rfl
  simp only [divf_apply, he, subf_apply, addf_apply, dot_apply, bias_apply, broadcast_apply, h0, h1, zero_sub]
  rfl

theorem pay6_apply (v0 : Vec Ideal S256x1024 .bf16) (v2 : Vec Ideal S1024x1024 .bf16) (v5 : Vec Ideal S1x1024 .f32) (r : Fin 256) (l : Fin 1024) :
    (k0_pay6 v0 v2 v5 : FVec Ideal S256x1024 .f32) (ix2 r l) = gate (row v0 r) (mat v2) (vec v5) l := pay5_apply v0 v2 v5 r l

theorem pay7_apply (v : Vec Ideal S256x1024 .bf16) (w : Vec Ideal S1024x1024 .bf16) (r : Fin 256) (l : Fin 1024) :
    (k0_pay7 v w : FVec Ideal S256x1024 .f32) (ix2 r l) = lin (row v r) (mat w) l := by
  unfold k0_pay7
  simp only [shapeCast_self]
  exact dot_apply v w r l

/-- A block less its rows' means. -/
theorem centre_apply (x : FVec Ideal S256x1024 .f32) (r : Fin 256) (l : Fin 1024) :
    (subf x (broadcastTo S256x1024 (divf (shapeCast S256x1 (multiReduction .add [1] S256 x 0x00000000#32 reduces_S256x1024_S256 (.inl rfl) rfl) shapeCasts_S256_S256x1)
      (broadcast S256x1 (Scalar.ofBits .f32 0x44800000#32))) broadcasts_S256x1_S256x1024) : FVec Ideal S256x1024 .f32) (ix2 r l)
      = centred (row x r) l := by
  rw [subf_apply, col_apply, divf_apply, sum_apply]
  rfl

/-- The rows before their norm, as a block. -/
def preBlock (v15 v29 v34 : FVec Ideal S256x1024 .f32) (v35 : FVec Ideal S1x1024 .f32) (v39 : FVec Ideal S256x1024 .bf16)
    (v41 v48 : FVec Ideal S1024x1024 .bf16) (v51 : FVec Ideal S1x1024 .f32) (v55 : FVec Ideal S256x1024 .f32) : FVec Ideal S256x1024 .f32 :=
  addf (mulf (broadcast S256x1024 (Scalar.ofBits .f32 0x3FD744FD#32)) (shapeCast S256x1024 v55 shapeCasts_S256x1024_S256x1024))
    (addf (matmul dot_S256x1024_S1024x1024_S256x1024_1_0_0_1_n_n none
        (truncf .bf16 (addf (mulf v15 (addf v34 (broadcastTo S256x1024 (shapeCast S1x1024 v35 shapeCasts_S1x1024_S1x1024) broadcasts_S1x1024_S256x1024)))
          (mulf v29 (matmul dot_S256x1024_S1024x1024_S256x1024_1_0_0_1_n_n none (shapeCast S256x1024 v39 shapeCasts_S256x1024_S256x1024)
            (shapeCast S1024x1024 v41 shapeCasts_S1024x1024_S1024x1024) (constant S256x1024 .f32 0x00000000#32)))) bitsLt_bf16_f32)
        (shapeCast S1024x1024 v48 shapeCasts_S1024x1024_S1024x1024) (constant S256x1024 .f32 0x00000000#32))
      (broadcastTo S256x1024 (shapeCast S1x1024 v51 shapeCasts_S1x1024_S1x1024) broadcasts_S1x1024_S256x1024))

theorem preBlock_apply (v15 v29 v34 : FVec Ideal S256x1024 .f32) (v35 : FVec Ideal S1x1024 .f32) (v39 : FVec Ideal S256x1024 .bf16)
    (v41 v48 : FVec Ideal S1024x1024 .bf16) (v51 : FVec Ideal S1x1024 .f32) (v55 : FVec Ideal S256x1024 .f32) (r : Fin 256) (l : Fin 1024) :
    preBlock v15 v29 v34 v35 v39 v41 v48 v51 v55 (ix2 r l) = alpha * v55 (ix2 r l)
          + (lin (fun k => v15 (ix2 r k) * (v34 (ix2 r k) + v35 (ix2 0 k)) + v29 (ix2 r k) * lin (row v39 r) (mat v41) k) (mat v48) l + v51 (ix2 0 l)) := by
  unfold preBlock
  have hcast : ∀ (v : FVec Ideal S256x1024 .f32) (k : Fin 1024), (truncf .bf16 v bitsLt_bf16_f32 : FVec Ideal S256x1024 .bf16) (ix2 r k) = v (ix2 r k) := fun _ _ => rfl
  simp only [shapeCast_self, broadcast_apply, addf_apply, mulf_apply, dot_apply, bias_apply]
  refine congrArg (fun z : EReal => alpha * v55 (ix2 r l) + (z + v51 (ix2 0 l))) (congrArg (fun h => lin h (mat v48) l) (funext fun k => ?_))
  refine (hcast _ k).trans ?_
  simp only [addf_apply, mulf_apply, dot_apply, bias_apply]

theorem pay10_eq (v15 v29 v34 : FVec Ideal S256x1024 .f32) (v35 : FVec Ideal S1x1024 .f32) (v39 : FVec Ideal S256x1024 .bf16)
    (v41 v48 : FVec Ideal S1024x1024 .bf16) (v51 : FVec Ideal S1x1024 .f32) (v55 : FVec Ideal S256x1024 .f32) :
    (k0_pay10 v15 v29 v34 v35 v39 v41 v48 v51 v55 : FVec Ideal S256x1024 .f32) = subf (preBlock v15 v29 v34 v35 v39 v41 v48 v51 v55)
      (broadcastTo S256x1024 (divf (shapeCast S256x1 (multiReduction .add [1] S256 (preBlock v15 v29 v34 v35 v39 v41 v48 v51 v55) 0x00000000#32
        reduces_S256x1024_S256 (.inl rfl) rfl) shapeCasts_S256_S256x1) (broadcast S256x1 (Scalar.ofBits .f32 0x44800000#32))) broadcasts_S256x1_S256x1024) := rfl

/-- The centred row, given the gates' and the first branch's blocks. -/
theorem pay10_apply (v15 v29 v34 : FVec Ideal S256x1024 .f32) (v35 : FVec Ideal S1x1024 .f32) (v39 : FVec Ideal S256x1024 .bf16)
    (v41 v48 : FVec Ideal S1024x1024 .bf16) (v51 : FVec Ideal S1x1024 .f32) (v55 : FVec Ideal S256x1024 .f32) (r : Fin 256) (l : Fin 1024) :
    (k0_pay10 v15 v29 v34 v35 v39 v41 v48 v51 v55 : FVec Ideal S256x1024 .f32) (ix2 r l)
      = centred (fun l => alpha * v55 (ix2 r l)
          + (lin (fun k => v15 (ix2 r k) * (v34 (ix2 r k) + v35 (ix2 0 k)) + v29 (ix2 r k) * lin (row v39 r) (mat v41) k) (mat v48) l + v51 (ix2 0 l))) l := by
  rw [pay10_eq, centre_apply]
  exact congrArg (fun y => centred y l) (funext fun l => preBlock_apply v15 v29 v34 v35 v39 v41 v48 v51 v55 r l)

theorem pay11_apply (v15 v29 v34 : FVec Ideal S256x1024 .f32) (v35 : Vec Ideal S1x1024 .f32) (v39 : Vec Ideal S256x1024 .bf16)
    (v41 v48 : Vec Ideal S1024x1024 .bf16) (v51 : Vec Ideal S1x1024 .f32) (v55 : Vec Ideal S256x1024 .f32) (r : Fin 256) :
    (k0_pay11 v15 v29 v34 v35 v39 v41 v48 v51 v55 : FVec Ideal S256x1 .f32) (ix2 r 0)
      = ∑ k : Fin 1024, ((k0_pay10 v15 v29 v34 v35 v39 v41 v48 v51 v55 : FVec Ideal S256x1024 .f32) (ix2 r k)
          * (k0_pay10 v15 v29 v34 v35 v39 v41 v48 v51 v55 : FVec Ideal S256x1024 .f32) (ix2 r k) : EReal) := by
  unfold k0_pay11
  rw [sum_apply]
  rfl

theorem pay1_apply (v61 v63 : FVec Ideal S1x1024 .f32) (v69 : FVec Ideal S256x1024 .f32) (v72 : FVec Ideal S256x1 .f32) (r : Fin 256) (l : Fin 1024) :
    (k0_pay1 v61 v63 v69 v72 (Scalar.ofBits .f32 0x44800000#32) : FVec Ideal S256x1024 .f32) (ix2 r l)
      = (v69 (ix2 r l) * Ideal.rsqrt (Ideal.div (v72 (ix2 r 0)) lanes + eps) * v61 (ix2 0 l) + v63 (ix2 0 l) : EReal) := by
  unfold k0_pay1
  simp only [addf_apply, mulf_apply, col_apply, bias_apply]
  rfl

variable (x0 : Vec Ideal S256x1024 .bf16) (x1 : Vec Ideal S256x1024 .f32) (x2 x3 : Vec Ideal S256x1024 .bf16)
  (x4 x5 x6 x7 x8 : Vec Ideal S1024x1024 .bf16) (x9 x10 x11 x12 x13 x14 : Vec Ideal S1x1024 .f32) (x15 : Vec Ideal S1024x128 .bf16)

theorem hz : (![0, 0] : Fin 2 → Nat) = fun _ => 0 := funext fun a => by fin_cases a <;> rfl

theorem pay17_apply (r : Fin 256) (l : Fin 1024) :
    (k0_pay17 x0 x1 x2 x3 x4 x5 x6 x7 x8 x9 x10 x11 x12 x13 x14 x15 : FVec Ideal S256x1024 .f32) (ix2 r l)
      = centred (pre (row x0 r) (row x1 r) (row x2 r) (row x3 r) (mat x4) (mat x5)
          (mat x6) (mat x7) (mat x8) (vec x9) (vec x10) (vec x11) (vec x12)) l := by
  unfold k0_pay17 k0_pay12 k0_pay13 k0_pay14
  simp only [View.ld_unit_zero (S := S256x1024) hz, View.ld_unit_zero (S := S1024x1024) hz, View.ld_unit_zero (S := S1x1024) hz]
  rw [pay10_apply]
  simp only [pay5_apply, pay6_apply, pay7_apply]
  rfl

/-- The block of the first output, at row `r`, lane `l`. -/
theorem out16_apply (r : Fin 256) (l : Fin 1024) :
    (out0_16 x0 x1 x2 x3 x4 x5 x6 x7 x8 x9 x10 x11 x12 x13 x14 x15 : FVec Ideal S256x1024 .f32) (ix2 r l)
      = merged (row x0 r) (row x1 r) (row x2 r) (row x3 r) (mat x4) (mat x5)
          (mat x6) (mat x7) (mat x8) (vec x9) (vec x10) (vec x11) (vec x12) (vec x13) (vec x14) l := by
  unfold out0_16
  rw [View.canon_unit_zero hz, pay1_apply]
  have h72 : (k0_pay18 x0 x1 x2 x3 x4 x5 x6 x7 x8 x9 x10 x11 x12 x13 x14 x15 : FVec Ideal S256x1 .f32) (ix2 r 0)
      = ∑ k : Fin 1024, ((k0_pay17 x0 x1 x2 x3 x4 x5 x6 x7 x8 x9 x10 x11 x12 x13 x14 x15 : FVec Ideal S256x1024 .f32) (ix2 r k)
          * (k0_pay17 x0 x1 x2 x3 x4 x5 x6 x7 x8 x9 x10 x11 x12 x13 x14 x15 : FVec Ideal S256x1024 .f32) (ix2 r k) : EReal) := by
    unfold k0_pay18 k0_pay17
    exact pay11_apply _ _ _ _ _ _ _ _ _ r
  rw [h72]
  simp only [pay17_apply]
  unfold k0_pay15 k0_pay16 k0_pay8 k0_pay9
  simp only [View.ld_unit_zero (S := S1x1024) hz, shapeCast_self]
  rfl

/-- The second output's block is the first's: a change of format is the identity. -/
theorem out17_apply (r : Fin 256) (l : Fin 1024) :
    ((out0_17 x0 x1 x2 x3 x4 x5 x6 x7 x8 x9 x10 x11 x12 x13 x14 x15 : FVec Ideal S256x1024 .bf16) (ix2 r l) : EReal)
      = (out0_16 x0 x1 x2 x3 x4 x5 x6 x7 x8 x9 x10 x11 x12 x13 x14 x15 : FVec Ideal S256x1024 .f32) (ix2 r l) := by
  unfold out0_17 out0_16
  rw [View.canon_unit_zero hz, View.canon_unit_zero hz]
  rfl

end Cert.MergeIdeal.Val

end
-- ==== Proof.Merge.Value.lean ====
/-
  The gated merge's call over the reals: the arrays its launch prepares, the blocks its points see, and the two arrays it leaves.
-/
module

public import proofs.«01_k».proof.Proof.Gen.MergeIdeal.Value
public import proofs.«01_k».proof.Proof.Merge.Pay

@[expose] public section

noncomputable section

namespace Cert.MergeIdeal.Val

open Cert.MergeIdeal Cert.MergeIdeal.Gen Cert.Merge.Math
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The operands read at an index -/

theorem V_v8 (c : Dev nD) : (V m c main_v8 : Vec Ideal S16384x1024 .bf16)
    = truncf (F := Ideal) .bf16 (shapeCast S16384x1024 (m ((c : Thread nD τ).loc main_arg0)) shapeCasts_S4x4096x1024_S16384x1024) bitsLt_bf16_f32 := by
  unfold V
  simp only [List.flatten_cons, List.flatten_nil, List.append_nil, List.cons_append, List.nil_append, hostOps0, hostOps0_1, hostOps0_2]
  after_results <;> rfl
theorem v8_apply (c : Dev nD) (R : Fin 16384) (k : Fin 1024) : (V m c main_v8 : Vec Ideal S16384x1024 .bf16) (ix2 R k)
    = (m ((c : Thread nD τ).loc main_arg0) : S4x4096x1024.Idx → EReal) (ix3 ⟨R.val / 4096, by omega⟩ ⟨R.val % 4096, by omega⟩ k) := by
  rw [V_v8]
  show (shapeCast S16384x1024 (m ((c : Thread nD τ).loc main_arg0) : Vec Ideal S4x4096x1024 .f32) shapeCasts_S4x4096x1024_S16384x1024 : FVec Ideal S16384x1024 .f32) (ix2 R k) = _
  refine (shapeCast_apply _ _ (ix2 R k) (ix3 ⟨R.val / 4096, by omega⟩ ⟨R.val % 4096, by omega⟩ k) ?_).trans rfl
  rewrite [Shape.rowMajor_val_three, Shape.rowMajor_val_two]
  show (R.val / 4096 * 4096 + R.val % 4096) * 1024 + k.val = R.val * 1024 + k.val
  omega
theorem V_v7 (c : Dev nD) : (V m c main_v7 : Vec Ideal S16384x1024 .f32)
    = shapeCast S16384x1024 (m ((c : Thread nD τ).loc main_arg0)) shapeCasts_S4x4096x1024_S16384x1024 := by
  unfold V
  simp only [List.flatten_cons, List.flatten_nil, List.append_nil, List.cons_append, List.nil_append, hostOps0, hostOps0_1, hostOps0_2]
  after_results <;> rfl
theorem v7_apply (c : Dev nD) (R : Fin 16384) (k : Fin 1024) : (V m c main_v7 : Vec Ideal S16384x1024 .f32) (ix2 R k)
    = (m ((c : Thread nD τ).loc main_arg0) : S4x4096x1024.Idx → EReal) (ix3 ⟨R.val / 4096, by omega⟩ ⟨R.val % 4096, by omega⟩ k) := by
  rw [V_v7]
  refine (shapeCast_apply _ _ (ix2 R k) (ix3 ⟨R.val / 4096, by omega⟩ ⟨R.val % 4096, by omega⟩ k) ?_).trans rfl
  rewrite [Shape.rowMajor_val_three, Shape.rowMajor_val_two]
  show (R.val / 4096 * 4096 + R.val % 4096) * 1024 + k.val = R.val * 1024 + k.val
  omega
theorem V_v10 (c : Dev nD) : (V m c main_v10 : Vec Ideal S16384x1024 .bf16)
    = shapeCast S16384x1024 (truncf (F := Ideal) .bf16 (m ((c : Thread nD τ).loc main_arg1)) bitsLt_bf16_f32) shapeCasts_S4x4096x1024_S16384x1024 := by
  unfold V
  simp only [List.flatten_cons, List.flatten_nil, List.append_nil, List.cons_append, List.nil_append, hostOps0, hostOps0_1, hostOps0_2]
  after_results <;> rfl
theorem v10_apply (c : Dev nD) (R : Fin 16384) (k : Fin 1024) : (V m c main_v10 : Vec Ideal S16384x1024 .bf16) (ix2 R k)
    = (m ((c : Thread nD τ).loc main_arg1) : S4x4096x1024.Idx → EReal) (ix3 ⟨R.val / 4096, by omega⟩ ⟨R.val % 4096, by omega⟩ k) := by
  rw [V_v10]
  refine (shapeCast_apply _ _ (ix2 R k) (ix3 ⟨R.val / 4096, by omega⟩ ⟨R.val % 4096, by omega⟩ k) ?_).trans rfl
  rewrite [Shape.rowMajor_val_three, Shape.rowMajor_val_two]
  show (R.val / 4096 * 4096 + R.val % 4096) * 1024 + k.val = R.val * 1024 + k.val
  omega
theorem V_v12 (c : Dev nD) : (V m c main_v12 : Vec Ideal S16384x1024 .bf16)
    = shapeCast S16384x1024 (truncf (F := Ideal) .bf16 (m ((c : Thread nD τ).loc main_arg2)) bitsLt_bf16_f32) shapeCasts_S4x4096x1024_S16384x1024 := by
  unfold V
  simp only [List.flatten_cons, List.flatten_nil, List.append_nil, List.cons_append, List.nil_append, hostOps0, hostOps0_1, hostOps0_2]
  after_results <;> rfl
theorem v12_apply (c : Dev nD) (R : Fin 16384) (k : Fin 1024) : (V m c main_v12 : Vec Ideal S16384x1024 .bf16) (ix2 R k)
    = (m ((c : Thread nD τ).loc main_arg2) : S4x4096x1024.Idx → EReal) (ix3 ⟨R.val / 4096, by omega⟩ ⟨R.val % 4096, by omega⟩ k) := by
  rw [V_v12]
  refine (shapeCast_apply _ _ (ix2 R k) (ix3 ⟨R.val / 4096, by omega⟩ ⟨R.val % 4096, by omega⟩ k) ?_).trans rfl
  rewrite [Shape.rowMajor_val_three, Shape.rowMajor_val_two]
  show (R.val / 4096 * 4096 + R.val % 4096) * 1024 + k.val = R.val * 1024 + k.val
  omega
theorem V_v13 (c : Dev nD) : (V m c main_v13 : Vec Ideal S1024x1024 .bf16)
    = extractStridedSlice S1024x1024 ![0, 3584] (truncf (F := Ideal) .bf16 (m ((c : Thread nD τ).loc main_arg3)) bitsLt_bf16_f32) slices_S1024x5632_S1024x1024_0_3584 := by
  unfold V
  simp only [List.flatten_cons, List.flatten_nil, List.append_nil, List.cons_append, List.nil_append, hostOps0, hostOps0_1, hostOps0_2]
  after_results <;> rfl
theorem v13_apply (c : Dev nD) (k l : Fin 1024) : (V m c main_v13 : Vec Ideal S1024x1024 .bf16) (ix2 k l)
    = (m ((c : Thread nD τ).loc main_arg3) : S1024x5632.Idx → EReal) (ix2 k ⟨3584 + l.val, by omega⟩) := by
  rw [V_v13]
  exact (extractStridedSlice_apply _ _ _ (ix2 k l) (ix2 k ⟨3584 + l.val, by omega⟩) (fun a => match a with
    | ⟨0, _⟩ => by show k.val = 0 + k.val; omega
    | ⟨1, _⟩ => by show 3584 + l.val = 3584 + l.val; omega)).trans rfl
theorem V_v14 (c : Dev nD) : (V m c main_v14 : Vec Ideal S1024x1024 .bf16)
    = extractStridedSlice S1024x1024 ![0, 4608] (truncf (F := Ideal) .bf16 (m ((c : Thread nD τ).loc main_arg3)) bitsLt_bf16_f32) slices_S1024x5632_S1024x1024_0_4608 := by
  unfold V
  simp only [List.flatten_cons, List.flatten_nil, List.append_nil, List.cons_append, List.nil_append, hostOps0, hostOps0_1, hostOps0_2]
  after_results <;> rfl
theorem v14_apply (c : Dev nD) (k l : Fin 1024) : (V m c main_v14 : Vec Ideal S1024x1024 .bf16) (ix2 k l)
    = (m ((c : Thread nD τ).loc main_arg3) : S1024x5632.Idx → EReal) (ix2 k ⟨4608 + l.val, by omega⟩) := by
  rw [V_v14]
  exact (extractStridedSlice_apply _ _ _ (ix2 k l) (ix2 k ⟨4608 + l.val, by omega⟩) (fun a => match a with
    | ⟨0, _⟩ => by show k.val = 0 + k.val; omega
    | ⟨1, _⟩ => by show 4608 + l.val = 4608 + l.val; omega)).trans rfl
theorem V_v15 (c : Dev nD) : (V m c main_v15 : Vec Ideal S1024x1024 .bf16)
    = truncf (F := Ideal) .bf16 (m ((c : Thread nD τ).loc main_arg5)) bitsLt_bf16_f32 := by
  unfold V
  simp only [List.flatten_cons, List.flatten_nil, List.append_nil, List.cons_append, List.nil_append, hostOps0, hostOps0_1, hostOps0_2]
  after_results <;> rfl
theorem v15_apply (c : Dev nD) (k l : Fin 1024) : (V m c main_v15 : Vec Ideal S1024x1024 .bf16) (ix2 k l)
    = (m ((c : Thread nD τ).loc main_arg5) : S1024x1024.Idx → EReal) (ix2 k l) := by
  rw [V_v15]
  rfl
theorem V_v16 (c : Dev nD) : (V m c main_v16 : Vec Ideal S1024x1024 .bf16)
    = truncf (F := Ideal) .bf16 (m ((c : Thread nD τ).loc main_arg7)) bitsLt_bf16_f32 := by
  unfold V
  simp only [List.flatten_cons, List.flatten_nil, List.append_nil, List.cons_append, List.nil_append, hostOps0, hostOps0_1, hostOps0_2]
  after_results <;> rfl
theorem v16_apply (c : Dev nD) (k l : Fin 1024) : (V m c main_v16 : Vec Ideal S1024x1024 .bf16) (ix2 k l)
    = (m ((c : Thread nD τ).loc main_arg7) : S1024x1024.Idx → EReal) (ix2 k l) := by
  rw [V_v16]
  rfl
theorem V_v17 (c : Dev nD) : (V m c main_v17 : Vec Ideal S1024x1024 .bf16)
    = truncf (F := Ideal) .bf16 (m ((c : Thread nD τ).loc main_arg8)) bitsLt_bf16_f32 := by
  unfold V
  simp only [List.flatten_cons, List.flatten_nil, List.append_nil, List.cons_append, List.nil_append, hostOps0, hostOps0_1, hostOps0_2]
  after_results <;> rfl
theorem v17_apply (c : Dev nD) (k l : Fin 1024) : (V m c main_v17 : Vec Ideal S1024x1024 .bf16) (ix2 k l)
    = (m ((c : Thread nD τ).loc main_arg8) : S1024x1024.Idx → EReal) (ix2 k l) := by
  rw [V_v17]
  rfl
theorem V_v20 (c : Dev nD) : (V m c main_v20 : Vec Ideal S1x1024 .f32)
    = shapeCast S1x1024 (extractStridedSlice S1024 ![3584] (m ((c : Thread nD τ).loc main_arg4)) slices_S5632_S1024_3584) shapeCasts_S1024_S1x1024 := by
  unfold V
  simp only [List.flatten_cons, List.flatten_nil, List.append_nil, List.cons_append, List.nil_append, hostOps0, hostOps0_1, hostOps0_2]
  after_results <;> rfl
theorem v20_apply (c : Dev nD) (l : Fin 1024) : (V m c main_v20 : Vec Ideal S1x1024 .f32) (ix2 0 l)
    = (m ((c : Thread nD τ).loc main_arg4) : S5632.Idx → EReal) (ix1 ⟨3584 + l.val, by omega⟩) := by
  rw [V_v20]
  refine (shapeCast_apply _ _ (ix2 0 l) (ix1 l) ?_).trans ?_
  · rewrite [Shape.rowMajor_val_one, Shape.rowMajor_val_two]
    show l.val = 0 * 1024 + l.val
    omega
  · exact extractStridedSlice_apply _ _ _ (ix1 l) (ix1 ⟨3584 + l.val, by omega⟩) (fun a => match a with
      | ⟨0, _⟩ => by show 3584 + l.val = 3584 + l.val; omega)
theorem V_v21 (c : Dev nD) : (V m c main_v21 : Vec Ideal S1x1024 .f32)
    = shapeCast S1x1024 (extractStridedSlice S1024 ![4608] (m ((c : Thread nD τ).loc main_arg4)) slices_S5632_S1024_4608) shapeCasts_S1024_S1x1024 := by
  unfold V
  simp only [List.flatten_cons, List.flatten_nil, List.append_nil, List.cons_append, List.nil_append, hostOps0, hostOps0_1, hostOps0_2]
  after_results <;> rfl
theorem v21_apply (c : Dev nD) (l : Fin 1024) : (V m c main_v21 : Vec Ideal S1x1024 .f32) (ix2 0 l)
    = (m ((c : Thread nD τ).loc main_arg4) : S5632.Idx → EReal) (ix1 ⟨4608 + l.val, by omega⟩) := by
  rw [V_v21]
  refine (shapeCast_apply _ _ (ix2 0 l) (ix1 l) ?_).trans ?_
  · rewrite [Shape.rowMajor_val_one, Shape.rowMajor_val_two]
    show l.val = 0 * 1024 + l.val
    omega
  · exact extractStridedSlice_apply _ _ _ (ix1 l) (ix1 ⟨4608 + l.val, by omega⟩) (fun a => match a with
      | ⟨0, _⟩ => by show 4608 + l.val = 4608 + l.val; omega)
theorem V_v22 (c : Dev nD) : (V m c main_v22 : Vec Ideal S1x1024 .f32)
    = shapeCast S1x1024 (m ((c : Thread nD τ).loc main_arg6)) shapeCasts_S1024_S1x1024 := by
  unfold V
  simp only [List.flatten_cons, List.flatten_nil, List.append_nil, List.cons_append, List.nil_append, hostOps0, hostOps0_1, hostOps0_2]
  after_results <;> rfl
theorem v22_apply (c : Dev nD) (l : Fin 1024) : (V m c main_v22 : Vec Ideal S1x1024 .f32) (ix2 0 l)
    = (m ((c : Thread nD τ).loc main_arg6) : S1024.Idx → EReal) (ix1 l) := by
  rw [V_v22]
  refine (shapeCast_apply _ _ (ix2 0 l) (ix1 l) ?_).trans rfl
  rewrite [Shape.rowMajor_val_one, Shape.rowMajor_val_two]
  show l.val = 0 * 1024 + l.val
  omega
theorem V_v23 (c : Dev nD) : (V m c main_v23 : Vec Ideal S1x1024 .f32)
    = shapeCast S1x1024 (m ((c : Thread nD τ).loc main_arg9)) shapeCasts_S1024_S1x1024 := by
  unfold V
  simp only [List.flatten_cons, List.flatten_nil, List.append_nil, List.cons_append, List.nil_append, hostOps0, hostOps0_1, hostOps0_2]
  after_results <;> rfl
theorem v23_apply (c : Dev nD) (l : Fin 1024) : (V m c main_v23 : Vec Ideal S1x1024 .f32) (ix2 0 l)
    = (m ((c : Thread nD τ).loc main_arg9) : S1024.Idx → EReal) (ix1 l) := by
  rw [V_v23]
  refine (shapeCast_apply _ _ (ix2 0 l) (ix1 l) ?_).trans rfl
  rewrite [Shape.rowMajor_val_one, Shape.rowMajor_val_two]
  show l.val = 0 * 1024 + l.val
  omega
theorem V_v24 (c : Dev nD) : (V m c main_v24 : Vec Ideal S1x1024 .f32)
    = shapeCast S1x1024 (m ((c : Thread nD τ).loc main_arg10)) shapeCasts_S1024_S1x1024 := by
  unfold V
  simp only [List.flatten_cons, List.flatten_nil, List.append_nil, List.cons_append, List.nil_append, hostOps0, hostOps0_1, hostOps0_2]
  after_results <;> rfl
theorem v24_apply (c : Dev nD) (l : Fin 1024) : (V m c main_v24 : Vec Ideal S1x1024 .f32) (ix2 0 l)
    = (m ((c : Thread nD τ).loc main_arg10) : S1024.Idx → EReal) (ix1 l) := by
  rw [V_v24]
  refine (shapeCast_apply _ _ (ix2 0 l) (ix1 l) ?_).trans rfl
  rewrite [Shape.rowMajor_val_one, Shape.rowMajor_val_two]
  show l.val = 0 * 1024 + l.val
  omega
theorem V_v25 (c : Dev nD) : (V m c main_v25 : Vec Ideal S1x1024 .f32)
    = shapeCast S1x1024 (m ((c : Thread nD τ).loc main_arg11)) shapeCasts_S1024_S1x1024 := by
  unfold V
  simp only [List.flatten_cons, List.flatten_nil, List.append_nil, List.cons_append, List.nil_append, hostOps0, hostOps0_1, hostOps0_2]
  after_results <;> rfl
theorem v25_apply (c : Dev nD) (l : Fin 1024) : (V m c main_v25 : Vec Ideal S1x1024 .f32) (ix2 0 l)
    = (m ((c : Thread nD τ).loc main_arg11) : S1024.Idx → EReal) (ix1 l) := by
  rw [V_v25]
  refine (shapeCast_apply _ _ (ix2 0 l) (ix1 l) ?_).trans rfl
  rewrite [Shape.rowMajor_val_one, Shape.rowMajor_val_two]
  show l.val = 0 * 1024 + l.val
  omega

/-! ## The blocks -/

theorem idx_0 : ∀ t : Fin cfg0.N, win0_0.index t 0 = t.val ∧ win0_0.index t 1 = 0 :=
  (by decide +kernel : ∀ t : Fin grid0.N, _)
theorem idx_1 : ∀ t : Fin cfg0.N, win0_1.index t 0 = t.val ∧ win0_1.index t 1 = 0 :=
  (by decide +kernel : ∀ t : Fin grid0.N, _)
theorem idx_2 : ∀ t : Fin cfg0.N, win0_2.index t 0 = t.val ∧ win0_2.index t 1 = 0 :=
  (by decide +kernel : ∀ t : Fin grid0.N, _)
theorem idx_3 : ∀ t : Fin cfg0.N, win0_3.index t 0 = t.val ∧ win0_3.index t 1 = 0 :=
  (by decide +kernel : ∀ t : Fin grid0.N, _)
theorem idx_16 : ∀ t : Fin cfg0.N, win0_16.index t 0 = t.val ∧ win0_16.index t 1 = 0 :=
  (by decide +kernel : ∀ t : Fin grid0.N, _)
theorem idx_17 : ∀ t : Fin cfg0.N, win0_17.index t 0 = t.val ∧ win0_17.index t 1 = 0 :=
  (by decide +kernel : ∀ t : Fin grid0.N, _)
theorem idx_4 : ∀ t : Fin cfg0.N, win0_4.index t 0 = 0 ∧ win0_4.index t 1 = 0 :=
  (by decide +kernel : ∀ t : Fin grid0.N, _)
theorem idx_5 : ∀ t : Fin cfg0.N, win0_5.index t 0 = 0 ∧ win0_5.index t 1 = 0 :=
  (by decide +kernel : ∀ t : Fin grid0.N, _)
theorem idx_6 : ∀ t : Fin cfg0.N, win0_6.index t 0 = 0 ∧ win0_6.index t 1 = 0 :=
  (by decide +kernel : ∀ t : Fin grid0.N, _)
theorem idx_7 : ∀ t : Fin cfg0.N, win0_7.index t 0 = 0 ∧ win0_7.index t 1 = 0 :=
  (by decide +kernel : ∀ t : Fin grid0.N, _)
theorem idx_8 : ∀ t : Fin cfg0.N, win0_8.index t 0 = 0 ∧ win0_8.index t 1 = 0 :=
  (by decide +kernel : ∀ t : Fin grid0.N, _)
theorem idx_9 : ∀ t : Fin cfg0.N, win0_9.index t 0 = 0 ∧ win0_9.index t 1 = 0 :=
  (by decide +kernel : ∀ t : Fin grid0.N, _)
theorem idx_10 : ∀ t : Fin cfg0.N, win0_10.index t 0 = 0 ∧ win0_10.index t 1 = 0 :=
  (by decide +kernel : ∀ t : Fin grid0.N, _)
theorem idx_11 : ∀ t : Fin cfg0.N, win0_11.index t 0 = 0 ∧ win0_11.index t 1 = 0 :=
  (by decide +kernel : ∀ t : Fin grid0.N, _)
theorem idx_12 : ∀ t : Fin cfg0.N, win0_12.index t 0 = 0 ∧ win0_12.index t 1 = 0 :=
  (by decide +kernel : ∀ t : Fin grid0.N, _)
theorem idx_13 : ∀ t : Fin cfg0.N, win0_13.index t 0 = 0 ∧ win0_13.index t 1 = 0 :=
  (by decide +kernel : ∀ t : Fin grid0.N, _)
theorem idx_14 : ∀ t : Fin cfg0.N, win0_14.index t 0 = 0 ∧ win0_14.index t 1 = 0 :=
  (by decide +kernel : ∀ t : Fin grid0.N, _)
theorem blk0 (c : Dev nD) (t : Fin cfg0.N) (r : Fin 256) (R : Fin 16384) (hR : R.val = 256 * t.val + r.val) :
    row (iblk m c 0 t) r
      = fun k => (m ((c : Thread nD τ).loc main_arg0) : S4x4096x1024.Idx → EReal) (ix3 ⟨R.val / 4096, by omega⟩ ⟨R.val % 4096, by omega⟩ k) := by
  have h := idx_0 t
  funext k
  refine Eq.trans ?_ (v8_apply m c R k)
  show (iblk m c 0 t : Vec Ideal S256x1024 .bf16) (ix2 r k) = _
  unfold iblk
  rw [View.read_apply]
  show V m c main_v8 _ = V m c main_v8 _
  congr 1
  funext a
  apply Fin.ext
  match a with
  | ⟨0, _⟩ => show win0_0.index t 0 * 256 + 1 * r.val = R.val; rw [h.1]; omega
  | ⟨1, _⟩ => show win0_0.index t 1 * 1024 + 1 * k.val = k.val; rw [h.2]; omega
theorem blk1 (c : Dev nD) (t : Fin cfg0.N) (r : Fin 256) (R : Fin 16384) (hR : R.val = 256 * t.val + r.val) :
    row (iblk m c 1 t) r
      = fun k => (m ((c : Thread nD τ).loc main_arg0) : S4x4096x1024.Idx → EReal) (ix3 ⟨R.val / 4096, by omega⟩ ⟨R.val % 4096, by omega⟩ k) := by
  have h := idx_1 t
  funext k
  refine Eq.trans ?_ (v7_apply m c R k)
  show (iblk m c 1 t : Vec Ideal S256x1024 .f32) (ix2 r k) = _
  unfold iblk
  rw [View.read_apply]
  show V m c main_v7 _ = V m c main_v7 _
  congr 1
  funext a
  apply Fin.ext
  match a with
  | ⟨0, _⟩ => show win0_1.index t 0 * 256 + 1 * r.val = R.val; rw [h.1]; omega
  | ⟨1, _⟩ => show win0_1.index t 1 * 1024 + 1 * k.val = k.val; rw [h.2]; omega
theorem blk2 (c : Dev nD) (t : Fin cfg0.N) (r : Fin 256) (R : Fin 16384) (hR : R.val = 256 * t.val + r.val) :
    row (iblk m c 2 t) r
      = fun k => (m ((c : Thread nD τ).loc main_arg1) : S4x4096x1024.Idx → EReal) (ix3 ⟨R.val / 4096, by omega⟩ ⟨R.val % 4096, by omega⟩ k) := by
  have h := idx_2 t
  funext k
  refine Eq.trans ?_ (v10_apply m c R k)
  show (iblk m c 2 t : Vec Ideal S256x1024 .bf16) (ix2 r k) = _
  unfold iblk
  rw [View.read_apply]
  show V m c main_v10 _ = V m c main_v10 _
  congr 1
  funext a
  apply Fin.ext
  match a with
  | ⟨0, _⟩ => show win0_2.index t 0 * 256 + 1 * r.val = R.val; rw [h.1]; omega
  | ⟨1, _⟩ => show win0_2.index t 1 * 1024 + 1 * k.val = k.val; rw [h.2]; omega
theorem blk3 (c : Dev nD) (t : Fin cfg0.N) (r : Fin 256) (R : Fin 16384) (hR : R.val = 256 * t.val + r.val) :
    row (iblk m c 3 t) r
      = fun k => (m ((c : Thread nD τ).loc main_arg2) : S4x4096x1024.Idx → EReal) (ix3 ⟨R.val / 4096, by omega⟩ ⟨R.val % 4096, by omega⟩ k) := by
  have h := idx_3 t
  funext k
  refine Eq.trans ?_ (v12_apply m c R k)
  show (iblk m c 3 t : Vec Ideal S256x1024 .bf16) (ix2 r k) = _
  unfold iblk
  rw [View.read_apply]
  show V m c main_v12 _ = V m c main_v12 _
  congr 1
  funext a
  apply Fin.ext
  match a with
  | ⟨0, _⟩ => show win0_3.index t 0 * 256 + 1 * r.val = R.val; rw [h.1]; omega
  | ⟨1, _⟩ => show win0_3.index t 1 * 1024 + 1 * k.val = k.val; rw [h.2]; omega
theorem blk4 (c : Dev nD) (t : Fin cfg0.N) : mat (iblk m c 4 t)
      = fun k l => (m ((c : Thread nD τ).loc main_arg3) : S1024x5632.Idx → EReal) (ix2 k ⟨3584 + l.val, by omega⟩) := by
  have h := idx_4 t
  funext k l
  refine Eq.trans ?_ (v13_apply m c k l)
  show (iblk m c 4 t : Vec Ideal S1024x1024 .bf16) (ix2 k l) = _
  unfold iblk
  rw [View.read_apply]
  show V m c main_v13 _ = V m c main_v13 _
  congr 1
  funext a
  apply Fin.ext
  match a with
  | ⟨0, _⟩ => show win0_4.index t 0 * 1024 + 1 * k.val = k.val; rw [h.1]; omega
  | ⟨1, _⟩ => show win0_4.index t 1 * 1024 + 1 * l.val = l.val; rw [h.2]; omega
theorem blk5 (c : Dev nD) (t : Fin cfg0.N) : mat (iblk m c 5 t)
      = fun k l => (m ((c : Thread nD τ).loc main_arg3) : S1024x5632.Idx → EReal) (ix2 k ⟨4608 + l.val, by omega⟩) := by
  have h := idx_5 t
  funext k l
  refine Eq.trans ?_ (v14_apply m c k l)
  show (iblk m c 5 t : Vec Ideal S1024x1024 .bf16) (ix2 k l) = _
  unfold iblk
  rw [View.read_apply]
  show V m c main_v14 _ = V m c main_v14 _
  congr 1
  funext a
  apply Fin.ext
  match a with
  | ⟨0, _⟩ => show win0_5.index t 0 * 1024 + 1 * k.val = k.val; rw [h.1]; omega
  | ⟨1, _⟩ => show win0_5.index t 1 * 1024 + 1 * l.val = l.val; rw [h.2]; omega
theorem blk6 (c : Dev nD) (t : Fin cfg0.N) : mat (iblk m c 6 t)
      = fun k l => (m ((c : Thread nD τ).loc main_arg5) : S1024x1024.Idx → EReal) (ix2 k l) := by
  have h := idx_6 t
  funext k l
  refine Eq.trans ?_ (v15_apply m c k l)
  show (iblk m c 6 t : Vec Ideal S1024x1024 .bf16) (ix2 k l) = _
  unfold iblk
  rw [View.read_apply]
  show V m c main_v15 _ = V m c main_v15 _
  congr 1
  funext a
  apply Fin.ext
  match a with
  | ⟨0, _⟩ => show win0_6.index t 0 * 1024 + 1 * k.val = k.val; rw [h.1]; omega
  | ⟨1, _⟩ => show win0_6.index t 1 * 1024 + 1 * l.val = l.val; rw [h.2]; omega
theorem blk7 (c : Dev nD) (t : Fin cfg0.N) : mat (iblk m c 7 t)
      = fun k l => (m ((c : Thread nD τ).loc main_arg7) : S1024x1024.Idx → EReal) (ix2 k l) := by
  have h := idx_7 t
  funext k l
  refine Eq.trans ?_ (v16_apply m c k l)
  show (iblk m c 7 t : Vec Ideal S1024x1024 .bf16) (ix2 k l) = _
  unfold iblk
  rw [View.read_apply]
  show V m c main_v16 _ = V m c main_v16 _
  congr 1
  funext a
  apply Fin.ext
  match a with
  | ⟨0, _⟩ => show win0_7.index t 0 * 1024 + 1 * k.val = k.val; rw [h.1]; omega
  | ⟨1, _⟩ => show win0_7.index t 1 * 1024 + 1 * l.val = l.val; rw [h.2]; omega
theorem blk8 (c : Dev nD) (t : Fin cfg0.N) : mat (iblk m c 8 t)
      = fun k l => (m ((c : Thread nD τ).loc main_arg8) : S1024x1024.Idx → EReal) (ix2 k l) := by
  have h := idx_8 t
  funext k l
  refine Eq.trans ?_ (v17_apply m c k l)
  show (iblk m c 8 t : Vec Ideal S1024x1024 .bf16) (ix2 k l) = _
  unfold iblk
  rw [View.read_apply]
  show V m c main_v17 _ = V m c main_v17 _
  congr 1
  funext a
  apply Fin.ext
  match a with
  | ⟨0, _⟩ => show win0_8.index t 0 * 1024 + 1 * k.val = k.val; rw [h.1]; omega
  | ⟨1, _⟩ => show win0_8.index t 1 * 1024 + 1 * l.val = l.val; rw [h.2]; omega
theorem blk9 (c : Dev nD) (t : Fin cfg0.N) : vec (iblk m c 9 t)
      = fun l => (m ((c : Thread nD τ).loc main_arg4) : S5632.Idx → EReal) (ix1 ⟨3584 + l.val, by omega⟩) := by
  have h := idx_9 t
  funext l
  refine Eq.trans ?_ (v20_apply m c l)
  show (iblk m c 9 t : Vec Ideal S1x1024 .f32) (ix2 0 l) = _
  unfold iblk
  rw [View.read_apply]
  show V m c main_v20 _ = V m c main_v20 _
  congr 1
  funext a
  apply Fin.ext
  match a with
  | ⟨0, _⟩ => show win0_9.index t 0 * 1 + 1 * 0 = 0; rw [h.1]
  | ⟨1, _⟩ => show win0_9.index t 1 * 1024 + 1 * l.val = l.val; rw [h.2]; omega
theorem blk10 (c : Dev nD) (t : Fin cfg0.N) : vec (iblk m c 10 t)
      = fun l => (m ((c : Thread nD τ).loc main_arg4) : S5632.Idx → EReal) (ix1 ⟨4608 + l.val, by omega⟩) := by
  have h := idx_10 t
  funext l
  refine Eq.trans ?_ (v21_apply m c l)
  show (iblk m c 10 t : Vec Ideal S1x1024 .f32) (ix2 0 l) = _
  unfold iblk
  rw [View.read_apply]
  show V m c main_v21 _ = V m c main_v21 _
  congr 1
  funext a
  apply Fin.ext
  match a with
  | ⟨0, _⟩ => show win0_10.index t 0 * 1 + 1 * 0 = 0; rw [h.1]
  | ⟨1, _⟩ => show win0_10.index t 1 * 1024 + 1 * l.val = l.val; rw [h.2]; omega
theorem blk11 (c : Dev nD) (t : Fin cfg0.N) : vec (iblk m c 11 t)
      = fun l => (m ((c : Thread nD τ).loc main_arg6) : S1024.Idx → EReal) (ix1 l) := by
  have h := idx_11 t
  funext l
  refine Eq.trans ?_ (v22_apply m c l)
  show (iblk m c 11 t : Vec Ideal S1x1024 .f32) (ix2 0 l) = _
  unfold iblk
  rw [View.read_apply]
  show V m c main_v22 _ = V m c main_v22 _
  congr 1
  funext a
  apply Fin.ext
  match a with
  | ⟨0, _⟩ => show win0_11.index t 0 * 1 + 1 * 0 = 0; rw [h.1]
  | ⟨1, _⟩ => show win0_11.index t 1 * 1024 + 1 * l.val = l.val; rw [h.2]; omega
theorem blk12 (c : Dev nD) (t : Fin cfg0.N) : vec (iblk m c 12 t)
      = fun l => (m ((c : Thread nD τ).loc main_arg9) : S1024.Idx → EReal) (ix1 l) := by
  have h := idx_12 t
  funext l
  refine Eq.trans ?_ (v23_apply m c l)
  show (iblk m c 12 t : Vec Ideal S1x1024 .f32) (ix2 0 l) = _
  unfold iblk
  rw [View.read_apply]
  show V m c main_v23 _ = V m c main_v23 _
  congr 1
  funext a
  apply Fin.ext
  match a with
  | ⟨0, _⟩ => show win0_12.index t 0 * 1 + 1 * 0 = 0; rw [h.1]
  | ⟨1, _⟩ => show win0_12.index t 1 * 1024 + 1 * l.val = l.val; rw [h.2]; omega
theorem blk13 (c : Dev nD) (t : Fin cfg0.N) : vec (iblk m c 13 t)
      = fun l => (m ((c : Thread nD τ).loc main_arg10) : S1024.Idx → EReal) (ix1 l) := by
  have h := idx_13 t
  funext l
  refine Eq.trans ?_ (v24_apply m c l)
  show (iblk m c 13 t : Vec Ideal S1x1024 .f32) (ix2 0 l) = _
  unfold iblk
  rw [View.read_apply]
  show V m c main_v24 _ = V m c main_v24 _
  congr 1
  funext a
  apply Fin.ext
  match a with
  | ⟨0, _⟩ => show win0_13.index t 0 * 1 + 1 * 0 = 0; rw [h.1]
  | ⟨1, _⟩ => show win0_13.index t 1 * 1024 + 1 * l.val = l.val; rw [h.2]; omega
theorem blk14 (c : Dev nD) (t : Fin cfg0.N) : vec (iblk m c 14 t)
      = fun l => (m ((c : Thread nD τ).loc main_arg11) : S1024.Idx → EReal) (ix1 l) := by
  have h := idx_14 t
  funext l
  refine Eq.trans ?_ (v25_apply m c l)
  show (iblk m c 14 t : Vec Ideal S1x1024 .f32) (ix2 0 l) = _
  unfold iblk
  rw [View.read_apply]
  show V m c main_v25 _ = V m c main_v25 _
  congr 1
  funext a
  apply Fin.ext
  match a with
  | ⟨0, _⟩ => show win0_14.index t 0 * 1 + 1 * 0 = 0; rw [h.1]
  | ⟨1, _⟩ => show win0_14.index t 1 * 1024 + 1 * l.val = l.val; rw [h.2]; omega

/-! ## The output arrays -/

/-- The merged row `R` of the arguments, at lane `l`. -/
def mergedOf (x0 x1 x2 : S4x4096x1024.Idx → EReal) (x3 : S1024x5632.Idx → EReal) (x4 : S5632.Idx → EReal) (x5 : S1024x1024.Idx → EReal) (x6 : S1024.Idx → EReal)
    (x7 x8 : S1024x1024.Idx → EReal) (x9 x10 x11 : S1024.Idx → EReal) (b : Fin 4) (s : Fin 4096) (l : Fin 1024) : EReal :=
  merged (fun k => x0 (ix3 b s k)) (fun k => x0 (ix3 b s k)) (fun k => x1 (ix3 b s k)) (fun k => x2 (ix3 b s k))
    (fun k l => x3 (ix2 k ⟨3584 + l.val, by omega⟩)) (fun k l => x3 (ix2 k ⟨4608 + l.val, by omega⟩)) (fun k l => x5 (ix2 k l)) (fun k l => x7 (ix2 k l))
    (fun k l => x8 (ix2 k l)) (fun l => x4 (ix1 ⟨3584 + l.val, by omega⟩)) (fun l => x4 (ix1 ⟨4608 + l.val, by omega⟩)) (fun l => x6 (ix1 l))
    (fun l => x9 (ix1 l)) (fun l => x10 (ix1 l)) (fun l => x11 (ix1 l)) l

/-- What both output arrays end holding. -/
def result (c : Dev nD) (i : S16384x1024.Idx) : EReal :=
  mergedOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    ⟨(i 0).val / 4096, by have h : (i 0).val < 16384 := (i 0).isLt; omega⟩ ⟨(i 0).val % 4096, by omega⟩ (i 1)

def result0 (c : Dev nD) : Buf (Elt Ideal) ((c : Thread nD τ).loc main_v26_0) := result m c
def result1 (c : Dev nD) : Buf (Elt Ideal) ((c : Thread nD τ).loc main_v26_1) := result m c

theorem block_eq (c : Dev nD) (t : Fin cfg0.N) (r : Fin 256) (l : Fin 1024) (R : Fin 16384) (hR : R.val = 256 * t.val + r.val) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) : FVec Ideal S256x1024 .f32) (ix2 r l)
      = result m c (ix2 R l) := by
  refine (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r l).trans ?_
  rw [blk0 m c t r R hR, blk1 m c t r R hR, blk2 m c t r R hR, blk3 m c t r R hR, blk4, blk5, blk6, blk7, blk8, blk9, blk10, blk11, blk12, blk13, blk14]
  rfl

/-- What point `t` writes back to output 0 is block `t` of the result. -/
theorem flushed16 (c : Dev nD) (t : Fin cfg0.N) :
    (dats m 0 c).flushed 16 t = ((cfg0.win 16).blk t).view.read (Elt Ideal) (result0 m c) := by
  show (cfg0.win 16).cut (grid0.coords t) ((dats m 0 c).after 16 t) = _
  rw [after0_16]
  have h := idx_16 t
  have hN : cfg0.N = 64 := N_0
  have ht := t.isLt
  refine funext fun (y : S256x1024.Idx) => ?_
  rw [View.read_apply]
  have hy0 : (y 0).val < 256 := (y 0).isLt
  have hR : 256 * t.val + (y 0).val < 16384 := by omega
  have he : ((cfg0.win 16).blk t).view.emb y = (ix2 (⟨256 * t.val + (y 0).val, hR⟩ : Fin 16384) (y 1 : Fin 1024) : S16384x1024.Idx) := by
    funext a
    apply Fin.ext
    match a with
    | ⟨0, _⟩ => show win0_16.index t 0 * 256 + 1 * (y 0).val = 256 * t.val + (y 0).val; rw [h.1]; omega
    | ⟨1, _⟩ => show win0_16.index t 1 * 1024 + 1 * (y 1).val = (y 1).val; rw [h.2]; omega
  rw [he]
  refine (congrArg (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (eq_ix2 y)).trans ?_
  exact block_eq m c t (y 0) (y 1) ⟨256 * t.val + (y 0).val, hR⟩ rfl

theorem cover16 (i : S16384x1024.Idx) : ∃ t : Fin cfg0.N, (cfg0.win 16).flush t = true ∧ i ∈ ((cfg0.win 16).blk t).view.set := by
  have h0 : (i 0 : Nat) < 16384 := (i 0).isLt
  have h1 : (i 1 : Nat) < 1024 := (i 1).isLt
  have hN : cfg0.N = 64 := N_0
  have ht : (i 0 : Nat) / 256 < cfg0.N := by omega
  refine ⟨⟨(i 0 : Nat) / 256, ht⟩, flush0_16 _, ?_⟩
  have h := idx_16 ⟨(i 0 : Nat) / 256, ht⟩
  show i ∈ ((View.whole main_v26_0).slice (win0_16.rect ⟨(i 0 : Nat) / 256, ht⟩)).set
  rw [View.set_slice_whole, Rect.mem_set_unit]
  intro a
  match a with
  | ⟨0, _⟩ => show win0_16.index ⟨(i 0 : Nat) / 256, ht⟩ 0 * 256 ≤ (i 0 : Nat) ∧ (i 0 : Nat) < win0_16.index ⟨(i 0 : Nat) / 256, ht⟩ 0 * 256 + 256
              rw [h.1]; dsimp only; omega
  | ⟨1, _⟩ => show win0_16.index ⟨(i 0 : Nat) / 256, ht⟩ 1 * 1024 ≤ (i 1 : Nat) ∧ (i 1 : Nat) < win0_16.index ⟨(i 0 : Nat) / 256, ht⟩ 1 * 1024 + 1024
              rw [h.2]; omega

theorem final16 (c : Dev nD) : (dats m 0 c).arrAt 16 cfg0.N = result0 m c :=
  (dats m 0 c).arrAt_eq_of_cover 16 (result0 m c) (fun t _ => flushed16 m c t) cover16

/-- What point `t` writes back to output 1 is block `t` of the result. -/
theorem flushed17 (c : Dev nD) (t : Fin cfg0.N) :
    (dats m 0 c).flushed 17 t = ((cfg0.win 17).blk t).view.read (Elt Ideal) (result1 m c) := by
  show (cfg0.win 17).cut (grid0.coords t) ((dats m 0 c).after 17 t) = _
  rw [after0_17]
  have h := idx_17 t
  have hN : cfg0.N = 64 := N_0
  have ht := t.isLt
  refine funext fun (y : S256x1024.Idx) => ?_
  rw [View.read_apply]
  have hy0 : (y 0).val < 256 := (y 0).isLt
  have hR : 256 * t.val + (y 0).val < 16384 := by omega
  have he : ((cfg0.win 17).blk t).view.emb y = (ix2 (⟨256 * t.val + (y 0).val, hR⟩ : Fin 16384) (y 1 : Fin 1024) : S16384x1024.Idx) := by
    funext a
    apply Fin.ext
    match a with
    | ⟨0, _⟩ => show win0_17.index t 0 * 256 + 1 * (y 0).val = 256 * t.val + (y 0).val; rw [h.1]; omega
    | ⟨1, _⟩ => show win0_17.index t 1 * 1024 + 1 * (y 1).val = (y 1).val; rw [h.2]; omega
  rw [he]
  refine (congrArg (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (eq_ix2 y)).trans ?_
  exact (out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (y 0) (y 1)).trans (block_eq m c t (y 0) (y 1) ⟨256 * t.val + (y 0).val, hR⟩ rfl)

theorem cover17 (i : S16384x1024.Idx) : ∃ t : Fin cfg0.N, (cfg0.win 17).flush t = true ∧ i ∈ ((cfg0.win 17).blk t).view.set := by
  have h0 : (i 0 : Nat) < 16384 := (i 0).isLt
  have h1 : (i 1 : Nat) < 1024 := (i 1).isLt
  have hN : cfg0.N = 64 := N_0
  have ht : (i 0 : Nat) / 256 < cfg0.N := by omega
  refine ⟨⟨(i 0 : Nat) / 256, ht⟩, flush0_17 _, ?_⟩
  have h := idx_17 ⟨(i 0 : Nat) / 256, ht⟩
  show i ∈ ((View.whole main_v26_1).slice (win0_17.rect ⟨(i 0 : Nat) / 256, ht⟩)).set
  rw [View.set_slice_whole, Rect.mem_set_unit]
  intro a
  match a with
  | ⟨0, _⟩ => show win0_17.index ⟨(i 0 : Nat) / 256, ht⟩ 0 * 256 ≤ (i 0 : Nat) ∧ (i 0 : Nat) < win0_17.index ⟨(i 0 : Nat) / 256, ht⟩ 0 * 256 + 256
              rw [h.1]; dsimp only; omega
  | ⟨1, _⟩ => show win0_17.index ⟨(i 0 : Nat) / 256, ht⟩ 1 * 1024 ≤ (i 1 : Nat) ∧ (i 1 : Nat) < win0_17.index ⟨(i 0 : Nat) / 256, ht⟩ 1 * 1024 + 1024
              rw [h.2]; omega

theorem final17 (c : Dev nD) : (dats m 0 c).arrAt 17 cfg0.N = result1 m c :=
  (dats m 0 c).arrAt_eq_of_cover 17 (result1 m c) (fun t _ => flushed17 m c t) cover17

end Cert.MergeIdeal.Val

end
-- ==== Proof.Merge.Ref.lean ====
/-
  The reference's result, read at an index, as the merged row of the arguments.
-/
module

public import proofs.«01_k».proof.Proof.Gen.MergeRefIdeal.Read
public import proofs.«01_k».proof.Proof.Merge.Math
public import Idealize.ShloMosaic.Lib.ValueIdx
public import Idealize.ShloMosaic.Lib.IdealHost

@[expose] public section

noncomputable section

namespace Cert.MergeRefIdeal.Ref

open Cert.MergeRefIdeal Cert.MergeRefIdeal.Read Cert.Merge.Math
open Idealize.ShloMosaic Idealize.ShloMosaic.TcCoe Idealize.SL.Sem Idealize.ShloMosaic.ValueIdx

variable (x0 x1 x2 : S4x4096x1024.Idx → EReal) (x3 : S1024x5632.Idx → EReal) (x4 : S5632.Idx → EReal) (x5 : S1024x1024.Idx → EReal) (x6 : S1024.Idx → EReal)
  (x7 x8 : S1024x1024.Idx → EReal) (x9 x10 x11 : S1024.Idx → EReal) (b : Fin 4) (s : Fin 4096)

/-- The projection of the row, with its bias. -/
theorem v3_at (d : Fin 5632) : val_main_v3 (F := Ideal) x0 x3 x4 (ix3 b s d) = ((∑ k : Fin 1024, x0 (ix3 b s k) * x3 (ix2 k d)) + x4 (ix1 d) : EReal) := by
  rw [val_main_v3_apply, val_main_v0_apply, val_main_v2_apply, val_main_v1_apply]
  have e1 : ∀ k, lidx_main_v0 (ix3 b s d) k = ix3 b s k := fun k => funext fun a => match a with | ⟨0, _⟩ => rfl | ⟨1, _⟩ => rfl | ⟨2, _⟩ => rfl
  have e2 : ∀ k, ridx_main_v0 (ix3 b s d) k = ix2 k d := fun k => funext fun a => match a with | ⟨0, _⟩ => rfl | ⟨1, _⟩ => rfl
  have e3 : idx_main_v1 (idx_main_v2 (ix3 b s d)) = ix1 d := funext fun a => match a with | ⟨0, _⟩ => rfl
  simp only [e1, e2, e3]
  rfl

/-- The first gate. -/
theorem v15_at (l : Fin 1024) : val_main_v15 (F := Ideal) x0 x3 x4 (ix3 b s l)
    = gate (fun k => x0 (ix3 b s k)) (fun k l => x3 (ix2 k ⟨3584 + l.val, by omega⟩)) (fun l => x4 (ix1 ⟨3584 + l.val, by omega⟩)) l := by
  have e : idx_main_v9 (ix3 b s l) = ix3 b s ⟨3584 + l.val, by omega⟩ := funext fun a => match a with | ⟨0, _⟩ => rfl | ⟨1, _⟩ => rfl | ⟨2, _⟩ => rfl
  rw [val_main_v15_apply, val_main_v13_apply, val_main_v11_apply, val_main_v10_apply, val_main_v9_apply, val_main_v12_apply, val_main_v14_apply,
    val_main_cst_apply, val_main_cst_0_apply, e, v3_at]
  simp only [Ideal.ofBits_def, Ideal.ofBits_one_f32]
  rfl

/-- The second gate. -/
theorem v22_at (l : Fin 1024) : val_main_v22 (F := Ideal) x0 x3 x4 (ix3 b s l)
    = gate (fun k => x0 (ix3 b s k)) (fun k l => x3 (ix2 k ⟨4608 + l.val, by omega⟩)) (fun l => x4 (ix1 ⟨4608 + l.val, by omega⟩)) l := by
  have e : idx_main_v16 (ix3 b s l) = ix3 b s ⟨4608 + l.val, by omega⟩ := funext fun a => match a with | ⟨0, _⟩ => rfl | ⟨1, _⟩ => rfl | ⟨2, _⟩ => rfl
  rw [val_main_v22_apply, val_main_v20_apply, val_main_v18_apply, val_main_v17_apply, val_main_v16_apply, val_main_v19_apply, val_main_v21_apply,
    val_main_cst_1_apply, val_main_cst_2_apply, e, v3_at]
  simp only [Ideal.ofBits_def, Ideal.ofBits_one_f32]
  rfl

/-- The first branch's projection. -/
theorem v7_at (l : Fin 1024) : val_main_v7 (F := Ideal) x1 x5 x6 (ix3 b s l)
    = lin (fun k => x1 (ix3 b s k)) (fun k l => x5 (ix2 k l)) l + x6 (ix1 l) := by
  rw [val_main_v7_apply, val_main_v4_apply, val_main_v6_apply, val_main_v5_apply]
  have e1 : ∀ k, lidx_main_v4 (ix3 b s l) k = ix3 b s k := fun k => funext fun a => match a with | ⟨0, _⟩ => rfl | ⟨1, _⟩ => rfl | ⟨2, _⟩ => rfl
  have e2 : ∀ k, ridx_main_v4 (ix3 b s l) k = ix2 k l := fun k => funext fun a => match a with | ⟨0, _⟩ => rfl | ⟨1, _⟩ => rfl
  have e3 : idx_main_v5 (idx_main_v6 (ix3 b s l)) = ix1 l := funext fun a => match a with | ⟨0, _⟩ => rfl
  simp only [e1, e2, e3]
  rfl

/-- The second branch's projection. -/
theorem v8_at (l : Fin 1024) : val_main_v8 (F := Ideal) x2 x7 (ix3 b s l) = lin (fun k => x2 (ix3 b s k)) (fun k l => x7 (ix2 k l)) l := by
  rw [val_main_v8_apply]
  have e1 : ∀ k, lidx_main_v8 (ix3 b s l) k = ix3 b s k := fun k => funext fun a => match a with | ⟨0, _⟩ => rfl | ⟨1, _⟩ => rfl | ⟨2, _⟩ => rfl
  have e2 : ∀ k, ridx_main_v8 (ix3 b s l) k = ix2 k l := fun k => funext fun a => match a with | ⟨0, _⟩ => rfl | ⟨1, _⟩ => rfl
  simp only [e1, e2]
  rfl

/-- The two branches under their gates. -/
theorem v25_at (l : Fin 1024) : val_main_v25 (F := Ideal) x0 x1 x2 x3 x4 x5 x6 x7 (ix3 b s l)
    = mixed (fun k => x0 (ix3 b s k)) (fun k => x1 (ix3 b s k)) (fun k => x2 (ix3 b s k))
      (fun k l => x3 (ix2 k ⟨3584 + l.val, by omega⟩)) (fun k l => x3 (ix2 k ⟨4608 + l.val, by omega⟩)) (fun k l => x5 (ix2 k l)) (fun k l => x7 (ix2 k l))
      (fun l => x4 (ix1 ⟨3584 + l.val, by omega⟩)) (fun l => x4 (ix1 ⟨4608 + l.val, by omega⟩)) (fun l => x6 (ix1 l)) l := by
  rw [val_main_v25_apply, val_main_v23_apply, val_main_v24_apply, v15_at, v22_at, v7_at, v8_at]
  rfl

/-- The row before its norm. -/
def preOf : Fin 1024 → EReal :=
  pre (fun k => x0 (ix3 b s k)) (fun k => x0 (ix3 b s k)) (fun k => x1 (ix3 b s k)) (fun k => x2 (ix3 b s k))
    (fun k l => x3 (ix2 k ⟨3584 + l.val, by omega⟩)) (fun k l => x3 (ix2 k ⟨4608 + l.val, by omega⟩)) (fun k l => x5 (ix2 k l)) (fun k l => x7 (ix2 k l))
    (fun k l => x8 (ix2 k l)) (fun l => x4 (ix1 ⟨3584 + l.val, by omega⟩)) (fun l => x4 (ix1 ⟨4608 + l.val, by omega⟩)) (fun l => x6 (ix1 l))
    (fun l => x9 (ix1 l))

theorem v32_at (l : Fin 1024) : val_main_v32 (F := Ideal) x0 x1 x2 x3 x4 x5 x6 x7 x8 x9 (ix3 b s l) = preOf x0 x1 x2 x3 x4 x5 x6 x7 x8 x9 b s l := by
  have e1 : ∀ k, lidx_main_v26 (ix3 b s l) k = ix3 b s k := fun k => funext fun a => match a with | ⟨0, _⟩ => rfl | ⟨1, _⟩ => rfl | ⟨2, _⟩ => rfl
  have e2 : ∀ k, ridx_main_v26 (ix3 b s l) k = ix2 k l := fun k => funext fun a => match a with | ⟨0, _⟩ => rfl | ⟨1, _⟩ => rfl
  have e3 : idx_main_v27 (idx_main_v28 (ix3 b s l)) = ix1 l := funext fun a => match a with | ⟨0, _⟩ => rfl
  rw [val_main_v32_apply, val_main_v31_apply, val_main_v30_apply, val_main_cst_3_apply, val_main_v29_apply, val_main_v26_apply, val_main_v28_apply, val_main_v27_apply]
  simp only [e1, e2, e3, v25_at]
  rfl

/-- The row less its mean. -/
theorem v38_at (l : Fin 1024) : val_main_v38 (F := Ideal) x0 x1 x2 x3 x4 x5 x6 x7 x8 x9 (ix3 b s l)
    = centred (preOf x0 x1 x2 x3 x4 x5 x6 x7 x8 x9 b s) l := by
  have e1 : ∀ k, idx_main_v33 (idx_main_v34 (idx_main_v37 (ix3 b s l))) k = ix3 b s k :=
    fun k => funext fun a => match a with | ⟨0, _⟩ => rfl | ⟨1, _⟩ => rfl | ⟨2, _⟩ => rfl
  rw [val_main_v38_apply, val_main_v37_apply, val_main_v36_apply, val_main_v35_apply, val_main_v34_apply, val_main_v33_apply, val_main_cst_4_apply, val_main_cst_5_apply]
  simp only [e1, v32_at, Ideal.ofBits_def, Ideal.ofBits_zero_f32, zero_add]
  rfl

/-- The reciprocal deviation of the row. -/
theorem v47_at (l : Fin 1024) : val_main_v47 (F := Ideal) x0 x1 x2 x3 x4 x5 x6 x7 x8 x9 (ix3 b s l)
    = Ideal.rsqrt (Ideal.div (∑ k : Fin 1024, centred (preOf x0 x1 x2 x3 x4 x5 x6 x7 x8 x9 b s) k * centred (preOf x0 x1 x2 x3 x4 x5 x6 x7 x8 x9 b s) k) lanes + eps) := by
  have e1 : ∀ k, idx_main_v40 (idx_main_v41 (idx_main_v47 (ix3 b s l))) k = ix3 b s k :=
    fun k => funext fun a => match a with | ⟨0, _⟩ => rfl | ⟨1, _⟩ => rfl | ⟨2, _⟩ => rfl
  rw [val_main_v47_apply, val_main_v46_apply, val_main_v45_apply, val_main_v44_apply, val_main_v43_apply, val_main_v42_apply, val_main_v41_apply, val_main_v40_apply,
    val_main_cst_6_apply, val_main_cst_7_apply, val_main_cst_8_apply]
  simp only [e1, val_main_v39_apply, v38_at, Ideal.ofBits_def, Ideal.ofBits_zero_f32, zero_add]
  rfl

/-- The merged row. -/
theorem v54_at (l : Fin 1024) : val_main_v54 (F := Ideal) x0 x1 x2 x3 x4 x5 x6 x7 x8 x9 x10 x11 (ix3 b s l)
    = norm (preOf x0 x1 x2 x3 x4 x5 x6 x7 x8 x9 b s) (fun l => x10 (ix1 l)) (fun l => x11 (ix1 l)) l := by
  have e1 : idx_main_v49 (idx_main_v50 (ix3 b s l)) = ix1 l := funext fun a => match a with | ⟨0, _⟩ => rfl
  have e2 : idx_main_v52 (idx_main_v53 (ix3 b s l)) = ix1 l := funext fun a => match a with | ⟨0, _⟩ => rfl
  rw [val_main_v54_apply, val_main_v53_apply, val_main_v52_apply, val_main_v51_apply, val_main_v50_apply, val_main_v49_apply, val_main_v48_apply, v38_at, v47_at, e1, e2]
  rfl

/-- The reference's result at row `R`, lane `l`. -/
theorem v55_at (R : Fin 16384) (l : Fin 1024) : val_main_v55 (F := Ideal) x0 x1 x2 x3 x4 x5 x6 x7 x8 x9 x10 x11 (ix2 R l)
    = norm (preOf x0 x1 x2 x3 x4 x5 x6 x7 x8 x9 ⟨R.val / 4096, by omega⟩ ⟨R.val % 4096, by omega⟩) (fun l => x10 (ix1 l)) (fun l => x11 (ix1 l)) l := by
  have e0 : idx_main_v55 (ix2 R l) = ix3 ⟨R.val / 4096, by omega⟩ ⟨R.val % 4096, by omega⟩ l := funext fun a => Fin.ext (match a with
    | ⟨0, _⟩ => by show (R.val * 1024 + l.val) / 4194304 = R.val / 4096; omega
    | ⟨1, _⟩ => by show (R.val * 1024 + l.val) / 1024 % 4096 = R.val % 4096; omega
    | ⟨2, _⟩ => by show (R.val * 1024 + l.val) % 1024 = l.val; omega)
  rw [val_main_v55_apply, e0, v54_at]

end Cert.MergeRefIdeal.Ref

end
-- ==== Proof.Merge.lean ====
/-
  The gated merge's call and its reference leave the same two arrays.
-/
module

public import proofs.«01_k».proof.Defs
public import proofs.«01_k».proof.Proof.Gen.MergeRefIdeal.Run
public import proofs.«01_k».proof.Proof.Merge.Value
public import proofs.«01_k».proof.Proof.Merge.Ref

@[expose] public section

noncomputable section

namespace Cert.MergeIdeal.Val

open Cert.MergeIdeal Cert.MergeIdeal.Gen
open Idealize.ShloMosaic Idealize.ShloMosaic.TcCoe Idealize.SL.Sem Idealize.ShloMosaic.ValueIdx

/-- The reference's first array at the kernel's arguments is the first array the kernel leaves. -/
theorem ref_result0 (m : (ℓ : Loc nD τ sig) → Buf (Elt Ideal) ℓ) (c : Dev nD) :
    Cert.MergeRefIdeal.Read.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = result0 m c :=
  funext fun i => (congrArg _ (eq_ix2 i)).trans (Cert.MergeRefIdeal.Ref.v55_at _ _ _ _ _ _ _ _ _ _ _ _ (i 0) (i 1))

/-- And so for the second, which is the first in a narrower format. -/
theorem ref_result1 (m : (ℓ : Loc nD τ sig) → Buf (Elt Ideal) ℓ) (c : Dev nD) :
    Cert.MergeRefIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = result1 m c :=
  funext fun i => congrFun (ref_result0 m c) i

theorem algebraic : Cert.algebraic_MergeIdeal_MergeRefIdeal := fun m g m' g' _ h =>
  ⟨fun c => result0 m c, fun c => result1 m c,
    (θ_run Cert.MergeIdeal.defs _ _).mono (fun r hr c => ⟨(hr c).1.trans (final16 m c), (hr c).2.1.trans (final17 m c), (hr c).2.2.2⟩)
      (Cert.MergeIdeal.Value.run_blocks m g),
    (θ_run Cert.MergeRefIdeal.defs _ _).mono (fun r hr c =>
      ⟨(hr c).1.trans ((Cert.MergeRefIdeal.Read.val_main_v55_eq _ _).trans (by
        rw [(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1]; exact ref_result0 m c)),
       (hr c).2.1.trans ((Cert.MergeRefIdeal.Read.val_main_v56_eq _ _).trans (by
        rw [(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1]; exact ref_result1 m c)), (hr c).2.2⟩)
      (Cert.MergeRefIdeal.Value.run m' g')⟩

end Cert.MergeIdeal.Val

end
-- ==== Proof.Qkv.Math.lean ====
/-
  The values of one position as the attention reads them, as a function of the position's row and of the weights: for either of the two
  heads 128 projected values, a one and 15 zeros.
-/
module

public import Idealize.ShloMosaic.Lib.IdealHost

@[expose] public section

noncomputable section

namespace Cert.Qkv.Math

open Idealize.ShloMosaic

/-- A row times a matrix, plus a bias. -/
def affine {n : ℕ} (h : Fin 1024 → EReal) (w : Fin 1024 → Fin n → EReal) (b : Fin n → EReal) (l : Fin n) : EReal := (∑ k : Fin 1024, h k * w k l) + b l

/-- The 288 entries of a position: each head's 144 are its values, a one, and zeros. -/
def values (z : Fin 256 → EReal) (j : Fin 288) : EReal :=
  if h : j.val % 144 < 128 then z ⟨j.val / 144 * 128 + j.val % 144, by omega⟩ else if j.val % 144 = 128 then 1 else 0

theorem values_head (z : Fin 256 → EReal) (g : ℕ) (d : Fin 128) (l : Fin 256) (j : Fin 288) (hg : g < 2) (hj : j.val = g * 144 + d.val)
    (hl : l.val = g * 128 + d.val) : values z j = z l := by
  have h1 : j.val % 144 = d.val := by omega
  have h2 : j.val / 144 = g := by omega
  unfold values
  rw [dif_pos (by omega)]
  exact congrArg z (Fin.ext (by show j.val / 144 * 128 + j.val % 144 = l.val; omega))

theorem values_tail (z : Fin 256 → EReal) (g : ℕ) (a : Fin 16) (j : Fin 288) (hg : g < 2) (hj : j.val = g * 144 + 128 + a.val) :
    values z j = if a.val = 0 then 1 else 0 := by
  unfold values
  rw [dif_neg (by omega)]
  by_cases ha : a.val = 0
  · rw [if_pos ha, if_pos (by omega)]
  · rw [if_neg ha, if_neg (by omega)]

end Cert.Qkv.Math

end
-- ==== Proof.Qkv.Pay.lean ====
/-
  The body of the projections' call over the reals: the block of values that it writes.
-/
module

public import proofs.«01_k».proof.Proof.Gen.QkvIdeal.Skeleton
public import proofs.«01_k».proof.Proof.Qkv.Math
public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.WordCmp
public import Idealize.ShloMosaic.Lib.IdealHost

@[expose] public section

noncomputable section

namespace Cert.QkvIdeal.Val

open Cert.QkvIdeal Cert.QkvIdeal.Gen Cert.Qkv.Math
open Idealize.ShloMosaic Idealize.ShloMosaic.TcCoe Idealize.SL.Sem Idealize.ShloMosaic.ValueIdx

/-- A row of a block, a block of weights as a matrix, and a one-row block as a vector. -/
abbrev row (v : S256x1024.Idx → EReal) (r : Fin 256) : Fin 1024 → EReal := fun k => v (ix2 r k)
abbrev mat (v : S1024x256.Idx → EReal) : Fin 1024 → Fin 256 → EReal := fun k l => v (ix2 k l)
abbrev vec (v : S1x256.Idx → EReal) : Fin 256 → EReal := fun l => v (ix2 0 l)

/-- The projected values of a position of the block. -/
theorem pay7_apply (v0 : Vec Ideal S256x1024 .bf16) (v16 : Vec Ideal S1024x256 .bf16) (v19 : Vec Ideal S1x256 .f32) (r l : Fin 256) :
    (k0_pay7 v0 v16 v19 : FVec Ideal S256x256 .f32) (ix2 r l) = affine (row v0 r) (mat v16) (vec v19) l := by
  unfold k0_pay7 k0_pay4
  simp only [shapeCast_self]
  rw [addf_apply, broadcastTo_apply v19 _ (ix2 r l) (ix2 0 l) (fun a => match a with | ⟨0, _⟩ => rfl | ⟨1, _⟩ => rfl)]
  refine congrArg (fun z : EReal => HAdd.hAdd (α := EReal) (β := EReal) z _) ?_
  refine (Ideal.matmul_plain_apply (φ₁ := .bf16) (φ₂ := .bf16) none v0 v16 _ r l).trans ?_
  rw [show (constant S256x256 .f32 0x00000000#32 : FVec Ideal S256x256 .f32) (ix2 r l) = (0 : EReal) from Ideal.ofBits_zero_f32, zero_add]

/-- The first head's values, transposed; -/
theorem pay35_apply (z : FVec Ideal S256x256 .f32) (d : Fin 128) (r : Fin 256) :
    (k0_pay35 z : FVec Ideal S1x128x256 .bf16) (ix3 0 d r) = z (ix2 r ⟨d.val, by omega⟩) := by
  unfold k0_pay35
  refine (shapeCast_apply _ _ (ix3 0 d r) (ix2 d r) ?_).trans ?_
  · rewrite [Shape.rowMajor_val_three, Shape.rowMajor_val_two]
    show d.val * 256 + r.val = (0 * 128 + d.val) * 256 + r.val
    omega
  · rw [truncf_apply]
    refine (transpose_ix2_apply _ _ d r).trans ?_
    exact extractStridedSlice_apply _ z _ (ix2 r d) (ix2 r ⟨d.val, by omega⟩) (fun a => match a with
      | ⟨0, _⟩ => by show r.val = 0 + r.val; omega
      | ⟨1, _⟩ => by show d.val = 0 + d.val; omega)
/-- and the second's. -/
theorem pay2_apply (z : FVec Ideal S256x256 .f32) (d : Fin 128) (r : Fin 256) :
    (k0_pay2 z : FVec Ideal S1x128x256 .bf16) (ix3 0 d r) = z (ix2 r ⟨128 + d.val, by omega⟩) := by
  unfold k0_pay2
  refine (shapeCast_apply _ _ (ix3 0 d r) (ix2 d r) ?_).trans ?_
  · rewrite [Shape.rowMajor_val_three, Shape.rowMajor_val_two]
    show d.val * 256 + r.val = (0 * 128 + d.val) * 256 + r.val
    omega
  · rw [truncf_apply]
    refine (transpose_ix2_apply _ _ d r).trans ?_
    exact extractStridedSlice_apply _ z _ (ix2 r d) (ix2 r ⟨128 + d.val, by omega⟩) (fun a => match a with
      | ⟨0, _⟩ => by show r.val = 0 + r.val; omega
      | ⟨1, _⟩ => by show 128 + d.val = 128 + d.val; omega)

/-- The 16 rows behind a head's values: a row of ones, and zeros. -/
theorem pay30_apply (a : Fin 16) (r : Fin 256) : (k0_pay30 : FVec Ideal S16x256 .bf16) (ix2 a r) = if a.val = 0 then 1 else 0 := by
  unfold k0_pay30
  rw [truncf_apply, select_apply]
  have hc : (cmpi .eq (iota .tc S16x256 32 [0] iota_S16x256_d0_w32) (broadcast S16x256 0#32) : IVec S16x256 1) (ix2 a r) = if a.val = 0 then 1 else 0 := by
    show IntOp.cmpi .eq (iota .tc S16x256 32 [0] iota_S16x256_d0_w32 (ix2 a r)) 0#32 = _
    rw [iota_single_apply]
    show IntOp.cmpi .eq (BitVec.ofNat 32 a.val) (BitVec.ofNat 32 0) = _
    have hi := WordCmp.cmpi_eq_ofNat_eq_one_iff (w := 32) (a := a.val) (b := 0) (by have := a.isLt; omega) (by omega)
    by_cases h : a.val = 0
    · rw [if_pos h]
      exact hi.mpr h
    · rw [if_neg h]
      exact (BitVec.eq_zero_or_eq_one _).resolve_right fun h1 => absurd (hi.mp h1) h
  rw [hc]
  by_cases h : a.val = 0
  · rw [if_pos h, if_pos h]
    exact (ValueIdx.select_one _ _).trans Ideal.ofBits_one_f32
  · rw [if_neg h, if_neg h]
    exact (ValueIdx.select_zero _ _).trans Ideal.ofBits_zero_f32

theorem pay36_apply (x : FVec Ideal S16x256 .bf16) (a : Fin 16) (r : Fin 256) :
    (k0_pay36 x : FVec Ideal S1x16x256 .bf16) (ix3 0 a r) = x (ix2 a r) :=
  shapeCast_apply _ _ (ix3 0 a r) (ix2 a r) (by
    rewrite [Shape.rowMajor_val_three, Shape.rowMajor_val_two]
    show a.val * 256 + r.val = (0 * 16 + a.val) * 256 + r.val
    omega)
theorem pay3_apply (x : FVec Ideal S16x256 .bf16) (a : Fin 16) (r : Fin 256) :
    (k0_pay3 x : FVec Ideal S1x16x256 .bf16) (ix3 0 a r) = x (ix2 a r) := pay36_apply x a r

end Cert.QkvIdeal.Val

end
-- ==== Proof.Qkv.Block.lean ====
/-
  The block of values that a point of the projections' call leaves: four stores, and their positions in the block.
-/
module

public import proofs.«01_k».proof.Proof.Gen.QkvIdeal.Frame
public import proofs.«01_k».proof.Proof.Qkv.Pay

@[expose] public section

noncomputable section

namespace Cert.QkvIdeal.Val

open Cert.QkvIdeal Cert.QkvIdeal.Gen Cert.Qkv.Math
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- A store of 128 rows that holds a head's values, read at an index of its own. -/
theorem head_piece (x0 : Vec Ideal S256x1024 .bf16) (x3 : Vec Ideal S1024x256 .bf16) (x6 : Vec Ideal S1x256 .f32) (g : ℕ) (hg : g < 2)
    (p : FVec Ideal S1x128x256 .bf16) (hp : ∀ (d : Fin 128) (r : Fin 256) (l : Fin 256), l.val = g * 128 + d.val → p (ix3 0 d r) = k0_pay7 x0 x3 x6 (ix2 r l))
    (x : S1x128x256.Idx) (y : S1x288x256.Idx) (h1 : (y 1).val = g * 144 + (x 1).val) (h2 : (y 2).val = (x 2).val) :
    p x = values (affine (row x0 (y 2)) (mat x3) (vec x6)) (y 1) := by
  have hx1 : (x 1).val < 128 := (x 1).isLt
  have hx : x = ix3 (0 : Fin 1) (x 1) (x 2) := (eq_ix3 x).trans (congrArg (fun z : Fin 1 => ix3 z (x 1) (x 2)) (Subsingleton.elim (α := Fin 1) _ _))
  have hy : (x 2 : Fin 256) = y 2 := Fin.ext h2.symm
  refine (congrArg p hx).trans ?_
  refine (hp (x 1) (x 2) ⟨g * 128 + (x 1).val, by omega⟩ rfl).trans ?_
  refine (pay7_apply x0 x3 x6 (x 2) ⟨g * 128 + (x 1).val, by omega⟩).trans ?_
  rw [values_head _ g (x 1) ⟨g * 128 + (x 1).val, by omega⟩ (y 1) hg h1 rfl, ← hy]

/-- A store of the 16 rows behind a head's values. -/
theorem tail_piece (z : Fin 256 → Fin 256 → EReal) (g : ℕ) (hg : g < 2) (p : FVec Ideal S1x16x256 .bf16)
    (hp : ∀ (a : Fin 16) (r : Fin 256), p (ix3 0 a r) = if a.val = 0 then 1 else 0)
    (x : S1x16x256.Idx) (y : S1x288x256.Idx) (h1 : (y 1).val = g * 144 + 128 + (x 1).val) :
    p x = values (z (y 2)) (y 1) := by
  have hx : x = ix3 (0 : Fin 1) (x 1) (x 2) := (eq_ix3 x).trans (congrArg (fun z : Fin 1 => ix3 z (x 1) (x 2)) (Subsingleton.elim (α := Fin 1) _ _))
  refine (congrArg p hx).trans ?_
  refine (hp (x 1) (x 2)).trans ?_
  exact (values_tail _ g (x 1) (y 1) hg h1).symm

theorem zero_offset : (![0, 0] : Fin 2 → Nat) = fun _ => 0 := funext fun a => match a with
  | ⟨0, _⟩ => rfl
  | ⟨1, _⟩ => rfl

/-- The affine rows that a point computes, from its blocks as loaded. -/
theorem loaded (c : Dev nD) (t : Fin cfg0.N) :
    kernelRun0_A.sl.r_2 c (ms0_0 t) (hs0_0 t) (ms0_3 t) (hs0_3 t) (ms0_6 t) (hs0_6 t) (iblk m c 0 t) (iblk m c 3 t) (iblk m c 6 t)
      = k0_pay7 (iblk m c 0 t) (iblk m c 3 t) (iblk m c 6 t) := by
  unfold kernelRun0_A.sl.r_2
  rw [View.readAt_eq_ld, View.readAt_eq_ld, View.readAt_eq_ld, (hs0_0 t).read_unread, (hs0_3 t).read_unread, (hs0_6 t).read_unread,
    View.ld_unit_zero (S := S256x1024) zero_offset, View.ld_unit_zero (S := S1024x256) zero_offset, View.ld_unit_zero (S := S1x256) zero_offset]

/-- What point `t` leaves in the block of values. -/
theorem values_block (c : Dev nD) (t : Fin cfg0.N) (y : S1x288x256.Idx) : (outsAt0 m c t).2.2 y
    = values (affine (row (iblk m c 0 t) (y 2)) (mat (iblk m c 3 t)) (vec (iblk m c 6 t))) (y 1) := by
  unfold outsAt0
  dsimp only
  unfold out0_A_15
  rw [View.read_writes_eq_canon _ _ _ (cover0_A_15 (F := Ideal) c (grid0.coords t) _ _ _ _ _ _ _ _ _ _ _ _ _ _ _ _ _ _ _ _ _ _ _ _ _ _ _ _ _ _ _ _ _ _ _ _ _ _ _ _ _ _ _ _ _)]
  refine View.canon_apply_of_pieces (fun y : S1x288x256.Idx => values (affine (row (iblk m c 0 t) (y 2)) (mat (iblk m c 3 t)) (vec (iblk m c 6 t))) (y 1)) _ ?_ y
    (cover0_A_15 (F := Ideal) c (grid0.coords t) _ _ _ _ _ _ _ _ _ _ _ _ _ _ _ _ _ _ _ _ _ _ _ _ _ _ _ _ _ _ _ _ _ _ _ _ _ _ _ _ _ _ _ _ _ y)
  unfold kernelRun0_A
  dsimp only
  intro p hp x
  simp only [List.mem_cons, List.not_mem_nil, or_false] at hp
  rcases hp with rfl | rfl | rfl | rfl
  · exact tail_piece (fun r => affine (row (iblk m c 0 t) r) (mat (iblk m c 3 t)) (vec (iblk m c 6 t))) 1 (by omega) _ (fun a r => (pay3_apply _ a r).trans (pay30_apply a r)) x
      (Rect.emb (Rect.unit (s := S1x288x256) ![0, 272, 0] S1x16x256.size inb_S1x288x256_S1x16x256_0_272_0) x) (by show 272 + 1 * (x 1).val = _; omega)
  · refine head_piece (iblk m c 0 t) (iblk m c 3 t) (iblk m c 6 t) 1 (by omega) _ (fun d r l hl => ?_) x _ (by show 144 + 1 * (x 1).val = _; omega) (by show 0 + 1 * (x 2).val = _; omega)
    refine (pay2_apply _ d r).trans ?_
    rw [loaded]
    exact congrArg (fun z : Fin 256 => k0_pay7 (iblk m c 0 t) (iblk m c 3 t) (iblk m c 6 t) (ix2 r z)) (Fin.ext (by show 128 + d.val = l.val; omega))
  · exact tail_piece (fun r => affine (row (iblk m c 0 t) r) (mat (iblk m c 3 t)) (vec (iblk m c 6 t))) 0 (by omega) _ (fun a r => (pay36_apply _ a r).trans (pay30_apply a r)) x
      (Rect.emb (Rect.unit (s := S1x288x256) ![0, 128, 0] S1x16x256.size inb_S1x288x256_S1x16x256_0_128_0) x) (by show 128 + 1 * (x 1).val = _; omega)
  · refine head_piece (iblk m c 0 t) (iblk m c 3 t) (iblk m c 6 t) 0 (by omega) _ (fun d r l hl => ?_) x _ (by show 0 + 1 * (x 1).val = _; omega) (by show 0 + 1 * (x 2).val = _; omega)
    refine (pay35_apply _ d r).trans ?_
    rw [loaded]
    exact congrArg (fun z : Fin 256 => k0_pay7 (iblk m c 0 t) (iblk m c 3 t) (iblk m c 6 t) (ix2 r z)) (Fin.ext (by show d.val = l.val; omega))

end Cert.QkvIdeal.Val

end
-- ==== Proof.Qkv.Value.lean ====
/-
  The projections' call over the reals: the arrays its launch prepares, the blocks its points see, and the array of values it leaves.
-/
module

public import proofs.«01_k».proof.Proof.Gen.QkvIdeal.Value
public import proofs.«01_k».proof.Proof.Qkv.Block

@[expose] public section

noncomputable section

namespace Cert.QkvIdeal.Val

open Cert.QkvIdeal Cert.QkvIdeal.Gen Cert.Qkv.Math
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The operands read at an index -/

theorem V_v5 (c : Dev nD) : (V m c main_v5 : Vec Ideal S16384x1024 .bf16)
    = shapeCast S16384x1024 (truncf (F := Ideal) .bf16 (m ((c : Thread nD τ).loc main_arg0)) bitsLt_bf16_f32) shapeCasts_S4x4096x1024_S16384x1024 := by
  unfold V
  simp only [List.flatten_cons, List.flatten_nil, List.append_nil, List.cons_append, List.nil_append, hostOps0]
  after_results <;> rfl
theorem v5_apply (c : Dev nD) (R : Fin 16384) (b : Fin 4) (s : Fin 4096) (hR : R.val = b.val * 4096 + s.val) (k : Fin 1024) :
    (V m c main_v5 : Vec Ideal S16384x1024 .bf16) (ix2 R k) = (m ((c : Thread nD τ).loc main_arg0) : S4x4096x1024.Idx → EReal) (ix3 b s k) := by
  rw [V_v5]
  refine (shapeCast_apply _ _ (ix2 R k) (ix3 b s k) ?_).trans rfl
  rewrite [Shape.rowMajor_val_three, Shape.rowMajor_val_two]
  show (b.val * 4096 + s.val) * 1024 + k.val = R.val * 1024 + k.val
  omega

theorem V_v14 (c : Dev nD) : (V m c main_v14 : Vec Ideal S1024x256 .bf16)
    = extractStridedSlice S1024x256 ![0, 3328] (truncf (F := Ideal) .bf16 (m ((c : Thread nD τ).loc main_arg1)) bitsLt_bf16_f32) slices_S1024x5632_S1024x256_0_3328 := by
  unfold V
  simp only [List.flatten_cons, List.flatten_nil, List.append_nil, List.cons_append, List.nil_append, hostOps0]
  after_results <;> rfl
theorem v14_apply (c : Dev nD) (k : Fin 1024) (l : Fin 256) : (V m c main_v14 : Vec Ideal S1024x256 .bf16) (ix2 k l)
    = (m ((c : Thread nD τ).loc main_arg1) : S1024x5632.Idx → EReal) (ix2 k ⟨3328 + l.val, by omega⟩) := by
  rw [V_v14]
  exact (extractStridedSlice_apply _ _ _ (ix2 k l) (ix2 k ⟨3328 + l.val, by omega⟩) (fun a => match a with
    | ⟨0, _⟩ => by show k.val = 0 + k.val; omega
    | ⟨1, _⟩ => by show 3328 + l.val = 3328 + l.val; omega)).trans rfl

theorem V_v32 (c : Dev nD) : (V m c main_v32 : Vec Ideal S1x256 .f32)
    = shapeCast S1x256 (extractStridedSlice S256 ![3328] (m ((c : Thread nD τ).loc main_arg2)) slices_S5632_S256_3328) shapeCasts_S256_S1x256 := by
  unfold V
  simp only [List.flatten_cons, List.flatten_nil, List.append_nil, List.cons_append, List.nil_append, hostOps0]
  after_results <;> rfl
theorem v32_apply (c : Dev nD) (l : Fin 256) : (V m c main_v32 : Vec Ideal S1x256 .f32) (ix2 0 l)
    = (m ((c : Thread nD τ).loc main_arg2) : S5632.Idx → EReal) (ix1 ⟨3328 + l.val, by omega⟩) := by
  rw [V_v32]
  refine (shapeCast_apply _ _ (ix2 0 l) (ix1 l) ?_).trans ?_
  · rewrite [Shape.rowMajor_val_one, Shape.rowMajor_val_two]
    show l.val = 0 * 256 + l.val
    omega
  · exact extractStridedSlice_apply _ _ _ (ix1 l) (ix1 ⟨3328 + l.val, by omega⟩) (fun a => match a with
      | ⟨0, _⟩ => by show 3328 + l.val = 3328 + l.val; omega)

/-! ## The blocks -/

theorem idx_0 : ∀ t : Fin cfg0.N, win0_0.index t 0 = t.val ∧ win0_0.index t 1 = 0 :=
  (by decide +kernel : ∀ t : Fin grid0.N, _)
theorem idx_3 : ∀ t : Fin cfg0.N, win0_3.index t 0 = 0 ∧ win0_3.index t 1 = 0 :=
  (by decide +kernel : ∀ t : Fin grid0.N, _)
theorem idx_6 : ∀ t : Fin cfg0.N, win0_6.index t 0 = 0 ∧ win0_6.index t 1 = 0 :=
  (by decide +kernel : ∀ t : Fin grid0.N, _)
theorem idx_15 : ∀ t : Fin cfg0.N, win0_15.index t 0 = t.val / 16 ∧ win0_15.index t 1 = 0 ∧ win0_15.index t 2 = t.val % 16 :=
  (by decide +kernel : ∀ t : Fin grid0.N, _)

theorem row_lt (b : Fin 4) (s : Fin 4096) : b.val * 4096 + s.val < 16384 := by omega

theorem blk0 (c : Dev nD) (t : Fin cfg0.N) (r : Fin 256) (b : Fin 4) (s : Fin 4096) (hR : b.val * 4096 + s.val = 256 * t.val + r.val) :
    row (iblk m c 0 t) r = fun k => (m ((c : Thread nD τ).loc main_arg0) : S4x4096x1024.Idx → EReal) (ix3 b s k) := by
  funext k
  refine Eq.trans ?_ (v5_apply m c ⟨b.val * 4096 + s.val, row_lt b s⟩ b s rfl k)
  show (iblk m c 0 t : Vec Ideal S256x1024 .bf16) (ix2 r k) = _
  unfold iblk
  rw [View.read_apply]
  show V m c main_v5 _ = V m c main_v5 _
  congr 1
  funext a
  apply Fin.ext
  match a with
  | ⟨0, _⟩ => show win0_0.index t 0 * 256 + 1 * r.val = b.val * 4096 + s.val; rw [(idx_0 t).1, hR, Nat.mul_comm, Nat.one_mul]
  | ⟨1, _⟩ => show win0_0.index t 1 * 1024 + 1 * k.val = k.val; rw [(idx_0 t).2, Nat.zero_mul, Nat.zero_add, Nat.one_mul]
theorem blk3 (c : Dev nD) (t : Fin cfg0.N) : mat (iblk m c 3 t)
      = fun k l => (m ((c : Thread nD τ).loc main_arg1) : S1024x5632.Idx → EReal) (ix2 k ⟨3328 + l.val, by omega⟩) := by
  funext k l
  refine Eq.trans ?_ (v14_apply m c k l)
  show (iblk m c 3 t : Vec Ideal S1024x256 .bf16) (ix2 k l) = _
  unfold iblk
  rw [View.read_apply]
  show V m c main_v14 _ = V m c main_v14 _
  congr 1
  funext a
  apply Fin.ext
  match a with
  | ⟨0, _⟩ => show win0_3.index t 0 * 1024 + 1 * k.val = k.val; rw [(idx_3 t).1]; omega
  | ⟨1, _⟩ => show win0_3.index t 1 * 256 + 1 * l.val = l.val; rw [(idx_3 t).2]; omega
theorem blk6 (c : Dev nD) (t : Fin cfg0.N) : vec (iblk m c 6 t)
      = fun l => (m ((c : Thread nD τ).loc main_arg2) : S5632.Idx → EReal) (ix1 ⟨3328 + l.val, by omega⟩) := by
  funext l
  refine Eq.trans ?_ (v32_apply m c l)
  show (iblk m c 6 t : Vec Ideal S1x256 .f32) (ix2 0 l) = _
  unfold iblk
  rw [View.read_apply]
  show V m c main_v32 _ = V m c main_v32 _
  congr 1
  funext a
  apply Fin.ext
  match a with
  | ⟨0, _⟩ => show win0_6.index t 0 * 1 + 1 * 0 = 0; rw [(idx_6 t).1]
  | ⟨1, _⟩ => show win0_6.index t 1 * 256 + 1 * l.val = l.val; rw [(idx_6 t).2]; omega

/-! ## The array of values -/

/-- What the array of values ends holding. -/
def result (c : Dev nD) : S4x288x4096.Idx → EReal := fun i =>
  values (affine (fun k => (m ((c : Thread nD τ).loc main_arg0) : S4x4096x1024.Idx → EReal) (ix3 (i 0) (i 2) k))
    (fun k l => (m ((c : Thread nD τ).loc main_arg1) : S1024x5632.Idx → EReal) (ix2 k ⟨3328 + l.val, by omega⟩))
    (fun l => (m ((c : Thread nD τ).loc main_arg2) : S5632.Idx → EReal) (ix1 ⟨3328 + l.val, by omega⟩))) (i 1)

/-- What point `t` leaves at an index of its block is the result at that index's place in the array. -/
theorem block_eq (c : Dev nD) (t : Fin cfg0.N) (y : S1x288x256.Idx) (b : Fin 4) (s : Fin 4096) (hR : b.val * 4096 + s.val = 256 * t.val + (y 2).val) :
    (outsAt0 m c t).2.2 y = result m c (ix3 b (y 1) s) := by
  refine (values_block m c t y).trans ?_
  rw [blk0 m c t (y 2) b s hR, blk3, blk6]
  rfl

/-- What point `t` writes back is block `t` of the result. -/
theorem flushed (c : Dev nD) (t : Fin cfg0.N) :
    (dats m 0 c).flushed 15 t = ((cfg0.win 15).blk t).view.read (Elt Ideal) (result m c) := by
  show (cfg0.win 15).cut (grid0.coords t) ((dats m 0 c).after 15 t) = _
  rw [after0_15]
  refine funext fun (y : S1x288x256.Idx) => ?_
  rw [View.read_apply]
  have ht : t.val < 64 := lt_of_lt_of_eq t.isLt N_0
  have hy2 : (y 2).val < 256 := (y 2).isLt
  have hy0 : (y 0).val = 0 := Nat.lt_one_iff.mp (y 0).isLt
  have hb : t.val / 16 < 4 := by omega
  have hs : t.val % 16 * 256 + (y 2).val < 4096 := by omega
  have hR : t.val / 16 * 4096 + (t.val % 16 * 256 + (y 2).val) = 256 * t.val + (y 2).val := by omega
  have he : ((cfg0.win 15).blk t).view.emb y = (ix3 (⟨t.val / 16, hb⟩ : Fin 4) (y 1 : Fin 288) (⟨t.val % 16 * 256 + (y 2).val, hs⟩ : Fin 4096) : S4x288x4096.Idx) := by
    funext a
    apply Fin.ext
    match a with
    | ⟨0, _⟩ => show win0_15.index t 0 * 1 + 1 * (y 0).val = t.val / 16; rw [(idx_15 t).1, hy0]; omega
    | ⟨1, _⟩ => show win0_15.index t 1 * 288 + 1 * (y 1).val = (y 1).val; rw [(idx_15 t).2.1]; omega
    | ⟨2, _⟩ => show win0_15.index t 2 * 256 + 1 * (y 2).val = t.val % 16 * 256 + (y 2).val; rw [(idx_15 t).2.2]; omega
  rw [he]
  exact block_eq m c t y ⟨t.val / 16, hb⟩ ⟨t.val % 16 * 256 + (y 2).val, hs⟩ hR

theorem cover (i : S4x288x4096.Idx) : ∃ t : Fin cfg0.N, (cfg0.win 15).flush t = true ∧ i ∈ ((cfg0.win 15).blk t).view.set := by
  have h0 : (i 0 : Nat) < 4 := (i 0).isLt
  have h1 : (i 1 : Nat) < 288 := (i 1).isLt
  have h2 : (i 2 : Nat) < 4096 := (i 2).isLt
  have hN : cfg0.N = 64 := N_0
  have ht : (i 0 : Nat) * 16 + (i 2 : Nat) / 256 < cfg0.N := by omega
  refine ⟨⟨(i 0 : Nat) * 16 + (i 2 : Nat) / 256, ht⟩, flush0_15 _, ?_⟩
  show i ∈ ((View.whole main_v35_2).slice (win0_15.rect ⟨(i 0 : Nat) * 16 + (i 2 : Nat) / 256, ht⟩)).set
  rw [View.set_slice_whole, Rect.mem_set_unit]
  intro a
  match a with
  | ⟨0, _⟩ => show win0_15.index ⟨(i 0 : Nat) * 16 + (i 2 : Nat) / 256, ht⟩ 0 * 1 ≤ (i 0 : Nat) ∧ (i 0 : Nat) < win0_15.index ⟨(i 0 : Nat) * 16 + (i 2 : Nat) / 256, ht⟩ 0 * 1 + 1
              rw [(idx_15 _).1]; dsimp only; omega
  | ⟨1, _⟩ => show win0_15.index ⟨(i 0 : Nat) * 16 + (i 2 : Nat) / 256, ht⟩ 1 * 288 ≤ (i 1 : Nat) ∧ (i 1 : Nat) < win0_15.index ⟨(i 0 : Nat) * 16 + (i 2 : Nat) / 256, ht⟩ 1 * 288 + 288
              rw [(idx_15 _).2.1]; omega
  | ⟨2, _⟩ => show win0_15.index ⟨(i 0 : Nat) * 16 + (i 2 : Nat) / 256, ht⟩ 2 * 256 ≤ (i 2 : Nat) ∧ (i 2 : Nat) < win0_15.index ⟨(i 0 : Nat) * 16 + (i 2 : Nat) / 256, ht⟩ 2 * 256 + 256
              rw [(idx_15 _).2.2]; dsimp only; omega

theorem final (c : Dev nD) : (dats m 0 c).arrAt 15 cfg0.N = result m c :=
  (dats m 0 c).arrAt_eq_of_cover 15 (result m c) (fun t _ => flushed m c t) cover

end Cert.QkvIdeal.Val

end
-- ==== Proof.Qkv.Ref.lean ====
/-
  The reference's values read at an index.
-/
module

public import proofs.«01_k».proof.Proof.Gen.QkvRefIdeal.Read
public import proofs.«01_k».proof.Proof.Qkv.Math
public import Idealize.ShloMosaic.Lib.Pipeline.Value
public import Idealize.ShloMosaic.Lib.ValueIdx
public import Idealize.ShloMosaic.Lib.IdealHost
public import Idealize.ShloMosaic.Lib.KernelVsHost

@[expose] public section

noncomputable section

namespace Cert.QkvRefIdeal.Ref

open Cert.QkvRefIdeal Cert.QkvRefIdeal.Gen Cert.QkvRefIdeal.Read Cert.Qkv.Math
open Idealize.ShloMosaic Idealize.ShloMosaic.TcCoe Idealize.SL.Sem Idealize.ShloMosaic.ValueIdx

variable (x0 : (⟨S4x4096x1024, .f32⟩ : BufTy).Contents (Elt Ideal)) (x1 : (⟨S1024x5632, .f32⟩ : BufTy).Contents (Elt Ideal))
  (x2 : (⟨S5632, .f32⟩ : BufTy).Contents (Elt Ideal))

/-- A position's row projected to the values, by head. -/
theorem v5_at (b : Fin 4) (s : Fin 4096) (k : Fin 2) (d : Fin 128) (l : Fin 256) (hl : l.val = k.val * 128 + d.val) :
    val_main_v5 (F := Ideal) x0 x1 x2 (ix4 b s k d)
      = affine (fun k => x0 (ix3 b s k)) (fun k l => x1 (ix2 k (⟨3328 + l.val, by omega⟩ : Fin 5632))) (fun l => x2 (ix1 (⟨3328 + l.val, by omega⟩ : Fin 5632))) l := by
  have e5 : idx_main_v5 (ix4 b s k d) = ix3 b s l := funext fun a => match a with
    | ⟨0, _⟩ => Fin.ext (by show (((b.val * 4096 + s.val) * 2 + k.val) * 128 + d.val) / 1048576 = b.val; omega)
    | ⟨1, _⟩ => Fin.ext (by show (((b.val * 4096 + s.val) * 2 + k.val) * 128 + d.val) / 256 % 4096 = s.val; omega)
    | ⟨2, _⟩ => Fin.ext (by show (((b.val * 4096 + s.val) * 2 + k.val) * 128 + d.val) % 256 = l.val; omega)
  have e4 : idx_main_v4 (ix3 b s l) = ix3 b s (⟨3328 + l.val, by omega⟩ : Fin 5632) := funext fun a => match a with
    | ⟨0, _⟩ => rfl | ⟨1, _⟩ => rfl | ⟨2, _⟩ => rfl
  rw [val_main_v5_apply, e5, val_main_v4_apply, e4, val_main_v3_apply, val_main_v0_apply, val_main_v2_apply, val_main_v1_apply]
  refine congrArg₂ (fun x y : EReal => HAdd.hAdd (α := EReal) (β := EReal) x y) (Finset.sum_congr rfl fun q _ => ?_) (congrArg x2 ?_)
  · exact congrArg₂ (fun x y : EReal => HMul.hMul (α := EReal) (β := EReal) x y)
      (congrArg x0 (funext fun a => match a with | ⟨0, _⟩ => rfl | ⟨1, _⟩ => rfl | ⟨2, _⟩ => rfl))
      (congrArg x1 (funext fun a => match a with | ⟨0, _⟩ => rfl | ⟨1, _⟩ => rfl))
  · exact funext fun a => match a with | ⟨0, _⟩ => rfl

/-- One of three pieces that lie side by side along the last axis, at a lane of its own. -/
theorem v8_at (b : Fin 4) (s : Fin 4096) (k : Fin 2) (e : Fin 144) (j : Fin 288) (hj : j.val = k.val * 144 + e.val) :
    val_main_v8 (F := Ideal) x0 x1 x2 (ix4 b s k e)
      = values (affine (fun k => x0 (ix3 b s k)) (fun k l => x1 (ix2 k (⟨3328 + l.val, by omega⟩ : Fin 5632))) (fun l => x2 (ix1 (⟨3328 + l.val, by omega⟩ : Fin 5632)))) j := by
  unfold val_main_v8
  by_cases h1 : e.val < 128
  · rw [values_head _ k.val ⟨e.val, h1⟩ ⟨k.val * 128 + e.val, by omega⟩ j k.isLt hj rfl]
    refine Eq.trans ?_ (v5_at x0 x1 x2 b s k ⟨e.val, h1⟩ ⟨k.val * 128 + e.val, by omega⟩ rfl)
    exact concatenate_apply_piece (t := S4x4096x2x144) 3 [⟨S4x4096x2x128, _⟩, ⟨S4x4096x2x1, _⟩, ⟨S4x4096x2x15, _⟩] _ (ix4 b s k e) 0 (by simp) _ _ rfl rfl 0 rfl
      (ix4 b s k (⟨e.val, h1⟩ : Fin 128)) (fun a ha => match a with | ⟨0, _⟩ => rfl | ⟨1, _⟩ => rfl | ⟨2, _⟩ => rfl | ⟨3, _⟩ => absurd rfl ha)
      (by show 0 + e.val = e.val; omega)
  · rw [values_tail _ k.val ⟨e.val - 128, by omega⟩ j k.isLt (by show j.val = _ + (e.val - 128); omega)]
    by_cases h2 : e.val - 128 = 0
    · rw [if_pos h2]
      refine (concatenate_apply_piece (t := S4x4096x2x144) 3 [⟨S4x4096x2x128, _⟩, ⟨S4x4096x2x1, _⟩, ⟨S4x4096x2x15, _⟩] _ (ix4 b s k e) 1 (by simp) _ _ rfl rfl 128 rfl
        (ix4 b s k (0 : Fin 1)) (fun a ha => match a with | ⟨0, _⟩ => rfl | ⟨1, _⟩ => rfl | ⟨2, _⟩ => rfl | ⟨3, _⟩ => absurd rfl ha)
        (by show 128 + 0 = e.val; omega)).trans ?_
      rw [val_main_v6_apply, val_main_cst_apply]
      exact Ideal.ofBits_one_f32
    · rw [if_neg h2]
      refine (concatenate_apply_piece (t := S4x4096x2x144) 3 [⟨S4x4096x2x128, _⟩, ⟨S4x4096x2x1, _⟩, ⟨S4x4096x2x15, _⟩] _ (ix4 b s k e) 2 (by simp) _ _ rfl rfl 129 rfl
        (ix4 b s k (⟨e.val - 129, by omega⟩ : Fin 15)) (fun a ha => match a with | ⟨0, _⟩ => rfl | ⟨1, _⟩ => rfl | ⟨2, _⟩ => rfl | ⟨3, _⟩ => absurd rfl ha)
        (by show 129 + (e.val - 129) = e.val; omega)).trans ?_
      rw [val_main_v7_apply, val_main_cst_0_apply]
      exact Ideal.ofBits_zero_f32

theorem v11_at (b : Fin 4) (j : Fin 288) (s : Fin 4096) :
    val_main_v11 (F := Ideal) x0 x1 x2 (ix3 b j s)
      = values (affine (fun k => x0 (ix3 b s k)) (fun k l => x1 (ix2 k (⟨3328 + l.val, by omega⟩ : Fin 5632))) (fun l => x2 (ix1 (⟨3328 + l.val, by omega⟩ : Fin 5632)))) j := by
  have e10 : idx_main_v10 (ix3 b j s) = ix4 b (⟨j.val / 144, by omega⟩ : Fin 2) (⟨j.val % 144, by omega⟩ : Fin 144) s := funext fun a => match a with
    | ⟨0, _⟩ => Fin.ext (by show ((b.val * 288 + j.val) * 4096 + s.val) / 1179648 = b.val; omega)
    | ⟨1, _⟩ => Fin.ext (by show ((b.val * 288 + j.val) * 4096 + s.val) / 589824 % 2 = j.val / 144; omega)
    | ⟨2, _⟩ => Fin.ext (by show ((b.val * 288 + j.val) * 4096 + s.val) / 4096 % 144 = j.val % 144; omega)
    | ⟨3, _⟩ => Fin.ext (by show ((b.val * 288 + j.val) * 4096 + s.val) % 4096 = s.val; omega)
  have e9 : idx_main_v9 (ix4 b (⟨j.val / 144, by omega⟩ : Fin 2) (⟨j.val % 144, by omega⟩ : Fin 144) s)
      = ix4 b s (⟨j.val / 144, by omega⟩ : Fin 2) (⟨j.val % 144, by omega⟩ : Fin 144) := funext fun a => match a with
    | ⟨0, _⟩ => rfl | ⟨1, _⟩ => rfl | ⟨2, _⟩ => rfl | ⟨3, _⟩ => rfl
  rw [val_main_v11_apply, val_main_v10_apply, e10, val_main_v9_apply, e9]
  exact v8_at x0 x1 x2 b s _ _ j (by show j.val = j.val / 144 * 144 + j.val % 144; omega)

end Cert.QkvRefIdeal.Ref

end
-- ==== Proof.Qkv.lean ====
/-
  The projections' call and its reference leave the same array of values.
-/
module

public import proofs.«01_k».proof.Defs
public import proofs.«01_k».proof.Proof.Gen.QkvRefIdeal.Run
public import proofs.«01_k».proof.Proof.Qkv.Value
public import proofs.«01_k».proof.Proof.Qkv.Ref

@[expose] public section

noncomputable section

namespace Cert.QkvIdeal.Val

open Cert.QkvIdeal Cert.QkvIdeal.Gen
open Idealize.ShloMosaic Idealize.ShloMosaic.TcCoe Idealize.SL.Sem Idealize.ShloMosaic.ValueIdx

/-- The reference's array at the kernel's arguments is the array of values the kernel leaves. -/
theorem ref_result (m : (ℓ : Loc nD τ sig) → Buf (Elt Ideal) ℓ) (c : Dev nD) :
    Cert.QkvRefIdeal.Read.val_main_v11 (F := Ideal) (m ((c.tc : Thread nD τ).loc main_arg0)) (m ((c.tc : Thread nD τ).loc main_arg1))
      (m ((c.tc : Thread nD τ).loc main_arg2)) = result m c :=
  funext fun i => (congrArg _ (eq_ix3 i)).trans (Cert.QkvRefIdeal.Ref.v11_at _ _ _ (i 0) (i 1) (i 2))

theorem algebraic : Cert.algebraic_QkvIdeal_QkvRefIdeal := fun m g m' g' _ h =>
  ⟨fun c => result m c,
    (θ_run Cert.QkvIdeal.defs _ _).mono (fun r hr c => ⟨(hr c).2.2.1.trans (final m c), (hr c).2.2.2⟩) (Cert.QkvIdeal.Value.run_blocks m g),
    (θ_run Cert.QkvRefIdeal.defs _ _).mono (fun r hr c => ⟨(hr c).1.trans ((Cert.QkvRefIdeal.Read.val_main_v11_eq _ _ _).trans (by
        rw [(h c).1, (h c).2.1, (h c).2.2.1]; exact ref_result m c)), (hr c).2⟩)
      (Cert.QkvRefIdeal.Value.run m' g')⟩

end Cert.QkvIdeal.Val

end
-- ==== Proof.lean ====
/- The proof of the certificate's claims: the frames and the values of the attention's call, the feed-forward call, the gated
   linear unit's, the gated merge's and, for its array of values, the projections'. -/
module

public import proofs.«01_k».proof.Defs
public import proofs.«01_k».proof.Proof.Frames
public import proofs.«01_k».proof.Proof.Attn
public import proofs.«01_k».proof.Proof.Ffn
public import proofs.«01_k».proof.Proof.Glu
public import proofs.«01_k».proof.Proof.Merge
public import proofs.«01_k».proof.Proof.Qkv
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.GluRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts, Cert.Glu.Gen.facts, Cert.GluIdeal.Gen.facts,
  Cert.GluRefIdeal.Gen.facts, Cert.Merge.Gen.facts, Cert.MergeIdeal.Gen.facts, Cert.MergeRefIdeal.Gen.facts,
  Cert.Qkv.Gen.facts, Cert.QkvIdeal.Gen.facts, Cert.QkvRefIdeal.Gen.facts, Cert.Pre_finite_qk.facts,
  frame_kernel, frame_kernelIdeal, Cert.KernelIdeal.Attn.Val.frame_pre, frame_kernelRef, Cert.KernelIdeal.Attn.Val.frame_ref_pre,
  Cert.FfnIdeal.Ffn.frame_bits, Cert.FfnIdeal.Ffn.frame_ideal, frame_ffnRef,
  fun m ρ _ => Cert.Glu.Gen.frame m ρ, fun m ρ _ => Cert.GluIdeal.Gen.frame m ρ, frame_gluRef,
  fun m ρ _ => Cert.Merge.Gen.frame m ρ, fun m ρ _ => Cert.MergeIdeal.Gen.frame m ρ, frame_mergeRef,
  fun m ρ _ => Cert.Qkv.Gen.frame m ρ, fun m ρ _ => Cert.QkvIdeal.Gen.frame m ρ, frame_qkvRef,
  trivial, Cert.KernelIdeal.Attn.Val.algebraic, trivial, Cert.FfnIdeal.Ffn.algebraic, trivial, Cert.GluIdeal.Val.algebraic,
  trivial, Cert.MergeIdeal.Val.algebraic, trivial, Cert.QkvIdeal.Val.algebraic⟩

end Cert.Proof

end
